-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024x64 : Shape := ⟨3, ![256, 1024, 64]⟩
abbrev S_ : Shape := ⟨0, ![]⟩
abbrev S2x1x32 : Shape := ⟨3, ![2, 1, 32]⟩
abbrev S32x64 : Shape := ⟨2, ![32, 64]⟩
abbrev S32x32 : Shape := ⟨2, ![32, 32]⟩
abbrev S32 : Shape := ⟨1, ![32]⟩
abbrev S128x32 : Shape := ⟨2, ![128, 32]⟩
abbrev S128 : Shape := ⟨1, ![128]⟩
abbrev S128x128 : Shape := ⟨2, ![128, 128]⟩
abbrev S32x128 : Shape := ⟨2, ![32, 128]⟩
abbrev S1024x256x64 : Shape := ⟨3, ![1024, 256, 64]⟩
abbrev S2x32 : Shape := ⟨2, ![2, 32]⟩
abbrev S64x32 : Shape := ⟨2, ![64, 32]⟩
abbrev S1x32 : Shape := ⟨2, ![1, 32]⟩
abbrev S1x128 : Shape := ⟨2, ![1, 128]⟩
abbrev S1024x256x32 : Shape := ⟨3, ![1024, 256, 32]⟩
abbrev S64x128x64 : Shape := ⟨3, ![64, 128, 64]⟩
abbrev S64x128x32 : Shape := ⟨3, ![64, 128, 32]⟩
abbrev S8192x32 : Shape := ⟨2, ![8192, 32]⟩
abbrev S8192x64 : Shape := ⟨2, ![8192, 64]⟩
abbrev S512x32 : Shape := ⟨2, ![512, 32]⟩
abbrev S512x128 : Shape := ⟨2, ![512, 128]⟩
abbrev S4x128x32 : Shape := ⟨3, ![4, 128, 32]⟩
abbrev S1x128x32 : Shape := ⟨3, ![1, 128, 32]⟩
abbrev S256x1024x32 : Shape := ⟨3, ![256, 1024, 32]⟩

abbrev nBuf : Space → Nat
  | .hbm => 35
  | .vmem => 21
  | .smem => 0
  | _ => 0

abbrev bufTy : (tb : Table) → Fin (tcTables nBuf tb) → BufTy
  | .hbm, ⟨0, _⟩ => ⟨S256x1024x64, .f32⟩
  | .hbm, ⟨1, _⟩ => ⟨S_, .i32⟩
  | .hbm, ⟨2, _⟩ => ⟨S2x1x32, .f32⟩
  | .hbm, ⟨3, _⟩ => ⟨S32x64, .f32⟩
  | .hbm, ⟨4, _⟩ => ⟨S32x32, .f32⟩
  | .hbm, ⟨5, _⟩ => ⟨S32, .f32⟩
  | .hbm, ⟨6, _⟩ => ⟨S32, .f32⟩
  | .hbm, ⟨7, _⟩ => ⟨S32x32, .f32⟩
  | .hbm, ⟨8, _⟩ => ⟨S32x32, .f32⟩
  | .hbm, ⟨9, _⟩ => ⟨S32, .f32⟩
  | .hbm, ⟨10, _⟩ => ⟨S32, .f32⟩
  | .hbm, ⟨11, _⟩ => ⟨S128x32, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S32x128, .f32⟩
  | .hbm, ⟨16, _⟩ => ⟨S32, .f32⟩
  | .hbm, ⟨17, _⟩ => ⟨S1024x256x64, .f32⟩
  | .hbm, ⟨18, _⟩ => ⟨S2x32, .f32⟩
  | .hbm, ⟨19, _⟩ => ⟨S64x32, .f32⟩
  | .hbm, ⟨20, _⟩ => ⟨S32x32, .f32⟩
  | .hbm, ⟨21, _⟩ => ⟨S32, .f32⟩
  | .hbm, ⟨22, _⟩ => ⟨S1x32, .f32⟩
  | .hbm, ⟨23, _⟩ => ⟨S32x32, .f32⟩
  | .hbm, ⟨24, _⟩ => ⟨S32x32, .f32⟩
  | .hbm, ⟨25, _⟩ => ⟨S32, .f32⟩
  | .hbm, ⟨26, _⟩ => ⟨S1x32, .f32⟩
  | .hbm, ⟨27, _⟩ => ⟨S32x128, .f32⟩
  | .hbm, ⟨28, _⟩ => ⟨S1x128, .f32⟩
  | .hbm, ⟨29, _⟩ => ⟨S128x128, .f32⟩
  | .hbm, ⟨30, _⟩ => ⟨S1x128, .f32⟩
  | .hbm, ⟨31, _⟩ => ⟨S128x32, .f32⟩
  | .hbm, ⟨32, _⟩ => ⟨S1x32, .f32⟩
  | .hbm, ⟨33, _⟩ => ⟨S1024x256x32, .f32⟩
  | .hbm, ⟨34, _⟩ => ⟨S256x1024x32, .f32⟩
  | .local _ .vmem, ⟨0, _⟩ => ⟨S64x128x64, .f32⟩
  | .local _ .vmem, ⟨1, _⟩ => ⟨S64x128x64, .f32⟩
  | .local _ .vmem, ⟨2, _⟩ => ⟨S2x32, .f32⟩
  | .local _ .vmem, ⟨3, _⟩ => ⟨S64x32, .f32⟩
  | .local _ .vmem, ⟨4, _⟩ => ⟨S32x32, .f32⟩
  | .local _ .vmem, ⟨5, _⟩ => ⟨S1x32, .f32⟩
  | .local _ .vmem, ⟨6, _⟩ => ⟨S32x32, .f32⟩
  | .local _ .vmem, ⟨7, _⟩ => ⟨S32x32, .f32⟩
  | .local _ .vmem, ⟨8, _⟩ => ⟨S1x32, .f32⟩
  | .local _ .vmem, ⟨9, _⟩ => ⟨S32x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S128x32, .f32⟩
  | .local _ .vmem, ⟨14, _⟩ => ⟨S1x32, .f32⟩
  | .local _ .vmem, ⟨15, _⟩ => ⟨S64x128x32, .f32⟩
  | .local _ .vmem, ⟨16, _⟩ => ⟨S64x128x32, .f32⟩
  | .local _ .vmem, ⟨17, _⟩ => ⟨S128x32, .f32⟩
  | .local _ .vmem, ⟨18, _⟩ => ⟨S128x32, .f32⟩
  | .local _ .vmem, ⟨19, _⟩ => ⟨S8192x32, .f32⟩
  | .local _ .vmem, ⟨20, _⟩ => ⟨S8192x32, .f32⟩
  | _, _ => ⟨S256x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_22 : BitVec 32 := 0#32
  let c63_i32 : BitVec 32 := 63#32
  let v29 : BitVec 32 := Scalar.addi c0_i32_22 c63_i32
  let c1_i32 : BitVec 32 := 1#32
  ⟨c0_i32_22, v29, c1_i32⟩
def k0_mult1 (k0_t1 : Fin k0_t1_loop.trips) : BitVec 32 :=
  let c63_i32_50 : BitVec 32 := 63#32
  let c0_i32_22 : BitVec 32 := 0#32
  let c1_i32 : BitVec 32 := 1#32
  let arg21 : BitVec 32 := Scf.iv c0_i32_22 c1_i32 k0_t1
  let v65 : BitVec 32 := Scalar.subi c63_i32_50 arg21
  let c128_i32 : BitVec 32 := 128#32
  let v66 : BitVec 32 := Scalar.muli v65 c128_i32
  v66
def k0_off1 (k0_t1 : Fin k0_t1_loop.trips) : Fin 2 → Nat :=
  let c63_i32_50 : BitVec 32 := 63#32
  let c0_i32_22 : BitVec 32 := 0#32
  let c1_i32 : BitVec 32 := 1#32
  let arg21 : BitVec 32 := Scf.iv c0_i32_22 c1_i32 k0_t1
  let v65 : BitVec 32 := Scalar.subi c63_i32_50 arg21
  let c128_i32 : BitVec 32 := 128#32
  let v66 : BitVec 32 := Scalar.muli v65 c128_i32
  let v67 : BitVec 32 := v66
  let v68 : Index := Scalar.indexCast v67
  let c0_51 : Index := 0#32
  ![v68.toNat, 0]
def k0_mult2 (k0_t1 : Fin k0_t1_loop.trips) : BitVec 32 :=
  let c63_i32_50 : BitVec 32 := 63#32
  let c0_i32_22 : BitVec 32 := 0#32
  let c1_i32 : BitVec 32 := 1#32
  let arg21 : BitVec 32 := Scf.iv c0_i32_22 c1_i32 k0_t1
  let v65 : BitVec 32 := Scalar.subi c63_i32_50 arg21
  let c1_i32_55 : BitVec 32 := 1#32
  let v79 : BitVec 32 := Scalar.subi v65 c1_i32_55
  let c128_i32_56 : BitVec 32 := 128#32
  let v80 : BitVec 32 := Scalar.muli v79 c128_i32_56
  v80
def k0_off2 (k0_t1 : Fin k0_t1_loop.trips) : Fin 2 → Nat :=
  let c63_i32_50 : BitVec 32 := 63#32
  let c0_i32_22 : BitVec 32 := 0#32
  let c1_i32 : BitVec 32 := 1#32
  let arg21 : BitVec 32 := Scf.iv c0_i32_22 c1_i32 k0_t1
  let v65 : BitVec 32 := Scalar.subi c63_i32_50 arg21
  let c1_i32_55 : BitVec 32 := 1#32
  let v79 : BitVec 32 := Scalar.subi v65 c1_i32_55
  let c128_i32_56 : BitVec 32 := 128#32
  let v80 : BitVec 32 := Scalar.muli v79 c128_i32_56
  let v81 : BitVec 32 := v80
  let v82 : Index := Scalar.indexCast v81
  let c0_57 : Index := 0#32
  ![v82.toNat, 0]
def k0_mult3 : BitVec 32 :=
  let c0_i32_24 : BitVec 32 := 0#32
  c0_i32_24
@[reducible] def k0_t2_loop : Scf.Loop 32 :=
  let c0_i32_45 : BitVec 32 := 0#32
  let c16_i32 : BitVec 32 := 16#32
  let v61 : BitVec 32 := Scalar.addi c0_i32_45 c16_i32
  let c1_i32_46 : BitVec 32 := 1#32
  ⟨c0_i32_45, v61, c1_i32_46⟩
def k0_mult4 (k0_t2 : Fin k0_t2_loop.trips) : BitVec 32 :=
  let c0_i32_45 : BitVec 32 := 0#32
  let c1_i32_46 : BitVec 32 := 1#32
  let arg21 : BitVec 32 := Scf.iv c0_i32_45 c1_i32_46 k0_t2
  let c512_i32 : BitVec 32 := 512#32
  let v65 : BitVec 32 := Scalar.muli arg21 c512_i32
  v65
def k0_off3 (k0_t2 : Fin k0_t2_loop.trips) : Fin 2 → Nat :=
  let c0_i32_45 : BitVec 32 := 0#32
  let c1_i32_46 : BitVec 32 := 1#32
  let arg21 : BitVec 32 := Scf.iv c0_i32_45 c1_i32_46 k0_t2
  let c512_i32 : BitVec 32 := 512#32
  let v65 : BitVec 32 := Scalar.muli arg21 c512_i32
  let v66 : BitVec 32 := v65
  let v67 : Index := Scalar.indexCast v66
  let c0_50 : Index := 0#32
  ![v67.toNat, 0]
@[reducible] def k0_t3_loop : Scf.Loop 32 :=
  let c0_i32_51 : BitVec 32 := 0#32
  let c9_i32 : BitVec 32 := 9#32
  let v69 : BitVec 32 := Scalar.addi c0_i32_51 c9_i32
  let c1_i32_52 : BitVec 32 := 1#32
  ⟨c0_i32_51, v69, c1_i32_52⟩
def k0_off4 (k0_t2 : Fin k0_t2_loop.trips) : Fin 3 → Nat :=
  let c0_i32_45 : BitVec 32 := 0#32
  let c1_i32_46 : BitVec 32 := 1#32
  let arg21 : BitVec 32 := Scf.iv c0_i32_45 c1_i32_46 k0_t2
  let c4_i32 : BitVec 32 := 4#32
  let v72 : BitVec 32 := Scalar.muli arg21 c4_i32
  let v73 : Index := Scalar.indexCast v72
  let c0_53 : Index := 0#32
  let c0_54 : Index := 0#32
  ![v73.toNat, 0, 0]
def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, arg0.toNat, c0_i32.toNat]

abbrev stage0_0 : Fin 2 → Memref sig .tc .vmem S64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S64x128x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S256x1024x64 : Shape := ⟨3, ![256, 1024, 64]⟩
abbrev S_ : Shape := ⟨0, ![]⟩
abbrev S2x1x32 : Shape := ⟨3, ![2, 1, 32]⟩
abbrev S32x64 : Shape := ⟨2, ![32, 64]⟩
abbrev S32x32 : Shape := ⟨2, ![32, 32]⟩
abbrev S32 : Shape := ⟨1, ![32]⟩
abbrev S128x32 : Shape := ⟨2, ![128, 32]⟩
abbrev S128 : Shape := ⟨1, ![128]⟩
abbrev S128x128 : Shape := ⟨2, ![128, 128]⟩
abbrev S32x128 : Shape := ⟨2, ![32, 128]⟩
abbrev S2x256x32 : Shape := ⟨3, ![2, 256, 32]⟩
abbrev S1x256x32 : Shape := ⟨3, ![1, 256, 32]⟩
abbrev S256x32 : Shape := ⟨2, ![256, 32]⟩
abbrev S256x1024x32 : Shape := ⟨3, ![256, 1024, 32]⟩
abbrev S1x1x32 : Shape := ⟨3, ![1, 1, 32]⟩
abbrev S1024x256x32 : Shape := ⟨3, ![1024, 256, 32]⟩
abbrev S1x32 : Shape := ⟨2, ![1, 32]⟩
abbrev S256x1023x32 : Shape := ⟨3, ![256, 1023, 32]⟩
abbrev S256x1023x128 : Shape := ⟨3, ![256, 1023, 128]⟩
abbrev S1x1x128 : Shape := ⟨3, ![1, 1, 128]⟩
abbrev S256x1x32 : Shape := ⟨3, ![256, 1, 32]⟩

abbrev nBuf : Space → Nat
  | .hbm => 305
  | .vmem => 0
  | .smem => 0
  | _ => 0

abbrev hbmTy0_0 (i : Nat) : BufTy := match i % 128 with
  | 0 => ⟨S256x1024x64, .f32⟩
  | 1 => ⟨S_, .i32⟩
  | 2 => ⟨S2x1x32, .f32⟩
  | 3 => ⟨S32x64, .f32⟩
  | 4 => ⟨S32x32, .f32⟩
  | 5 => ⟨S32, .f32⟩
  | 6 => ⟨S32, .f32⟩
  | 7 => ⟨S32x32, .f32⟩
  | 8 => ⟨S32x32, .f32⟩
  | 9 => ⟨S32, .f32⟩
  | 10 => ⟨S32, .f32⟩
  | 11 => ⟨S128x32, .f32⟩
  | 12 => ⟨S128, .f32⟩
  | 13 => ⟨S128x128, .f32⟩
  | 14 => ⟨S128, .f32⟩
  | 15 => ⟨S32x128, .f32⟩
  | 16 => ⟨S32, .f32⟩
  | 17 => ⟨S256x1024x64, .f32⟩
  | 18 => ⟨S2x256x32, .f32⟩
  | 19 => ⟨S1x256x32, .f32⟩
  | 20 => ⟨S256x32, .f32⟩
  | 21 => ⟨S256x1024x32, .f32⟩
  | 22 => ⟨S1x1x32, .f32⟩
  | 23 => ⟨S256x1024x32, .f32⟩
  | 24 => ⟨S256x1024x32, .f32⟩
  | 25 => ⟨S1024x256x32, .f32⟩
  | 26 => ⟨S_, .f32⟩
  | 27 => ⟨S1024x256x32, .f32⟩
  | 28 => ⟨S_, .i32⟩
  | 29 => ⟨S1024x256x32, .f32⟩
  | 30 => ⟨S32x32, .f32⟩
  | 31 => ⟨S32, .f32⟩
  | 32 => ⟨S_, .i32⟩
  | 33 => ⟨S256x32, .f32⟩
  | 34 => ⟨S1024x256x32, .f32⟩
  | 35 => ⟨S_, .i32⟩
  | 36 => ⟨S_, .i1⟩
  | 37 => ⟨S_, .i32⟩
  | 38 => ⟨S_, .i32⟩
  | 39 => ⟨S1x256x32, .f32⟩
  | 40 => ⟨S256x32, .f32⟩
  | 41 => ⟨S32x32, .f32⟩
  | 42 => ⟨S256x32, .f32⟩
  | 43 => ⟨S256x32, .f32⟩
  | 44 => ⟨S1x32, .f32⟩
  | 45 => ⟨S256x32, .f32⟩
  | 46 => ⟨S256x32, .f32⟩
  | 47 => ⟨S256x32, .f32⟩
  | 48 => ⟨S1x256x32, .f32⟩
  | 49 => ⟨S_, .i32⟩
  | 50 => ⟨S_, .i32⟩
  | 51 => ⟨S1024x256x32, .f32⟩
  | 52 => ⟨S_, .i32⟩
  | 53 => ⟨S_, .i32⟩
  | 54 => ⟨S256x1024x32, .f32⟩
  | 55 => ⟨S1x256x32, .f32⟩
  | 56 => ⟨S256x32, .f32⟩
  | 57 => ⟨S256x1024x32, .f32⟩
  | 58 => ⟨S1x1x32, .f32⟩
  | 59 => ⟨S256x1024x32, .f32⟩
  | 60 => ⟨S256x1024x32, .f32⟩
  | 61 => ⟨S1024x256x32, .f32⟩
  | 62 => ⟨S_, .f32⟩
  | 63 => ⟨S1024x256x32, .f32⟩
  | 64 => ⟨S_, .i32⟩
  | 65 => ⟨S1024x256x32, .f32⟩
  | 66 => ⟨S32x32, .f32⟩
  | 67 => ⟨S32, .f32⟩
  | 68 => ⟨S_, .i32⟩
  | 69 => ⟨S256x32, .f32⟩
  | 70 => ⟨S1024x256x32, .f32⟩
  | 71 => ⟨S_, .i32⟩
  | 72 => ⟨S_, .i1⟩
  | 73 => ⟨S_, .i32⟩
  | 74 => ⟨S_, .i32⟩
  | 75 => ⟨S1x256x32, .f32⟩
  | 76 => ⟨S256x32, .f32⟩
  | 77 => ⟨S32x32, .f32⟩
  | 78 => ⟨S256x32, .f32⟩
  | 79 => ⟨S256x32, .f32⟩
  | 80 => ⟨S1x32, .f32⟩
  | 81 => ⟨S256x32, .f32⟩
  | 82 => ⟨S256x32, .f32⟩
  | 83 => ⟨S256x32, .f32⟩
  | 84 => ⟨S1x256x32, .f32⟩
  | 85 => ⟨S_, .i32⟩
  | 86 => ⟨S_, .i32⟩
  | 87 => ⟨S1024x256x32, .f32⟩
  | 88 => ⟨S_, .i32⟩
  | 89 => ⟨S_, .i32⟩
  | 90 => ⟨S256x1024x32, .f32⟩
  | 91 => ⟨S256x1024x32, .f32⟩
  | 92 => ⟨S256x1023x32, .f32⟩
  | 93 => ⟨S_, .i32⟩
  | 94 => ⟨S128x32, .f32⟩
  | 95 => ⟨S128, .f32⟩
  | 96 => ⟨S128x128, .f32⟩
  | 97 => ⟨S128, .f32⟩
  | 98 => ⟨S32x128, .f32⟩
  | 99 => ⟨S32, .f32⟩
  | 100 => ⟨S_, .i32⟩
  | 101 => ⟨S256x1023x32, .f32⟩
  | 102 => ⟨S_, .i32⟩
  | 103 => ⟨S_, .i1⟩
  | 104 => ⟨S32x128, .f32⟩
  | 105 => ⟨S256x1023x128, .f32⟩
  | 106 => ⟨S1x1x128, .f32⟩
  | 107 => ⟨S256x1023x128, .f32⟩
  | 108 => ⟨S256x1023x128, .f32⟩
  | 109 => ⟨S_, .f32⟩
  | 110 => ⟨S256x1023x128, .f32⟩
  | 111 => ⟨S256x1023x128, .f32⟩
  | 112 => ⟨S256x1023x128, .f32⟩
  | 113 => ⟨S256x1023x128, .f32⟩
  | 114 => ⟨S256x1023x128, .i1⟩
  | 115 => ⟨S256x1023x128, .f32⟩
  | 116 => ⟨S256x1023x128, .f32⟩
  | 117 => ⟨S256x1023x128, .f32⟩
  | 118 => ⟨S256x1023x128, .f32⟩
  | 119 => ⟨S256x1023x128, .f32⟩
  | 120 => ⟨S256x1023x128, .f32⟩
  | 121 => ⟨S256x1023x128, .f32⟩
  | 122 => ⟨S256x1023x128, .f32⟩
  | 123 => ⟨S128x128, .f32⟩
  | 124 => ⟨S256x1023x128, .f32⟩
  | 125 => ⟨S1x1x128, .f32⟩
  | 126 => ⟨S256x1023x128, .f32⟩
  | 127 => ⟨S256x1023x128, .f32⟩
  | _ => ⟨S256x1024x64, .f32⟩

abbrev hbmTy0_1 (i : Nat) : BufTy := match i % 128 with
  | 0 => ⟨S_, .f32⟩
  | 1 => ⟨S256x1023x128, .f32⟩
  | 2 => ⟨S256x1023x128, .f32⟩
  | 3 => ⟨S256x1023x128, .f32⟩
  | 4 => ⟨S256x1023x128, .f32⟩
  | 5 => ⟨S256x1023x128, .i1⟩
  | 6 => ⟨S256x1023x128, .f32⟩
  | 7 => ⟨S256x1023x128, .f32⟩
  | 8 => ⟨S256x1023x128, .f32⟩
  | 9 => ⟨S256x1023x128, .f32⟩
  | 10 => ⟨S256x1023x128, .f32⟩
  | 11 => ⟨S256x1023x128, .f32⟩
  | 12 => ⟨S256x1023x128, .f32⟩
  | 13 => ⟨S256x1023x128, .f32⟩
  | 14 => ⟨S128x32, .f32⟩
  | 15 => ⟨S256x1023x32, .f32⟩
  | 16 => ⟨S1x1x32, .f32⟩
  | 17 => ⟨S256x1023x32, .f32⟩
  | 18 => ⟨S256x1023x32, .f32⟩
  | 19 => ⟨S_, .f32⟩
  | 20 => ⟨S256x1023x32, .f32⟩
  | 21 => ⟨S256x1023x32, .f32⟩
  | 22 => ⟨S256x1023x32, .f32⟩
  | 23 => ⟨S32x128, .f32⟩
  | 24 => ⟨S256x1023x128, .f32⟩
  | 25 => ⟨S1x1x128, .f32⟩
  | 26 => ⟨S256x1023x128, .f32⟩
  | 27 => ⟨S256x1023x128, .f32⟩
  | 28 => ⟨S_, .f32⟩
  | 29 => ⟨S256x1023x128, .f32⟩
  | 30 => ⟨S256x1023x128, .f32⟩
  | 31 => ⟨S256x1023x128, .f32⟩
  | 32 => ⟨S256x1023x128, .f32⟩
  | 33 => ⟨S256x1023x128, .i1⟩
  | 34 => ⟨S256x1023x128, .f32⟩
  | 35 => ⟨S256x1023x128, .f32⟩
  | 36 => ⟨S256x1023x128, .f32⟩
  | 37 => ⟨S256x1023x128, .f32⟩
  | 38 => ⟨S256x1023x128, .f32⟩
  | 39 => ⟨S256x1023x128, .f32⟩
  | 40 => ⟨S256x1023x128, .f32⟩
  | 41 => ⟨S256x1023x128, .f32⟩
  | 42 => ⟨S128x128, .f32⟩
  | 43 => ⟨S256x1023x128, .f32⟩
  | 44 => ⟨S1x1x128, .f32⟩
  | 45 => ⟨S256x1023x128, .f32⟩
  | 46 => ⟨S256x1023x128, .f32⟩
  | 47 => ⟨S_, .f32⟩
  | 48 => ⟨S256x1023x128, .f32⟩
  | 49 => ⟨S256x1023x128, .f32⟩
  | 50 => ⟨S256x1023x128, .f32⟩
  | 51 => ⟨S256x1023x128, .f32⟩
  | 52 => ⟨S256x1023x128, .i1⟩
  | 53 => ⟨S256x1023x128, .f32⟩
  | 54 => ⟨S256x1023x128, .f32⟩
  | 55 => ⟨S256x1023x128, .f32⟩
  | 56 => ⟨S256x1023x128, .f32⟩
  | 57 => ⟨S256x1023x128, .f32⟩
  | 58 => ⟨S256x1023x128, .f32⟩
  | 59 => ⟨S256x1023x128, .f32⟩
  | 60 => ⟨S256x1023x128, .f32⟩
  | 61 => ⟨S128x32, .f32⟩
  | 62 => ⟨S256x1023x32, .f32⟩
  | 63 => ⟨S1x1x32, .f32⟩
  | 64 => ⟨S256x1023x32, .f32⟩
  | 65 => ⟨S256x1023x32, .f32⟩
  | 66 => ⟨S_, .f32⟩
  | 67 => ⟨S256x1023x32, .f32⟩
  | 68 => ⟨S256x1023x32, .f32⟩
  | 69 => ⟨S256x1023x32, .f32⟩
  | 70 => ⟨S32x128, .f32⟩
  | 71 => ⟨S256x1023x128, .f32⟩
  | 72 => ⟨S1x1x128, .f32⟩
  | 73 => ⟨S256x1023x128, .f32⟩
  | 74 => ⟨S256x1023x128, .f32⟩
  | 75 => ⟨S_, .f32⟩
  | 76 => ⟨S256x1023x128, .f32⟩
  | 77 => ⟨S256x1023x128, .f32⟩
  | 78 => ⟨S256x1023x128, .f32⟩
  | 79 => ⟨S256x1023x128, .f32⟩
  | 80 => ⟨S256x1023x128, .i1⟩
  | 81 => ⟨S256x1023x128, .f32⟩
  | 82 => ⟨S256x1023x128, .f32⟩
  | 83 => ⟨S256x1023x128, .f32⟩
  | 84 => ⟨S256x1023x128, .f32⟩
  | 85 => ⟨S256x1023x128, .f32⟩
  | 86 => ⟨S256x1023x128, .f32⟩
  | 87 => ⟨S256x1023x128, .f32⟩
  | 88 => ⟨S256x1023x128, .f32⟩
  | 89 => ⟨S128x128, .f32⟩
  | 90 => ⟨S256x1023x128, .f32⟩
  | 91 => ⟨S1x1x128, .f32⟩
  | 92 => ⟨S256x1023x128, .f32⟩
  | 93 => ⟨S256x1023x128, .f32⟩
  | 94 => ⟨S_, .f32⟩
  | 95 => ⟨S256x1023x128, .f32⟩
  | 96 => ⟨S256x1023x128, .f32⟩
  | 97 => ⟨S256x1023x128, .f32⟩
  | 98 => ⟨S256x1023x128, .f32⟩
  | 99 => ⟨S256x1023x128, .i1⟩
  | 100 => ⟨S256x1023x128, .f32⟩
  | 101 => ⟨S256x1023x128, .f32⟩
  | 102 => ⟨S256x1023x128, .f32⟩
  | 103 => ⟨S256x1023x128, .f32⟩
  | 104 => ⟨S256x1023x128, .f32⟩
  | 105 => ⟨S256x1023x128, .f32⟩
  | 106 => ⟨S256x1023x128, .f32⟩
  | 107 => ⟨S256x1023x128, .f32⟩
  | 108 => ⟨S128x32, .f32⟩
  | 109 => ⟨S256x1023x32, .f32⟩
  | 110 => ⟨S1x1x32, .f32⟩
  | 111 => ⟨S256x1023x32, .f32⟩
  | 112 => ⟨S256x1023x32, .f32⟩
  | 113 => ⟨S_, .f32⟩
  | 114 => ⟨S256x1023x32, .f32⟩
  | 115 => ⟨S256x1023x32, .f32⟩
  | 116 => ⟨S256x1023x32, .f32⟩
  | 117 => ⟨S32x128, .f32⟩
  | 118 => ⟨S256x1023x128, .f32⟩
  | 119 => ⟨S1x1x128, .f32⟩
  | 120 => ⟨S256x1023x128, .f32⟩
  | 121 => ⟨S256x1023x128, .f32⟩
  | 122 => ⟨S_, .f32⟩
  | 123 => ⟨S256x1023x128, .f32⟩
  | 124 => ⟨S256x1023x128, .f32⟩
  | 125 => ⟨S256x1023x128, .f32⟩
  | 126 => ⟨S256x1023x128, .f32⟩
  | 127 => ⟨S256x1023x128, .i1⟩
  | _ => ⟨S256x1024x64, .f32⟩

abbrev hbmTy0_2 (i : Nat) : BufTy := match i % 128 with
  | 0 => ⟨S256x1023x128, .f32⟩
  | 1 => ⟨S256x1023x128, .f32⟩
  | 2 => ⟨S256x1023x128, .f32⟩
  | 3 => ⟨S256x1023x128, .f32⟩
  | 4 => ⟨S256x1023x128, .f32⟩
  | 5 => ⟨S256x1023x128, .f32⟩
  | 6 => ⟨S256x1023x128, .f32⟩
  | 7 => ⟨S256x1023x128, .f32⟩
  | 8 => ⟨S128x128, .f32⟩
  | 9 => ⟨S256x1023x128, .f32⟩
  | 10 => ⟨S1x1x128, .f32⟩
  | 11 => ⟨S256x1023x128, .f32⟩
  | 12 => ⟨S256x1023x128, .f32⟩
  | 13 => ⟨S_, .f32⟩
  | 14 => ⟨S256x1023x128, .f32⟩
  | 15 => ⟨S256x1023x128, .f32⟩
  | 16 => ⟨S256x1023x128, .f32⟩
  | 17 => ⟨S256x1023x128, .f32⟩
  | 18 => ⟨S256x1023x128, .i1⟩
  | 19 => ⟨S256x1023x128, .f32⟩
  | 20 => ⟨S256x1023x128, .f32⟩
  | 21 => ⟨S256x1023x128, .f32⟩
  | 22 => ⟨S256x1023x128, .f32⟩
  | 23 => ⟨S256x1023x128, .f32⟩
  | 24 => ⟨S256x1023x128, .f32⟩
  | 25 => ⟨S256x1023x128, .f32⟩
  | 26 => ⟨S256x1023x128, .f32⟩
  | 27 => ⟨S128x32, .f32⟩
  | 28 => ⟨S256x1023x32, .f32⟩
  | 29 => ⟨S1x1x32, .f32⟩
  | 30 => ⟨S256x1023x32, .f32⟩
  | 31 => ⟨S256x1023x32, .f32⟩
  | 32 => ⟨S_, .f32⟩
  | 33 => ⟨S256x1023x32, .f32⟩
  | 34 => ⟨S256x1023x32, .f32⟩
  | 35 => ⟨S256x1023x32, .f32⟩
  | 36 => ⟨S_, .f32⟩
  | 37 => ⟨S256x1023x32, .f32⟩
  | 38 => ⟨S256x1023x32, .f32⟩
  | 39 => ⟨S256x1023x32, .f32⟩
  | 40 => ⟨S256x1023x32, .f32⟩
  | 41 => ⟨S_, .f32⟩
  | 42 => ⟨S256x1023x32, .f32⟩
  | 43 => ⟨S256x1023x32, .f32⟩
  | 44 => ⟨S256x1023x32, .f32⟩
  | 45 => ⟨S_, .i32⟩
  | 46 => ⟨S_, .i32⟩
  | 47 => ⟨S256x1x32, .f32⟩
  | 48 => ⟨S256x1024x32, .f32⟩
  | _ => ⟨S256x1024x64, .f32⟩

abbrev hbmTy (i : Nat) : BufTy := match i / 128 with
  | 0 => hbmTy0_0 i
  | 1 => hbmTy0_1 i
  | 2 => hbmTy0_2 i
  | _ => ⟨S256x1024x64, .f32⟩

abbrev bufTy : (tb : Table) → Fin (tcTables nBuf tb) → BufTy
  | .hbm, ⟨i, _⟩ => hbmTy i
  | _, _ => ⟨S256x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_c : Ref sig .tc := ⟨.hbm, 28, rfl⟩
abbrev main_v10_0 : Ref sig .tc := ⟨.hbm, 29, rfl⟩
abbrev main_v10_1 : Ref sig .tc := ⟨.hbm, 30, rfl⟩
abbrev main_v10_2 : Ref sig .tc := ⟨.hbm, 31, rfl⟩
abbrev main_v10_3 : Ref sig .tc := ⟨.hbm, 32, rfl⟩
abbrev main_v10_4 : Ref sig .tc := ⟨.hbm, 33, rfl⟩
abbrev main_v10_5 : Ref sig .tc := ⟨.hbm, 34, rfl⟩
abbrev main_while0c_c_8 : Ref sig .tc := ⟨.hbm, 35, rfl⟩
abbrev main_while0c_v27 : Ref sig .tc := ⟨.hbm, 36, rfl⟩
abbrev main_while0b_call1_c : Ref sig .tc := ⟨.hbm, 37, rfl⟩
abbrev main_while0b_call1_c_0 : Ref sig .tc := ⟨.hbm, 38, rfl⟩
abbrev main_while0b_call1_v0 : Ref sig .tc := ⟨.hbm, 39, rfl⟩
abbrev main_while0b_v27 : Ref sig .tc := ⟨.hbm, 40, rfl⟩
abbrev main_while0b_v28 : Ref sig .tc := ⟨.hbm, 41, rfl⟩
abbrev main_while0b_v29 : Ref sig .tc := ⟨.hbm, 42, rfl⟩
abbrev main_while0b_v30 : Ref sig .tc := ⟨.hbm, 43, rfl⟩
abbrev main_while0b_v31 : Ref sig .tc := ⟨.hbm, 44, rfl⟩
abbrev main_while0b_v32 : Ref sig .tc := ⟨.hbm, 45, rfl⟩
abbrev main_while0b_v33 : Ref sig .tc := ⟨.hbm, 46, rfl⟩
abbrev main_while0b_v34 : Ref sig .tc := ⟨.hbm, 47, rfl⟩
abbrev main_while0b_call2_v0 : Ref sig .tc := ⟨.hbm, 48, rfl⟩
abbrev main_while0b_call2_c : Ref sig .tc := ⟨.hbm, 49, rfl⟩
abbrev main_while0b_call2_c_0 : Ref sig .tc := ⟨.hbm, 50, rfl⟩
abbrev main_while0b_v35 : Ref sig .tc := ⟨.hbm, 51, rfl⟩
abbrev main_while0b_c_8 : Ref sig .tc := ⟨.hbm, 52, rfl⟩
abbrev main_while0b_v36 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_0 : Ref sig .tc := ⟨.hbm, 62, rfl⟩
abbrev main_v19 : Ref sig .tc := ⟨.hbm, 63, rfl⟩
abbrev main_c_1 : Ref sig .tc := ⟨.hbm, 64, rfl⟩
abbrev main_v20_0 : Ref sig .tc := ⟨.hbm, 65, rfl⟩
abbrev main_v20_1 : Ref sig .tc := ⟨.hbm, 66, rfl⟩
abbrev main_v20_2 : Ref sig .tc := ⟨.hbm, 67, rfl⟩
abbrev main_v20_3 : Ref sig .tc := ⟨.hbm, 68, rfl⟩
abbrev main_v20_4 : Ref sig .tc := ⟨.hbm, 69, rfl⟩
abbrev main_v20_5 : Ref sig .tc := ⟨.hbm, 70, rfl⟩
abbrev main_while1c_c_8 : Ref sig .tc := ⟨.hbm, 71, rfl⟩
abbrev main_while1c_v27 : Ref sig .tc := ⟨.hbm, 72, rfl⟩
abbrev main_while1b_call3_c : Ref sig .tc := ⟨.hbm, 73, rfl⟩
abbrev main_while1b_call3_c_0 : Ref sig .tc := ⟨.hbm, 74, rfl⟩
abbrev main_while1b_call3_v0 : Ref sig .tc := ⟨.hbm, 75, rfl⟩
abbrev main_while1b_v27 : Ref sig .tc := ⟨.hbm, 76, rfl⟩
abbrev main_while1b_v28 : Ref sig .tc := ⟨.hbm, 77, rfl⟩
abbrev main_while1b_v29 : Ref sig .tc := ⟨.hbm, 78, rfl⟩
abbrev main_while1b_v30 : Ref sig .tc := ⟨.hbm, 79, rfl⟩
abbrev main_while1b_v31 : Ref sig .tc := ⟨.hbm, 80, rfl⟩
abbrev main_while1b_v32 : Ref sig .tc := ⟨.hbm, 81, rfl⟩
abbrev main_while1b_v33 : Ref sig .tc := ⟨.hbm, 82, rfl⟩
abbrev main_while1b_v34 : Ref sig .tc := ⟨.hbm, 83, rfl⟩
abbrev main_while1b_call4_v0 : Ref sig .tc := ⟨.hbm, 84, rfl⟩
abbrev main_while1b_call4_c : Ref sig .tc := ⟨.hbm, 85, rfl⟩
abbrev main_while1b_call4_c_0 : Ref sig .tc := ⟨.hbm, 86, rfl⟩
abbrev main_while1b_v35 : Ref sig .tc := ⟨.hbm, 87, rfl⟩
abbrev main_while1b_c_8 : Ref sig .tc := ⟨.hbm, 88, rfl⟩
abbrev main_while1b_v36 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_c_2 : Ref sig .tc := ⟨.hbm, 93, rfl⟩
abbrev main_v24_0 : Ref sig .tc := ⟨.hbm, 94, rfl⟩
abbrev main_v24_1 : Ref sig .tc := ⟨.hbm, 95, rfl⟩
abbrev main_v24_2 : Ref sig .tc := ⟨.hbm, 96, rfl⟩
abbrev main_v24_3 : Ref sig .tc := ⟨.hbm, 97, rfl⟩
abbrev main_v24_4 : Ref sig .tc := ⟨.hbm, 98, rfl⟩
abbrev main_v24_5 : Ref sig .tc := ⟨.hbm, 99, rfl⟩
abbrev main_v24_6 : Ref sig .tc := ⟨.hbm, 100, rfl⟩
abbrev main_v24_7 : Ref sig .tc := ⟨.hbm, 101, rfl⟩
abbrev main_while2c_c_10 : Ref sig .tc := ⟨.hbm, 102, rfl⟩
abbrev main_while2c_v27 : Ref sig .tc := ⟨.hbm, 103, rfl⟩
abbrev main_while2b_v27 : Ref sig .tc := ⟨.hbm, 104, rfl⟩
abbrev main_while2b_v28 : Ref sig .tc := ⟨.hbm, 105, rfl⟩
abbrev main_while2b_v29 : Ref sig .tc := ⟨.hbm, 106, rfl⟩
abbrev main_while2b_v30 : Ref sig .tc := ⟨.hbm, 107, rfl⟩
abbrev main_while2b_v31 : Ref sig .tc := ⟨.hbm, 108, rfl⟩
abbrev main_while2b_call6_cst : Ref sig .tc := ⟨.hbm, 109, rfl⟩
abbrev main_while2b_call6_v0 : Ref sig .tc := ⟨.hbm, 110, rfl⟩
abbrev main_while2b_call6_v1 : Ref sig .tc := ⟨.hbm, 111, rfl⟩
abbrev main_while2b_call6_v2 : Ref sig .tc := ⟨.hbm, 112, rfl⟩
abbrev main_while2b_call6_v3 : Ref sig .tc := ⟨.hbm, 113, rfl⟩
abbrev main_while2b_call6_v4 : Ref sig .tc := ⟨.hbm, 114, rfl⟩
abbrev main_while2b_call6_v5 : Ref sig .tc := ⟨.hbm, 115, rfl⟩
abbrev main_while2b_call6_v6 : Ref sig .tc := ⟨.hbm, 116, rfl⟩
abbrev main_while2b_call6_v7 : Ref sig .tc := ⟨.hbm, 117, rfl⟩
abbrev main_while2b_call6_v8 : Ref sig .tc := ⟨.hbm, 118, rfl⟩
abbrev main_while2b_call6_v9 : Ref sig .tc := ⟨.hbm, 119, rfl⟩
abbrev main_while2b_call6_v10 : Ref sig .tc := ⟨.hbm, 120, rfl⟩
abbrev main_while2b_call6_v11 : Ref sig .tc := ⟨.hbm, 121, rfl⟩
abbrev main_while2b_v32 : Ref sig .tc := ⟨.hbm, 122, rfl⟩
abbrev main_while2b_v33 : Ref sig .tc := ⟨.hbm, 123, rfl⟩
abbrev main_while2b_v34 : Ref sig .tc := ⟨.hbm, 124, rfl⟩
abbrev main_while2b_v35 : Ref sig .tc := ⟨.hbm, 125, rfl⟩
abbrev main_while2b_v36 : Ref sig .tc := ⟨.hbm, 126, rfl⟩
abbrev main_while2b_v37 : Ref sig .tc := ⟨.hbm, 127, rfl⟩
abbrev main_while2b_call7_cst : Ref sig .tc := ⟨.hbm, 128, rfl⟩
abbrev main_while2b_call7_v0 : Ref sig .tc := ⟨.hbm, 129, rfl⟩
abbrev main_while2b_call7_v1 : Ref sig .tc := ⟨.hbm, 130, rfl⟩
abbrev main_while2b_call7_v2 : Ref sig .tc := ⟨.hbm, 131, rfl⟩
abbrev main_while2b_call7_v3 : Ref sig .tc := ⟨.hbm, 132, rfl⟩
abbrev main_while2b_call7_v4 : Ref sig .tc := ⟨.hbm, 133, rfl⟩
abbrev main_while2b_call7_v5 : Ref sig .tc := ⟨.hbm, 134, rfl⟩
abbrev main_while2b_call7_v6 : Ref sig .tc := ⟨.hbm, 135, rfl⟩
abbrev main_while2b_call7_v7 : Ref sig .tc := ⟨.hbm, 136, rfl⟩
abbrev main_while2b_call7_v8 : Ref sig .tc := ⟨.hbm, 137, rfl⟩
abbrev main_while2b_call7_v9 : Ref sig .tc := ⟨.hbm, 138, rfl⟩
abbrev main_while2b_call7_v10 : Ref sig .tc := ⟨.hbm, 139, rfl⟩
abbrev main_while2b_call7_v11 : Ref sig .tc := ⟨.hbm, 140, rfl⟩
abbrev main_while2b_v38 : Ref sig .tc := ⟨.hbm, 141, rfl⟩
abbrev main_while2b_v39 : Ref sig .tc := ⟨.hbm, 142, rfl⟩
abbrev main_while2b_v40 : Ref sig .tc := ⟨.hbm, 143, rfl⟩
abbrev main_while2b_v41 : Ref sig .tc := ⟨.hbm, 144, rfl⟩
abbrev main_while2b_v42 : Ref sig .tc := ⟨.hbm, 145, rfl⟩
abbrev main_while2b_v43 : Ref sig .tc := ⟨.hbm, 146, rfl⟩
abbrev main_while2b_cst_10 : Ref sig .tc := ⟨.hbm, 147, rfl⟩
abbrev main_while2b_v44 : Ref sig .tc := ⟨.hbm, 148, rfl⟩
abbrev main_while2b_v45 : Ref sig .tc := ⟨.hbm, 149, rfl⟩
abbrev main_while2b_v46 : Ref sig .tc := ⟨.hbm, 150, rfl⟩
abbrev main_while2b_v47 : Ref sig .tc := ⟨.hbm, 151, rfl⟩
abbrev main_while2b_v48 : Ref sig .tc := ⟨.hbm, 152, rfl⟩
abbrev main_while2b_v49 : Ref sig .tc := ⟨.hbm, 153, rfl⟩
abbrev main_while2b_v50 : Ref sig .tc := ⟨.hbm, 154, rfl⟩
abbrev main_while2b_v51 : Ref sig .tc := ⟨.hbm, 155, rfl⟩
abbrev main_while2b_call8_cst : Ref sig .tc := ⟨.hbm, 156, rfl⟩
abbrev main_while2b_call8_v0 : Ref sig .tc := ⟨.hbm, 157, rfl⟩
abbrev main_while2b_call8_v1 : Ref sig .tc := ⟨.hbm, 158, rfl⟩
abbrev main_while2b_call8_v2 : Ref sig .tc := ⟨.hbm, 159, rfl⟩
abbrev main_while2b_call8_v3 : Ref sig .tc := ⟨.hbm, 160, rfl⟩
abbrev main_while2b_call8_v4 : Ref sig .tc := ⟨.hbm, 161, rfl⟩
abbrev main_while2b_call8_v5 : Ref sig .tc := ⟨.hbm, 162, rfl⟩
abbrev main_while2b_call8_v6 : Ref sig .tc := ⟨.hbm, 163, rfl⟩
abbrev main_while2b_call8_v7 : Ref sig .tc := ⟨.hbm, 164, rfl⟩
abbrev main_while2b_call8_v8 : Ref sig .tc := ⟨.hbm, 165, rfl⟩
abbrev main_while2b_call8_v9 : Ref sig .tc := ⟨.hbm, 166, rfl⟩
abbrev main_while2b_call8_v10 : Ref sig .tc := ⟨.hbm, 167, rfl⟩
abbrev main_while2b_call8_v11 : Ref sig .tc := ⟨.hbm, 168, rfl⟩
abbrev main_while2b_v52 : Ref sig .tc := ⟨.hbm, 169, rfl⟩
abbrev main_while2b_v53 : Ref sig .tc := ⟨.hbm, 170, rfl⟩
abbrev main_while2b_v54 : Ref sig .tc := ⟨.hbm, 171, rfl⟩
abbrev main_while2b_v55 : Ref sig .tc := ⟨.hbm, 172, rfl⟩
abbrev main_while2b_v56 : Ref sig .tc := ⟨.hbm, 173, rfl⟩
abbrev main_while2b_v57 : Ref sig .tc := ⟨.hbm, 174, rfl⟩
abbrev main_while2b_call9_cst : Ref sig .tc := ⟨.hbm, 175, rfl⟩
abbrev main_while2b_call9_v0 : Ref sig .tc := ⟨.hbm, 176, rfl⟩
abbrev main_while2b_call9_v1 : Ref sig .tc := ⟨.hbm, 177, rfl⟩
abbrev main_while2b_call9_v2 : Ref sig .tc := ⟨.hbm, 178, rfl⟩
abbrev main_while2b_call9_v3 : Ref sig .tc := ⟨.hbm, 179, rfl⟩
abbrev main_while2b_call9_v4 : Ref sig .tc := ⟨.hbm, 180, rfl⟩
abbrev main_while2b_call9_v5 : Ref sig .tc := ⟨.hbm, 181, rfl⟩
abbrev main_while2b_call9_v6 : Ref sig .tc := ⟨.hbm, 182, rfl⟩
abbrev main_while2b_call9_v7 : Ref sig .tc := ⟨.hbm, 183, rfl⟩
abbrev main_while2b_call9_v8 : Ref sig .tc := ⟨.hbm, 184, rfl⟩
abbrev main_while2b_call9_v9 : Ref sig .tc := ⟨.hbm, 185, rfl⟩
abbrev main_while2b_call9_v10 : Ref sig .tc := ⟨.hbm, 186, rfl⟩
abbrev main_while2b_call9_v11 : Ref sig .tc := ⟨.hbm, 187, rfl⟩
abbrev main_while2b_v58 : Ref sig .tc := ⟨.hbm, 188, rfl⟩
abbrev main_while2b_v59 : Ref sig .tc := ⟨.hbm, 189, rfl⟩
abbrev main_while2b_v60 : Ref sig .tc := ⟨.hbm, 190, rfl⟩
abbrev main_while2b_v61 : Ref sig .tc := ⟨.hbm, 191, rfl⟩
abbrev main_while2b_v62 : Ref sig .tc := ⟨.hbm, 192, rfl⟩
abbrev main_while2b_v63 : Ref sig .tc := ⟨.hbm, 193, rfl⟩
abbrev main_while2b_cst_11 : Ref sig .tc := ⟨.hbm, 194, rfl⟩
abbrev main_while2b_v64 : Ref sig .tc := ⟨.hbm, 195, rfl⟩
abbrev main_while2b_v65 : Ref sig .tc := ⟨.hbm, 196, rfl⟩
abbrev main_while2b_v66 : Ref sig .tc := ⟨.hbm, 197, rfl⟩
abbrev main_while2b_v67 : Ref sig .tc := ⟨.hbm, 198, rfl⟩
abbrev main_while2b_v68 : Ref sig .tc := ⟨.hbm, 199, rfl⟩
abbrev main_while2b_v69 : Ref sig .tc := ⟨.hbm, 200, rfl⟩
abbrev main_while2b_v70 : Ref sig .tc := ⟨.hbm, 201, rfl⟩
abbrev main_while2b_v71 : Ref sig .tc := ⟨.hbm, 202, rfl⟩
abbrev main_while2b_call10_cst : Ref sig .tc := ⟨.hbm, 203, rfl⟩
abbrev main_while2b_call10_v0 : Ref sig .tc := ⟨.hbm, 204, rfl⟩
abbrev main_while2b_call10_v1 : Ref sig .tc := ⟨.hbm, 205, rfl⟩
abbrev main_while2b_call10_v2 : Ref sig .tc := ⟨.hbm, 206, rfl⟩
abbrev main_while2b_call10_v3 : Ref sig .tc := ⟨.hbm, 207, rfl⟩
abbrev main_while2b_call10_v4 : Ref sig .tc := ⟨.hbm, 208, rfl⟩
abbrev main_while2b_call10_v5 : Ref sig .tc := ⟨.hbm, 209, rfl⟩
abbrev main_while2b_call10_v6 : Ref sig .tc := ⟨.hbm, 210, rfl⟩
abbrev main_while2b_call10_v7 : Ref sig .tc := ⟨.hbm, 211, rfl⟩
abbrev main_while2b_call10_v8 : Ref sig .tc := ⟨.hbm, 212, rfl⟩
abbrev main_while2b_call10_v9 : Ref sig .tc := ⟨.hbm, 213, rfl⟩
abbrev main_while2b_call10_v10 : Ref sig .tc := ⟨.hbm, 214, rfl⟩
abbrev main_while2b_call10_v11 : Ref sig .tc := ⟨.hbm, 215, rfl⟩
abbrev main_while2b_v72 : Ref sig .tc := ⟨.hbm, 216, rfl⟩
abbrev main_while2b_v73 : Ref sig .tc := ⟨.hbm, 217, rfl⟩
abbrev main_while2b_v74 : Ref sig .tc := ⟨.hbm, 218, rfl⟩
abbrev main_while2b_v75 : Ref sig .tc := ⟨.hbm, 219, rfl⟩
abbrev main_while2b_v76 : Ref sig .tc := ⟨.hbm, 220, rfl⟩
abbrev main_while2b_v77 : Ref sig .tc := ⟨.hbm, 221, rfl⟩
abbrev main_while2b_call11_cst : Ref sig .tc := ⟨.hbm, 222, rfl⟩
abbrev main_while2b_call11_v0 : Ref sig .tc := ⟨.hbm, 223, rfl⟩
abbrev main_while2b_call11_v1 : Ref sig .tc := ⟨.hbm, 224, rfl⟩
abbrev main_while2b_call11_v2 : Ref sig .tc := ⟨.hbm, 225, rfl⟩
abbrev main_while2b_call11_v3 : Ref sig .tc := ⟨.hbm, 226, rfl⟩
abbrev main_while2b_call11_v4 : Ref sig .tc := ⟨.hbm, 227, rfl⟩
abbrev main_while2b_call11_v5 : Ref sig .tc := ⟨.hbm, 228, rfl⟩
abbrev main_while2b_call11_v6 : Ref sig .tc := ⟨.hbm, 229, rfl⟩
abbrev main_while2b_call11_v7 : Ref sig .tc := ⟨.hbm, 230, rfl⟩
abbrev main_while2b_call11_v8 : Ref sig .tc := ⟨.hbm, 231, rfl⟩
abbrev main_while2b_call11_v9 : Ref sig .tc := ⟨.hbm, 232, rfl⟩
abbrev main_while2b_call11_v10 : Ref sig .tc := ⟨.hbm, 233, rfl⟩
abbrev main_while2b_call11_v11 : Ref sig .tc := ⟨.hbm, 234, rfl⟩
abbrev main_while2b_v78 : Ref sig .tc := ⟨.hbm, 235, rfl⟩
abbrev main_while2b_v79 : Ref sig .tc := ⟨.hbm, 236, rfl⟩
abbrev main_while2b_v80 : Ref sig .tc := ⟨.hbm, 237, rfl⟩
abbrev main_while2b_v81 : Ref sig .tc := ⟨.hbm, 238, rfl⟩
abbrev main_while2b_v82 : Ref sig .tc := ⟨.hbm, 239, rfl⟩
abbrev main_while2b_v83 : Ref sig .tc := ⟨.hbm, 240, rfl⟩
abbrev main_while2b_cst_12 : Ref sig .tc := ⟨.hbm, 241, rfl⟩
abbrev main_while2b_v84 : Ref sig .tc := ⟨.hbm, 242, rfl⟩
abbrev main_while2b_v85 : Ref sig .tc := ⟨.hbm, 243, rfl⟩
abbrev main_while2b_v86 : Ref sig .tc := ⟨.hbm, 244, rfl⟩
abbrev main_while2b_v87 : Ref sig .tc := ⟨.hbm, 245, rfl⟩
abbrev main_while2b_v88 : Ref sig .tc := ⟨.hbm, 246, rfl⟩
abbrev main_while2b_v89 : Ref sig .tc := ⟨.hbm, 247, rfl⟩
abbrev main_while2b_v90 : Ref sig .tc := ⟨.hbm, 248, rfl⟩
abbrev main_while2b_v91 : Ref sig .tc := ⟨.hbm, 249, rfl⟩
abbrev main_while2b_call12_cst : Ref sig .tc := ⟨.hbm, 250, rfl⟩
abbrev main_while2b_call12_v0 : Ref sig .tc := ⟨.hbm, 251, rfl⟩
abbrev main_while2b_call12_v1 : Ref sig .tc := ⟨.hbm, 252, rfl⟩
abbrev main_while2b_call12_v2 : Ref sig .tc := ⟨.hbm, 253, rfl⟩
abbrev main_while2b_call12_v3 : Ref sig .tc := ⟨.hbm, 254, rfl⟩
abbrev main_while2b_call12_v4 : Ref sig .tc := ⟨.hbm, 255, rfl⟩
abbrev main_while2b_call12_v5 : Ref sig .tc := ⟨.hbm, 256, rfl⟩
abbrev main_while2b_call12_v6 : Ref sig .tc := ⟨.hbm, 257, rfl⟩
abbrev main_while2b_call12_v7 : Ref sig .tc := ⟨.hbm, 258, rfl⟩
abbrev main_while2b_call12_v8 : Ref sig .tc := ⟨.hbm, 259, rfl⟩
abbrev main_while2b_call12_v9 : Ref sig .tc := ⟨.hbm, 260, rfl⟩
abbrev main_while2b_call12_v10 : Ref sig .tc := ⟨.hbm, 261, rfl⟩
abbrev main_while2b_call12_v11 : Ref sig .tc := ⟨.hbm, 262, rfl⟩
abbrev main_while2b_v92 : Ref sig .tc := ⟨.hbm, 263, rfl⟩
abbrev main_while2b_v93 : Ref sig .tc := ⟨.hbm, 264, rfl⟩
abbrev main_while2b_v94 : Ref sig .tc := ⟨.hbm, 265, rfl⟩
abbrev main_while2b_v95 : Ref sig .tc := ⟨.hbm, 266, rfl⟩
abbrev main_while2b_v96 : Ref sig .tc := ⟨.hbm, 267, rfl⟩
abbrev main_while2b_v97 : Ref sig .tc := ⟨.hbm, 268, rfl⟩
abbrev main_while2b_call13_cst : Ref sig .tc := ⟨.hbm, 269, rfl⟩
abbrev main_while2b_call13_v0 : Ref sig .tc := ⟨.hbm, 270, rfl⟩
abbrev main_while2b_call13_v1 : Ref sig .tc := ⟨.hbm, 271, rfl⟩
abbrev main_while2b_call13_v2 : Ref sig .tc := ⟨.hbm, 272, rfl⟩
abbrev main_while2b_call13_v3 : Ref sig .tc := ⟨.hbm, 273, rfl⟩
abbrev main_while2b_call13_v4 : Ref sig .tc := ⟨.hbm, 274, rfl⟩
abbrev main_while2b_call13_v5 : Ref sig .tc := ⟨.hbm, 275, rfl⟩
abbrev main_while2b_call13_v6 : Ref sig .tc := ⟨.hbm, 276, rfl⟩
abbrev main_while2b_call13_v7 : Ref sig .tc := ⟨.hbm, 277, rfl⟩
abbrev main_while2b_call13_v8 : Ref sig .tc := ⟨.hbm, 278, rfl⟩
abbrev main_while2b_call13_v9 : Ref sig .tc := ⟨.hbm, 279, rfl⟩
abbrev main_while2b_call13_v10 : Ref sig .tc := ⟨.hbm, 280, rfl⟩
abbrev main_while2b_call13_v11 : Ref sig .tc := ⟨.hbm, 281, rfl⟩
abbrev main_while2b_v98 : Ref sig .tc := ⟨.hbm, 282, rfl⟩
abbrev main_while2b_v99 : Ref sig .tc := ⟨.hbm, 283, rfl⟩
abbrev main_while2b_v100 : Ref sig .tc := ⟨.hbm, 284, rfl⟩
abbrev main_while2b_v101 : Ref sig .tc := ⟨.hbm, 285, rfl⟩
abbrev main_while2b_v102 : Ref sig .tc := ⟨.hbm, 286, rfl⟩
abbrev main_while2b_v103 : Ref sig .tc := ⟨.hbm, 287, rfl⟩
abbrev main_while2b_cst_13 : Ref sig .tc := ⟨.hbm, 288, rfl⟩
abbrev main_while2b_v104 : Ref sig .tc := ⟨.hbm, 289, rfl⟩
abbrev main_while2b_v105 : Ref sig .tc := ⟨.hbm, 290, rfl⟩
abbrev main_while2b_v106 : Ref sig .tc := ⟨.hbm, 291, rfl⟩
abbrev main_while2b_cst_14 : Ref sig .tc := ⟨.hbm, 292, rfl⟩
abbrev main_while2b_v107 : Ref sig .tc := ⟨.hbm, 293, rfl⟩
abbrev main_while2b_v108 : Ref sig .tc := ⟨.hbm, 294, rfl⟩
abbrev main_while2b_v109 : Ref sig .tc := ⟨.hbm, 295, rfl⟩
abbrev main_while2b_v110 : Ref sig .tc := ⟨.hbm, 296, rfl⟩
abbrev main_while2b_cst_15 : Ref sig .tc := ⟨.hbm, 297, rfl⟩
abbrev main_while2b_v111 : Ref sig .tc := ⟨.hbm, 298, rfl⟩
abbrev main_while2b_v112 : Ref sig .tc := ⟨.hbm, 299, rfl⟩
abbrev main_while2b_v113 : Ref sig .tc := ⟨.hbm, 300, rfl⟩
abbrev main_while2b_c_16 : Ref sig .tc := ⟨.hbm, 301, rfl⟩
abbrev main_while2b_v114 : Ref sig .tc := ⟨.hbm, 302, rfl⟩
abbrev main_v25 : Ref sig .tc := ⟨.hbm, 303, rfl⟩
abbrev main_v26 : Ref sig .tc := ⟨.hbm, 304, rfl⟩

abbrev nD : Nat := 1
abbrev τ : Topo := Topo.v7x

variable {F : FTy → Type} [FloatOps F]

abbrev main_while0_count : Scf.Loop 32 := ⟨0#32, 1024#32, 1#32⟩

abbrev main_while1_count : Scf.Loop 32 := ⟨0#32, 1024#32, 1#32⟩

abbrev main_while2_count : Scf.Loop 32 := ⟨0#32, 9#32, 1#32⟩
-- ==== Proof.KernelIdeal.Loops.lean ====
module

public import proofs.«01_k».proof.Proof.Gen.KernelIdeal.Skeleton
public import proofs.«01_k».proof.Proof.Gen.KernelIdeal.Loops
public import proofs.«01_k».proof.Proof.Gen.KernelIdeal.Frame

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the proof. -/
local notation "𝕄" => MT nD τ sig Unit (Elt F) ℕ (UR sig nD τ) ℕ

/-! ### The values -/

/-- Some 128 rows of a buffer of 8192 rows: those from row `8064 - 128 n`. -/
theorem row_inb (n : ℕ) : ∀ a, (![8064 - 128 * n, 0] : Fin 2 → ℕ) a + S128x32.size a ≤ S8192x32.size a := by
  intro a
  fin_cases a
  · show 8064 - 128 * n + 128 ≤ 8192
    omega
  · show 0 + 32 ≤ 32
    omega

/-- The rectangle of the 128 rows from row `8064 - 128 n`. -/
abbrev rowRect (n : ℕ) : Rect S8192x32 := Rect.unit (s := S8192x32) ![8064 - 128 * n, 0] S128x32.size (row_inb n)

/-- One step of the two stacked cells at a time slot whose first layer's input part is `p`. -/
def cell (v21 v23 v25 : FVec F S32x32 .f32) (v27 : FVec F S1x32 .f32) (p : Vec F S128x32 .f32)
    (h : Vec F S128x32 .f32 × Vec F S128x32 .f32) : Vec F S128x32 .f32 × Vec F S128x32 .f32 :=
  (Gen.k0_pay29 v21 h.1 p, Gen.k0_pay30 v21 v23 v25 v27 h.1 h.2 p)

/-- The two states after `n` steps from `h`, step `n` reading the 128 rows of `W` from row `8064 - 128 n`. -/
def cells (v21 v23 v25 : FVec F S32x32 .f32) (v27 : FVec F S1x32 .f32) (W : Vec F S8192x32 .f32)
    (h : Vec F S128x32 .f32 × Vec F S128x32 .f32) : ℕ → Vec F S128x32 .f32 × Vec F S128x32 .f32
  | 0 => h
  | n + 1 => cell v21 v23 v25 v27 (View.ld W (rowRect n)) (cells v21 v23 v25 v27 W h n)

/-- What the first loop has written before trip `n`, the last first. -/
def pieces1 (v21 v23 v25 : FVec F S32x32 .f32) (v27 : FVec F S1x32 .f32) (W : Vec F S8192x32 .f32)
    (h : Vec F S128x32 .f32 × Vec F S128x32 .f32) : ℕ → List (View.Piece (Elt F) S8192x32 .f32)
  | 0 => []
  | n + 1 => ⟨rowRect (n + 1), Gen.k0_pay31 v21 v23 v25 v27 (cells v21 v23 v25 v27 W h n).1 (cells v21 v23 v25 v27 W h n).2 (View.ld W (rowRect n))⟩
      :: pieces1 v21 v23 v25 v27 W h n

/-- One step of the integrator on 512 rows. -/
def rk (v50 : FVec F S32x128 .f32) (v52 : FVec F S1x128 .f32) (v54 : FVec F S128x128 .f32) (v56 : FVec F S1x128 .f32) (v58 : FVec F S128x32 .f32)
    (v60 : FVec F S1x32 .f32) (y : Vec F S512x32 .f32) : Vec F S512x32 .f32 :=
  Gen.k0_pay1 v58 v60 y (Gen.k0_pay4 v50 v52 v54 v56 v58 v60 y)
    (Gen.k0_pay10 v54 v56 v58 v60 (Gen.k0_pay5 v50 v52 v54 v56 v58 v60 y) (Gen.k0_pay6 v50 v52 v54 v56 v58 v60 y) (Gen.k0_pay7 v50 v52 v54 v56 v58 v60 y)
      (Gen.k0_pay8 v50 v52 v54 v56 v58 v60 y) (Gen.k0_pay9 (F := F)))
    (Gen.k0_pay13 v58 v60
      (Gen.k0_pay11 v50 v52 v54 v56 v58 v60 y (Gen.k0_pay5 v50 v52 v54 v56 v58 v60 y) (Gen.k0_pay6 v50 v52 v54 v56 v58 v60 y)
        (Gen.k0_pay7 v50 v52 v54 v56 v58 v60 y) (Gen.k0_pay8 v50 v52 v54 v56 v58 v60 y) (Gen.k0_pay9 (F := F)))
      (Gen.k0_pay12 v56))
    (Gen.k0_pay15 v50 v52 v54 v56 v58 v60 y
      (Gen.k0_pay11 v50 v52 v54 v56 v58 v60 y (Gen.k0_pay5 v50 v52 v54 v56 v58 v60 y) (Gen.k0_pay6 v50 v52 v54 v56 v58 v60 y)
        (Gen.k0_pay7 v50 v52 v54 v56 v58 v60 y) (Gen.k0_pay8 v50 v52 v54 v56 v58 v60 y) (Gen.k0_pay9 (F := F)))
      (Gen.k0_pay12 v56))
    (Gen.k0_pay17 v50 v52 v54 v56 v58 v60 y
      (Gen.k0_pay11 v50 v52 v54 v56 v58 v60 y (Gen.k0_pay5 v50 v52 v54 v56 v58 v60 y) (Gen.k0_pay6 v50 v52 v54 v56 v58 v60 y)
        (Gen.k0_pay7 v50 v52 v54 v56 v58 v60 y) (Gen.k0_pay8 v50 v52 v54 v56 v58 v60 y) (Gen.k0_pay9 (F := F)))
      (Gen.k0_pay12 v56))
    (Gen.k0_pay18 v50 v52 v54 v56 v58 v60 y
      (Gen.k0_pay11 v50 v52 v54 v56 v58 v60 y (Gen.k0_pay5 v50 v52 v54 v56 v58 v60 y) (Gen.k0_pay6 v50 v52 v54 v56 v58 v60 y)
        (Gen.k0_pay7 v50 v52 v54 v56 v58 v60 y) (Gen.k0_pay8 v50 v52 v54 v56 v58 v60 y) (Gen.k0_pay9 (F := F)))
      (Gen.k0_pay12 v56))
    (Gen.k0_pay19 v50 v52 v54 v56 v58 v60 y
      (Gen.k0_pay11 v50 v52 v54 v56 v58 v60 y (Gen.k0_pay5 v50 v52 v54 v56 v58 v60 y) (Gen.k0_pay6 v50 v52 v54 v56 v58 v60 y)
        (Gen.k0_pay7 v50 v52 v54 v56 v58 v60 y) (Gen.k0_pay8 v50 v52 v54 v56 v58 v60 y) (Gen.k0_pay9 (F := F)))
      (Gen.k0_pay12 v56))
    (Gen.k0_pay20 (F := F))

/-- Nine steps of the integrator. -/
def rk9 (v50 : FVec F S32x128 .f32) (v52 : FVec F S1x128 .f32) (v54 : FVec F S128x128 .f32) (v56 : FVec F S1x128 .f32) (v58 : FVec F S128x32 .f32)
    (v60 : FVec F S1x32 .f32) (y : Vec F S512x32 .f32) : Vec F S512x32 .f32 :=
  (rk v50 v52 v54 v56 v58 v60)^[9] y

/-- Some 512 rows of a buffer of 8192 rows: those from row `512 k` for `k ≤ 15`. -/
theorem in_inb (k : ℕ) : ∀ a, (![7680 - 512 * (15 - k), 0] : Fin 2 → ℕ) a + S512x32.size a ≤ S8192x32.size a := by
  intro a
  fin_cases a
  · show 7680 - 512 * (15 - k) + 512 ≤ 8192
    omega
  · show 0 + 32 ≤ 32
    omega

/-- Some four rows of a block of 64: those from row `4 k` for `k ≤ 15`. -/
theorem out_inb (k : ℕ) : ∀ a, (![60 - 4 * (15 - k), 0, 0] : Fin 3 → ℕ) a + S4x128x32.size a ≤ S64x128x32.size a := by
  intro a
  fin_cases a
  · show 60 - 4 * (15 - k) + 4 ≤ 64
    omega
  · show 0 + 128 ≤ 128
    omega
  · show 0 + 32 ≤ 32
    omega

/-- The rectangle that trip `k` of the second loop reads. -/
abbrev inRect (k : ℕ) : Rect S8192x32 := Rect.unit (s := S8192x32) ![7680 - 512 * (15 - k), 0] S512x32.size (in_inb k)

/-- The rectangle that trip `k` of the second loop writes. -/
abbrev outRect (k : ℕ) : Rect S64x128x32 := Rect.unit (s := S64x128x32) ![60 - 4 * (15 - k), 0, 0] S4x128x32.size (out_inb k)

/-- What the second loop has written before trip `n`, the last first, reading `R`. -/
def pieces2 (v50 : FVec F S32x128 .f32) (v52 : FVec F S1x128 .f32) (v54 : FVec F S128x128 .f32) (v56 : FVec F S1x128 .f32) (v58 : FVec F S128x32 .f32)
    (v60 : FVec F S1x32 .f32) (R : Vec F S8192x32 .f32) : ℕ → List (View.Piece (Elt F) S64x128x32 .f32)
  | 0 => []
  | n + 1 => ⟨outRect n, Gen.k0_pay2 (rk9 v50 v52 v54 v56 v58 v60 (View.ld R (inRect n)))⟩ :: pieces2 v50 v52 v54 v56 v58 v60 R n

/-! ### The loops -/

/-- A load at an offset that is equal to another reads what lies at the other. -/
theorem readAt_off {κ : Kind} {sp : Space} {s : Shape} {e : EltTy} (v : View sig κ sp s e) {off off' size : Fin s.rank → ℕ} (h : off = off')
    (inb : ∀ a, off a + size a ≤ s.size a) (inb' : ∀ a, off' a + size a ≤ s.size a) (X : BufTy.Contents (Elt F) v.ty) :
    View.readAt (Elt F) v (Rect.unit off size inb).toLoadRect X = View.ld (v.read (Elt F) X) (Rect.unit off' size inb') := by
  subst h
  rfl

/-- One write at an offset that is equal to another is the write at the other. -/
theorem writes_off {κ : Kind} {sp : Space} {s : Shape} {e : EltTy} (v : View sig κ sp s e) (f : BufTy.Contents (Elt F) v.ty)
    {off off' size : Fin s.rank → ℕ} (h : off = off')
    (inb : ∀ a, off a + size a ≤ s.size a) (inb' : ∀ a, off' a + size a ≤ s.size a) (w : (⟨s.rank, size⟩ : Shape).Idx → Elt F e) :
    v.writes (Elt F) f [⟨Rect.unit off size inb, w⟩] = v.writes (Elt F) f [⟨Rect.unit off' size inb', w⟩] := by
  subst h
  rfl

section

variable (i : grid0.Coords)
  (arg2 : Memref sig .tc .vmem S64x128x64 .f32) (harg2 : arg2.IsWhole)
  (arg3 : Memref sig .tc .vmem S2x32 .f32) (harg3 : arg3.IsWhole)
  (arg4 : Memref sig .tc .vmem S64x32 .f32) (harg4 : arg4.IsWhole)
  (arg5 : Memref sig .tc .vmem S32x32 .f32) (harg5 : arg5.IsWhole)
  (arg6 : Memref sig .tc .vmem S1x32 .f32) (harg6 : arg6.IsWhole)
  (arg7 : Memref sig .tc .vmem S32x32 .f32) (harg7 : arg7.IsWhole)
  (arg8 : Memref sig .tc .vmem S32x32 .f32) (harg8 : arg8.IsWhole)
  (arg9 : Memref sig .tc .vmem S1x32 .f32) (harg9 : arg9.IsWhole)
  (arg10 : Memref sig .tc .vmem S32x128 .f32) (harg10 : arg10.IsWhole)
  (arg11 : Memref sig .tc .vmem S1x128 .f32) (harg11 : arg11.IsWhole)
  (arg12 : Memref sig .tc .vmem S128x128 .f32) (harg12 : arg12.IsWhole)
  (arg13 : Memref sig .tc .vmem S1x128 .f32) (harg13 : arg13.IsWhole)
  (arg14 : Memref sig .tc .vmem S128x32 .f32) (harg14 : arg14.IsWhole)
  (arg15 : Memref sig .tc .vmem S1x32 .f32) (harg15 : arg15.IsWhole)
  (arg16 : Memref sig .tc .vmem S64x128x32 .f32) (harg16 : arg16.IsWhole)
  (arg17 : Memref sig .tc .vmem S128x32 .f32) (harg17 : arg17.IsWhole)
  (arg18 : Memref sig .tc .vmem S128x32 .f32) (harg18 : arg18.IsWhole)
  (arg19 : Memref sig .tc .vmem S8192x32 .f32) (harg19 : arg19.IsWhole)
  (arg20 : Memref sig .tc .vmem S8192x32 .f32) (harg20 : arg20.IsWhole)

/-- One trip of the first loop: it reads one slot and writes the slot before. -/
theorem trip1 (c : Dev nD) (E : Set ℕ) (v3 : Vec F S128x32 .f32) (v21 v23 v25 : FVec F S32x32 .f32) (v27 : FVec F S1x32 .f32) (v28 : Vec F S128x32 .f32)
    (X : BufTy.Contents (Elt F) arg19.view.ty) (k : Fin k0_t1_loop.trips) (acc : Vec F S128x32 .f32 × Vec F S128x32 .f32)
    (f : BufTy.Contents (Elt F) arg20.view.ty) :
    (iprop((arg19.view.loc (c : Thread nD τ) ↦[arg19.view.set]{fullShare} X) ∗ (arg20.view.loc (c : Thread nD τ) ↦[arg20.view.set]{fullShare} f)) : sProp 𝕄)
      ⊢ wp frame (wpE (defs₀ (F := F)) Variants.none (c : Thread nD τ) none) E
          (Gen.k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v21 v23 v25 v27 v28 k acc)
          (fun yld => iprop(⌜yld = cell v21 v23 v25 v27 (View.ld (arg19.view.read (Elt F) X) (rowRect k.val)) acc⌝
            ∗ (arg19.view.loc (c : Thread nD τ) ↦[arg19.view.set]{fullShare} X)
            ∗ (arg20.view.loc (c : Thread nD τ) ↦[arg20.view.set]{fullShare} arg20.view.writes (Elt F) f
                [⟨rowRect (k.val + 1), Gen.k0_pay31 v21 v23 v25 v27 acc.1 acc.2 (View.ld (arg19.view.read (Elt F) X) (rowRect k.val))⟩]))) := by
  have hk : k.val < 63 := Nat.lt_of_lt_of_le k.isLt Gen.k0_t1_abs.2.1
  have e1 := Gen.k0_off1_eq k
  have e2 : k0_off2 k = ![8064 - 128 * (k.val + 1), 0] := by
    rw [Gen.k0_off2_eq k, show 7936 - 128 * k.val = 8064 - 128 * (k.val + 1) by omega]
  unfold Gen.k0_t1_body
  iintro ⟨H19, H20⟩
  sl_exec
  sl_step
  rw [readAt_off arg19.view e1 (Gen.k0_off1_inb k) (row_inb k.val) X,
    writes_off arg20.view f e2 (Gen.k0_off2_inb k) (row_inb (k.val + 1))]
  isplitr
  · ipureintro
    unfold cell
    rfl
  isplitl [H19]
  · iexact H19
  iexact H20

/-- One trip of the loop over the integrator's steps. -/
theorem trip3 (c : Dev nD) (E : Set ℕ) (v50 : FVec F S32x128 .f32) (v52 : FVec F S1x128 .f32) (v54 : FVec F S128x128 .f32) (v56 : FVec F S1x128 .f32)
    (v58 : FVec F S128x32 .f32) (v60 : FVec F S1x32 .f32) (init : Vec F S512x32 .f32) (k : Fin k0_t3_loop.trips) (acc : Vec F S512x32 .f32)
    (h : acc = (rk v50 v52 v54 v56 v58 v60)^[k.val] init) :
    (iprop(⌜True⌝) : sProp 𝕄)
      ⊢ wp frame (wpE (defs₀ (F := F)) Variants.none (c : Thread nD τ) none) E
          (Gen.k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v50 v52 v54 v56 v58 v60 k acc)
          (fun yld => iprop(⌜yld = (rk v50 v52 v54 v56 v58 v60)^[k.val + 1] init⌝)) := by
  unfold Gen.k0_t3_body
  iintro -
  sl_exec
  sl_step
  ipureintro
  rw [Function.iterate_succ_apply', ← h]
  rfl

set_option warn.classDefReducibility false in
/-- The loop over the integrator's steps by its invariant: the carried value is the initial one after as many steps. -/
@[sl_loop] def loopInv_k0_t3 (c : Dev nD) (E : Set ℕ) (v50 : FVec F S32x128 .f32) (v52 : FVec F S1x128 .f32) (v54 : FVec F S128x128 .f32)
    (v56 : FVec F S1x128 .f32) (v58 : FVec F S128x32 .f32) (v60 : FVec F S1x32 .f32) (init : Vec F S512x32 .f32) :
    Gen.LoopInvTy_k0_t3 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v50 v52 v54 v56 v58 v60 init where
  inv k acc := iprop(⌜acc = (rk v50 v52 v54 v56 v58 v60)^[k] init⌝)
  step k acc := by
    iintro %h
    iapply (trip3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c E v50 v52 v54 v56 v58 v60 init k acc h)
    ipureintro
    trivial

/-- One trip of the second loop. -/
theorem trip2 (c : Dev nD) (E : Set ℕ) (v50 : FVec F S32x128 .f32) (v52 : FVec F S1x128 .f32) (v54 : FVec F S128x128 .f32) (v56 : FVec F S1x128 .f32)
    (v58 : FVec F S128x32 .f32) (v60 : FVec F S1x32 .f32) (X : BufTy.Contents (Elt F) arg20.view.ty) (k : Fin k0_t2_loop.trips)
    (f : BufTy.Contents (Elt F) arg16.view.ty) :
    (iprop((arg20.view.loc (c : Thread nD τ) ↦[arg20.view.set]{fullShare} X) ∗ (arg16.view.loc (c : Thread nD τ) ↦[arg16.view.set]{fullShare} f)) : sProp 𝕄)
      ⊢ wp frame (wpE (defs₀ (F := F)) Variants.none (c : Thread nD τ) none) E
          (Gen.k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v50 v52 v54 v56 v58 v60 k ())
          (fun _ => iprop((arg20.view.loc (c : Thread nD τ) ↦[arg20.view.set]{fullShare} X)
            ∗ (arg16.view.loc (c : Thread nD τ) ↦[arg16.view.set]{fullShare} arg16.view.writes (Elt F) f
                [⟨outRect k.val, Gen.k0_pay2 (rk9 v50 v52 v54 v56 v58 v60 (View.ld (arg20.view.read (Elt F) X) (inRect k.val)))⟩]))) := by
  have hk : k.val < 16 := Nat.lt_of_lt_of_le k.isLt Gen.k0_t2_abs.2.1
  have e3 : k0_off3 k = ![7680 - 512 * (15 - k.val), 0] := by
    rw [Gen.k0_off3_eq k, show 512 * k.val = 7680 - 512 * (15 - k.val) by omega]
  have e4 : k0_off4 k = ![60 - 4 * (15 - k.val), 0, 0] := by
    rw [Gen.k0_off4_eq k, show 4 * k.val = 60 - 4 * (15 - k.val) by omega]
  have e5 : Scf.trips k0_t3_loop.lb k0_t3_loop.ub k0_t3_loop.st = 9 := by decide +kernel
  unfold Gen.k0_t2_body
  iintro ⟨H20, H16⟩
  sl_exec
  sl_step
  rw [e5, readAt_off arg20.view e3 (Gen.k0_off3_inb k) (in_inb k.val) X,
    writes_off arg16.view f e4 (Gen.k0_off4_inb k) (out_inb k.val)]
  isplitl [H20]
  · iexact H20
  iexact H16

set_option warn.classDefReducibility false in
/-- The first loop by its invariant. -/
@[sl_loop] def loopInv_k0_t1 (c : Dev nD) (E : Set ℕ) (v3 : Vec F S128x32 .f32) (v21 v23 v25 : FVec F S32x32 .f32) (v27 : FVec F S1x32 .f32)
    (v28 : Vec F S128x32 .f32) (X : BufTy.Contents (Elt F) arg19.view.ty) (G : BufTy.Contents (Elt F) arg20.view.ty)
    (init : Vec F S128x32 .f32 × Vec F S128x32 .f32) :
    Gen.LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v21 v23 v25 v27 v28 init where
  inv k acc := iprop((arg19.view.loc (c : Thread nD τ) ↦[arg19.view.set]{fullShare} X)
    ∗ (∃ f, (arg20.view.loc (c : Thread nD τ) ↦[arg20.view.set]{fullShare} f)
      ∗ ⌜f = arg20.view.writes (Elt F) G (pieces1 v21 v23 v25 v27 (arg19.view.read (Elt F) X) init k)⌝)
    ∗ ⌜acc = cells v21 v23 v25 v27 (arg19.view.read (Elt F) X) init k⌝)
  step k acc := by
    iintro ⟨H19, ⟨%f, H20, %hf⟩, %h⟩
    subst h
    iapply (wp_wand_r Idealize.ShloMosaic.frame (wpE (defs₀ (F := F)) Variants.none (c : Thread nD τ) none) E)
    isplitl [H19 H20]
    · iapply (trip1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c E v3 v21 v23 v25 v27 v28 X k (cells v21 v23 v25 v27 (arg19.view.read (Elt F) X) init k.val) f)
      isplitl [H19]
      · iexact H19
      iexact H20
    · iintro %yld ⟨%h, H19, H20⟩
      isplitl [H19]
      · iexact H19
      isplitl [H20]
      · iexists _
        isplitl [H20]
        · iexact H20
        ipureintro
        rw [hf, ← View.writes_append]
        rfl
      ipureintro
      rw [h]
      rfl

set_option warn.classDefReducibility false in
/-- The second loop by its invariant. -/
@[sl_loop] def loopInv_k0_t2 (c : Dev nD) (E : Set ℕ) (v50 : FVec F S32x128 .f32) (v52 : FVec F S1x128 .f32) (v54 : FVec F S128x128 .f32)
    (v56 : FVec F S1x128 .f32) (v58 : FVec F S128x32 .f32) (v60 : FVec F S1x32 .f32) (X : BufTy.Contents (Elt F) arg20.view.ty)
    (G : BufTy.Contents (Elt F) arg16.view.ty) :
    Gen.LoopInvTy_k0_t2 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v50 v52 v54 v56 v58 v60 where
  inv k acc := iprop((arg20.view.loc (c : Thread nD τ) ↦[arg20.view.set]{fullShare} X)
    ∗ (∃ f, (arg16.view.loc (c : Thread nD τ) ↦[arg16.view.set]{fullShare} f)
      ∗ ⌜f = arg16.view.writes (Elt F) G (pieces2 v50 v52 v54 v56 v58 v60 (arg20.view.read (Elt F) X) k)⌝))
  step k acc := by
    iintro ⟨H20, ⟨%f, H16, %hf⟩⟩
    iapply (wp_wand_r Idealize.ShloMosaic.frame (wpE (defs₀ (F := F)) Variants.none (c : Thread nD τ) none) E)
    isplitl [H20 H16]
    · iapply (trip2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c E v50 v52 v54 v56 v58 v60 X k f)
      isplitl [H20]
      · iexact H20
      iexact H16
    · iintro %yld ⟨H20, H16⟩
      isplitl [H20]
      · iexact H20
      iexists _
      isplitl [H16]
      · iexact H16
      ipureintro
      rw [hf, ← View.writes_append]
      rfl

end

end Cert.Proof.KernelIdeal

end
-- ==== Proof.KernelIdeal.Body.lean ====
module

public import proofs.«01_k».proof.Proof.KernelIdeal.Loops
public import Idealize.ShloMosaic.Lib.Pointwise
public import Idealize.ShloMosaic.Lib.Pointwise.Reshape
public import Idealize.ShloMosaic.Lib.VecWindow

@[expose] public section

set_option maxRecDepth 16384
set_option maxHeartbeats 2000000

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the proof. -/
local notation "𝕄" => MT nD τ sig Unit (Elt F) ℕ (UR sig nD τ) ℕ

/-! ### Reading what the loops wrote -/

/-- A step's stored state is its carried one. -/
theorem pay31_eq (v21 v23 v25 : FVec F S32x32 .f32) (v27 : FVec F S1x32 .f32) (a b p : Vec F S128x32 .f32) :
    Gen.k0_pay31 v21 v23 v25 v27 a b p = Gen.k0_pay30 v21 v23 v25 v27 a b p :=
  shapeCast_id _ _

/-- The last step of a chunk is a step like the others: the first cell; -/
theorem pay33_eq (v21 : FVec F S32x32 .f32) (a p : Vec F S128x32 .f32) : Gen.k0_pay33 v21 a p = Gen.k0_pay29 v21 a p :=
  shapeCast_id _ _

/-- the second cell. -/
theorem pay34_eq (v21 v23 v25 : FVec F S32x32 .f32) (v27 : FVec F S1x32 .f32) (a b p : Vec F S128x32 .f32) :
    Gen.k0_pay34 v21 v23 v25 v27 a b p = Gen.k0_pay30 v21 v23 v25 v27 a b p :=
  shapeCast_id _ _

section reading

variable (v21 v23 v25 : FVec F S32x32 .f32) (v27 : FVec F S1x32 .f32) (W : Vec F S8192x32 .f32) (e : Vec F S128x32 .f32 × Vec F S128x32 .f32)

/-- The states of the second cell by slot, over the values the loop reads. -/
def slotsOf : Vec F S8192x32 .f32 := fun y =>
  (cells v21 v23 v25 v27 W e (63 - (y 0).val / 128)).2
    (ix2 (⟨(y 0).val % 128, Nat.mod_lt _ (by decide)⟩ : Fin 128) (⟨(y 1).val, (y 1).isLt⟩ : Fin 32))

/-- The rows from row `8064 - 128 n` are the slot of the state after `n` steps. -/
theorem slotsOf_emb (n : ℕ) (hn : n ≤ 63) (x : S128x32.Idx) :
    slotsOf v21 v23 v25 v27 W e ((rowRect n).emb x) = (cells v21 v23 v25 v27 W e n).2 x := by
  have hx0 : (x 0).val < 128 := (x 0).isLt
  have h0 : (((rowRect n).emb x) 0).val = 8064 - 128 * n + 1 * (x 0).val := rfl
  have h1 : (((rowRect n).emb x) 1).val = 0 + 1 * (x 1).val := rfl
  unfold slotsOf
  have e1 : 63 - (((rowRect n).emb x) 0).val / 128 = n := by rw [h0]; omega
  rw [e1]
  refine congrArg _ (funext fun a => ?_)
  match a with
  | ⟨0, _⟩ =>
    refine Fin.ext ?_
    show (((rowRect n).emb x) 0).val % 128 = (x 0).val
    rw [h0]
    omega
  | ⟨1, _⟩ =>
    refine Fin.ext ?_
    show (((rowRect n).emb x) 1).val = (x 1).val
    rw [h1]
    omega

/-- Every piece that the first loop wrote is a slot. -/
theorem mem_pieces1 : ∀ (n : ℕ) (p : View.Piece (Elt F) S8192x32 .f32), p ∈ pieces1 v21 v23 v25 v27 W e n →
    ∃ m, m < n ∧ p = ⟨rowRect (m + 1), (cells v21 v23 v25 v27 W e (m + 1)).2⟩
  | 0, _, h => absurd h List.not_mem_nil
  | n + 1, p, h => by
    rcases List.mem_cons.mp h with rfl | h
    · exact ⟨n, Nat.lt_succ_self n, by rw [pay31_eq]; rfl⟩
    · obtain ⟨m, hm, hp⟩ := mem_pieces1 n p h
      exact ⟨m, Nat.lt_succ_of_lt hm, hp⟩

/-- The first loop wrote every slot after the first state's. -/
theorem mem_pieces1_of_lt : ∀ (n m : ℕ), m < n → (⟨rowRect (m + 1), (cells v21 v23 v25 v27 W e (m + 1)).2⟩ : View.Piece (Elt F) S8192x32 .f32)
    ∈ pieces1 v21 v23 v25 v27 W e n
  | n + 1, m, h => by
    by_cases hm : m = n
    · subst hm
      refine List.mem_cons.mpr (Or.inl ?_)
      rw [pay31_eq]
      rfl
    · exact List.mem_cons_of_mem _ (mem_pieces1_of_lt n m (by omega))

/-- A row of the slot of the state after `n` steps lies in that slot's rectangle. -/
theorem mem_rowRect (y : S8192x32.Idx) (n : ℕ) (hn : n = 63 - (y 0).val / 128) : y ∈ (rowRect n).set := by
  have hy : (y 0).val < 8192 := (y 0).isLt
  have hy1 : (y 1).val < 32 := (y 1).isLt
  refine (Rect.mem_set_unit).mpr fun a => ?_
  fin_cases a
  · show 8064 - 128 * n ≤ (y 0).val ∧ (y 0).val < 8064 - 128 * n + 128
    omega
  · show 0 ≤ (y 1).val ∧ (y 1).val < 0 + 32
    omega

/-- After the first loop the buffer holds the slots. -/
theorem read_slots {κ : Kind} {sp : Space} (v : View sig κ sp S8192x32 .f32) (f : BufTy.Contents (Elt F) v.ty)
    (inb : ∀ a, (![8064, 0] : Fin 2 → ℕ) a + S128x32.size a ≤ S8192x32.size a) :
    v.read (Elt F) (v.writes (Elt F) f (pieces1 v21 v23 v25 v27 W e 63 ++ [⟨Rect.unit (s := S8192x32) ![8064, 0] S128x32.size inb, Gen.k0_pay23 e.2⟩]))
      = slotsOf v21 v23 v25 v27 W e := by
  have hl : (⟨Rect.unit (s := S8192x32) ![8064, 0] S128x32.size inb, Gen.k0_pay23 e.2⟩ : View.Piece (Elt F) S8192x32 .f32)
      = ⟨rowRect 0, (cells v21 v23 v25 v27 W e 0).2⟩ := by
    rw [show Gen.k0_pay23 e.2 = e.2 from shapeCast_id _ _]
    rfl
  rw [hl]
  funext y
  refine View.read_writes_apply_of_pieces v f (slotsOf v21 v23 v25 v27 W e) _ (fun p hp x => ?_) y ?_
  · rcases List.mem_append.mp hp with hp | hp
    · obtain ⟨m, hm, rfl⟩ := mem_pieces1 v21 v23 v25 v27 W e 63 p hp
      exact (slotsOf_emb v21 v23 v25 v27 W e (m + 1) (by omega) x).symm
    · obtain rfl := List.mem_singleton.mp hp
      exact (slotsOf_emb v21 v23 v25 v27 W e 0 (by omega) x).symm
  · have hy : (y 0).val < 8192 := (y 0).isLt
    by_cases h : (y 0).val / 128 = 63
    · exact ⟨_, List.mem_append_right _ (List.mem_singleton_self _), mem_rowRect y 0 (by omega)⟩
    · exact ⟨_, List.mem_append_left _ (mem_pieces1_of_lt v21 v23 v25 v27 W e 63 (62 - (y 0).val / 128) (by omega)),
        mem_rowRect y _ (by omega)⟩

end reading

section integrating

variable (v50 : FVec F S32x128 .f32) (v52 : FVec F S1x128 .f32) (v54 : FVec F S128x128 .f32) (v56 : FVec F S1x128 .f32) (v58 : FVec F S128x32 .f32)
    (v60 : FVec F S1x32 .f32) (R : Vec F S8192x32 .f32)

/-- The slots integrated, four at a time. -/
def outOf : Vec F S64x128x32 .f32 := fun y =>
  Gen.k0_pay2 (rk9 v50 v52 v54 v56 v58 v60 (View.ld R (inRect ((y 0).val / 4))))
    (ix3 (⟨(y 0).val % 4, Nat.mod_lt _ (by decide)⟩ : Fin 4) (⟨(y 1).val, (y 1).isLt⟩ : Fin 128) (⟨(y 2).val, (y 2).isLt⟩ : Fin 32))

/-- Four rows of the block are one trip's. -/
theorem outOf_emb (n : ℕ) (hn : n ≤ 15) (x : S4x128x32.Idx) :
    outOf v50 v52 v54 v56 v58 v60 R ((outRect n).emb x) = Gen.k0_pay2 (rk9 v50 v52 v54 v56 v58 v60 (View.ld R (inRect n))) x := by
  have hx0 : (x 0).val < 4 := (x 0).isLt
  have h0 : (((outRect n).emb x) 0).val = 60 - 4 * (15 - n) + 1 * (x 0).val := rfl
  have h1 : (((outRect n).emb x) 1).val = 0 + 1 * (x 1).val := rfl
  have h2 : (((outRect n).emb x) 2).val = 0 + 1 * (x 2).val := rfl
  unfold outOf
  have e1 : (((outRect n).emb x) 0).val / 4 = n := by rw [h0]; omega
  rw [e1]
  refine congrArg _ (funext fun a => ?_)
  match a with
  | ⟨0, _⟩ =>
    refine Fin.ext ?_
    show (((outRect n).emb x) 0).val % 4 = (x 0).val
    rw [h0]
    omega
  | ⟨1, _⟩ =>
    refine Fin.ext ?_
    show (((outRect n).emb x) 1).val = (x 1).val
    rw [h1]
    omega
  | ⟨2, _⟩ =>
    refine Fin.ext ?_
    show (((outRect n).emb x) 2).val = (x 2).val
    rw [h2]
    omega

/-- Every piece that the second loop wrote is one trip's. -/
theorem mem_pieces2 : ∀ (n : ℕ) (p : View.Piece (Elt F) S64x128x32 .f32), p ∈ pieces2 v50 v52 v54 v56 v58 v60 R n →
    ∃ m, m < n ∧ p = ⟨outRect m, Gen.k0_pay2 (rk9 v50 v52 v54 v56 v58 v60 (View.ld R (inRect m)))⟩
  | 0, _, h => absurd h List.not_mem_nil
  | n + 1, p, h => by
    rcases List.mem_cons.mp h with rfl | h
    · exact ⟨n, Nat.lt_succ_self n, rfl⟩
    · obtain ⟨m, hm, hp⟩ := mem_pieces2 n p h
      exact ⟨m, Nat.lt_succ_of_lt hm, hp⟩

/-- The second loop wrote every trip's piece. -/
theorem mem_pieces2_of_lt : ∀ (n m : ℕ), m < n →
    (⟨outRect m, Gen.k0_pay2 (rk9 v50 v52 v54 v56 v58 v60 (View.ld R (inRect m)))⟩ : View.Piece (Elt F) S64x128x32 .f32)
      ∈ pieces2 v50 v52 v54 v56 v58 v60 R n
  | n + 1, m, h => by
    by_cases hm : m = n
    · subst hm
      exact List.mem_cons_self
    · exact List.mem_cons_of_mem _ (mem_pieces2_of_lt n m (by omega))

/-- After the second loop the block holds the integrated slots. -/
theorem read_out {κ : Kind} {sp : Space} (v : View sig κ sp S64x128x32 .f32) (f : BufTy.Contents (Elt F) v.ty) :
    v.read (Elt F) (v.writes (Elt F) f (pieces2 v50 v52 v54 v56 v58 v60 R 16)) = outOf v50 v52 v54 v56 v58 v60 R := by
  funext y
  refine View.read_writes_apply_of_pieces v f (outOf v50 v52 v54 v56 v58 v60 R) _ (fun p hp x => ?_) y ?_
  · obtain ⟨m, hm, rfl⟩ := mem_pieces2 v50 v52 v54 v56 v58 v60 R 16 p hp
    exact (outOf_emb v50 v52 v54 v56 v58 v60 R m (by omega) x).symm
  · have hy : (y 0).val < 64 := (y 0).isLt
    have hy1 : (y 1).val < 128 := (y 1).isLt
    have hy2 : (y 2).val < 32 := (y 2).isLt
    refine ⟨_, mem_pieces2_of_lt v50 v52 v54 v56 v58 v60 R 16 ((y 0).val / 4) (by omega), ?_⟩
    refine (Rect.mem_set_unit (inb := out_inb ((y 0).val / 4))).mpr fun a => ?_
    fin_cases a
    · show 60 - 4 * (15 - (y 0).val / 4) ≤ (y 0).val ∧ (y 0).val < 60 - 4 * (15 - (y 0).val / 4) + 4
      omega
    · show 0 ≤ (y 1).val ∧ (y 1).val < 0 + 128
      omega
    · show 0 ≤ (y 2).val ∧ (y 2).val < 0 + 32
      omega

/-- The block after the last row is replaced by the slot before the last. -/
theorem read_out_first {κ : Kind} {sp : Space} (v : View sig κ sp S64x128x32 .f32) (f : BufTy.Contents (Elt F) v.ty)
    (inb : ∀ a, (![63, 0, 0] : Fin 3 → ℕ) a + S1x128x32.size a ≤ S64x128x32.size a) (w : Vec F S128x32 .f32) :
    v.read (Elt F) (v.writes (Elt F) f (⟨Rect.unit (s := S64x128x32) ![63, 0, 0] S1x128x32.size inb, Gen.k0_pay3 w⟩ :: pieces2 v50 v52 v54 v56 v58 v60 R 16))
      = fun y : S64x128x32.Idx => if (y 0).val = 63 then
          Gen.k0_pay3 w (ix3 (0 : Fin 1) (⟨(y 1).val, (y 1).isLt⟩ : Fin 128) (⟨(y 2).val, (y 2).isLt⟩ : Fin 32))
        else outOf v50 v52 v54 v56 v58 v60 R y := by
  funext y
  have hy : (y 0).val < 64 := (y 0).isLt
  by_cases h : (y 0).val = 63
  · rw [if_pos h]
    refine View.read_writes_cons_hit_of_coords v f _ _ _ _ _ fun a => ?_
    fin_cases a
    · show (y 0).val = 63 + 1 * 0
      omega
    · show (y 1).val = 0 + 1 * (y 1).val
      omega
    · show (y 2).val = 0 + 1 * (y 2).val
      omega
  · rw [if_neg h, View.read_writes_cons_miss_of_axis v f _ _ y (0 : Fin 3) 63 1 rfl rfl rfl (by omega), read_out]

end integrating

/-- A load of the whole of a buffer reads what it holds. -/
theorem whole {κ : Kind} {sp : Space} {s : Shape} {e : EltTy} {m : Memref sig κ sp s e} (h : m.IsWhole) {off : Fin s.rank → ℕ}
    (inb : ∀ a, off a + s.size a ≤ s.size a) (x : s.Idx → Elt F e) :
    View.readAt (Elt F) m.view (Rect.unit off s.size inb).toLoadRect (h.unread x) = x :=
  (View.readAt_full m.view _ inb).trans (h.read_unread x)

/-! ### What one point of the grid computes -/

/-- The states of both cells that the first chunk of a row block starts from: the initial states, on every row. -/
def first (x3 : Vec F S2x32 .f32) : Vec F S128x32 .f32 × Vec F S128x32 .f32 :=
  (Gen.k0_pay21 (View.ld x3 (Rect.unit (s := S2x32) ![0, 0] S1x32.size Gen.inb_S2x32_S1x32_0_0)),
    Gen.k0_pay22 (View.ld x3 (Rect.unit (s := S2x32) ![1, 0] S1x32.size Gen.inb_S2x32_S1x32_1_0)))

/-- The states of both cells after `n` steps of a chunk that starts from `e`. -/
def states (x2 : Vec F S64x128x64 .f32) (x4 : Vec F S64x32 .f32) (x5 : Vec F S32x32 .f32) (x6 : Vec F S1x32 .f32) (x7 x8 : Vec F S32x32 .f32)
    (x9 : Vec F S1x32 .f32) (e : Vec F S128x32 .f32 × Vec F S128x32 .f32) (n : ℕ) : Vec F S128x32 .f32 × Vec F S128x32 .f32 :=
  cells (Gen.k0_pay25 x5) (Gen.k0_pay26 x7) (Gen.k0_pay27 x8) (Gen.k0_pay28 x9) (Gen.k0_pay24 x2 x4 x6) e n

/-- The states of the second cell at the slots of a chunk: slot `s` holds the state after `63 - s` steps. -/
def slots (x2 : Vec F S64x128x64 .f32) (x4 : Vec F S64x32 .f32) (x5 : Vec F S32x32 .f32) (x6 : Vec F S1x32 .f32) (x7 x8 : Vec F S32x32 .f32)
    (x9 : Vec F S1x32 .f32) (e : Vec F S128x32 .f32 × Vec F S128x32 .f32) : Vec F S8192x32 .f32 :=
  slotsOf (Gen.k0_pay25 x5) (Gen.k0_pay26 x7) (Gen.k0_pay27 x8) (Gen.k0_pay28 x9) (Gen.k0_pay24 x2 x4 x6) e

/-- The block that a point stores which does not start a row block: the slots integrated. -/
def outLater (x2 : Vec F S64x128x64 .f32) (x4 : Vec F S64x32 .f32) (x5 : Vec F S32x32 .f32) (x6 : Vec F S1x32 .f32) (x7 x8 : Vec F S32x32 .f32)
    (x9 : Vec F S1x32 .f32) (e : Vec F S128x32 .f32 × Vec F S128x32 .f32) (x10 : Vec F S32x128 .f32) (x11 : Vec F S1x128 .f32) (x12 : Vec F S128x128 .f32)
    (x13 : Vec F S1x128 .f32) (x14 : Vec F S128x32 .f32) (x15 : Vec F S1x32 .f32) : Vec F S64x128x32 .f32 :=
  outOf (Gen.k0_pay35 x10) (Gen.k0_pay36 x11) (Gen.k0_pay37 x12) (Gen.k0_pay38 x13) (Gen.k0_pay39 x14) (Gen.k0_pay40 x15)
    (slots x2 x4 x5 x6 x7 x8 x9 e)

/-- The block that a point stores which starts a row block: its last row is the slot before the last, not integrated. -/
def outFirst (x2 : Vec F S64x128x64 .f32) (x4 : Vec F S64x32 .f32) (x5 : Vec F S32x32 .f32) (x6 : Vec F S1x32 .f32) (x7 x8 : Vec F S32x32 .f32)
    (x9 : Vec F S1x32 .f32) (e : Vec F S128x32 .f32 × Vec F S128x32 .f32) (x10 : Vec F S32x128 .f32) (x11 : Vec F S1x128 .f32) (x12 : Vec F S128x128 .f32)
    (x13 : Vec F S1x128 .f32) (x14 : Vec F S128x32 .f32) (x15 : Vec F S1x32 .f32) : Vec F S64x128x32 .f32 := fun y =>
  if (y 0).val = 63 then
    Gen.k0_pay3 (View.ld (slots x2 x4 x5 x6 x7 x8 x9 e) (rowRect 1))
      (ix3 (0 : Fin 1) (⟨(y 1).val, (y 1).isLt⟩ : Fin 128) (⟨(y 2).val, (y 2).isLt⟩ : Fin 32))
  else outLater x2 x4 x5 x6 x7 x8 x9 e x10 x11 x12 x13 x14 x15 y

section

variable (i : grid0.Coords)
  (arg2 : Memref sig .tc .vmem S64x128x64 .f32) (harg2 : arg2.IsWhole)
  (arg3 : Memref sig .tc .vmem S2x32 .f32) (harg3 : arg3.IsWhole)
  (arg4 : Memref sig .tc .vmem S64x32 .f32) (harg4 : arg4.IsWhole)
  (arg5 : Memref sig .tc .vmem S32x32 .f32) (harg5 : arg5.IsWhole)
  (arg6 : Memref sig .tc .vmem S1x32 .f32) (harg6 : arg6.IsWhole)
  (arg7 : Memref sig .tc .vmem S32x32 .f32) (harg7 : arg7.IsWhole)
  (arg8 : Memref sig .tc .vmem S32x32 .f32) (harg8 : arg8.IsWhole)
  (arg9 : Memref sig .tc .vmem S1x32 .f32) (harg9 : arg9.IsWhole)
  (arg10 : Memref sig .tc .vmem S32x128 .f32) (harg10 : arg10.IsWhole)
  (arg11 : Memref sig .tc .vmem S1x128 .f32) (harg11 : arg11.IsWhole)
  (arg12 : Memref sig .tc .vmem S128x128 .f32) (harg12 : arg12.IsWhole)
  (arg13 : Memref sig .tc .vmem S1x128 .f32) (harg13 : arg13.IsWhole)
  (arg14 : Memref sig .tc .vmem S128x32 .f32) (harg14 : arg14.IsWhole)
  (arg15 : Memref sig .tc .vmem S1x32 .f32) (harg15 : arg15.IsWhole)
  (arg16 : Memref sig .tc .vmem S64x128x32 .f32) (harg16 : arg16.IsWhole)
  (arg17 : Memref sig .tc .vmem S128x32 .f32) (harg17 : arg17.IsWhole)
  (arg18 : Memref sig .tc .vmem S128x32 .f32) (harg18 : arg18.IsWhole)
  (arg19 : Memref sig .tc .vmem S8192x32 .f32) (harg19 : arg19.IsWhole)
  (arg20 : Memref sig .tc .vmem S8192x32 .f32) (harg20 : arg20.IsWhole)

theorem run_first (c : Dev nD) (x2 : Vec F S64x128x64 .f32) (x3 : Vec F S2x32 .f32) (x4 : Vec F S64x32 .f32) (x5 : Vec F S32x32 .f32) (x6 : Vec F S1x32 .f32) (x7 : Vec F S32x32 .f32) (x8 : Vec F S32x32 .f32) (x9 : Vec F S1x32 .f32) (x10 : Vec F S32x128 .f32) (x11 : Vec F S1x128 .f32) (x12 : Vec F S128x128 .f32) (x13 : Vec F S1x128 .f32) (x14 : Vec F S128x32 .f32) (x15 : Vec F S1x32 .f32)
    (hc : Scalar.cmpi .ne (Scalar.extui (Scalar.cmpi .eq (BitVec.ofNat 32 (i 1).val) 0#32)) 0#32 = 1#1) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (outFirst x2 x4 x5 x6 x7 x8 x9 (first x3) x10 x11 x12 x13 x14 x15) ∗ owns (c : Thread nD τ) arg17 fullShare (states x2 x4 x5 x6 x7 x8 x9 (first x3) 64).1 ∗ owns (c : Thread nD τ) arg18 fullShare (states x2 x4 x5 x6 x7 x8 x9 (first x3) 64).2 ∗ (∃ d, owns (c : Thread nD τ) arg19 fullShare d) ∗ (∃ d, owns (c : Thread nD τ) arg20 fullShare d)) -∗ K ⟨⟩))
      ⊢ wp frame (wpE (defs₀ (F := F)) Variants.none (c : Thread nD τ) none) E (cc0_ode_encoder_fused (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [Gen.cc0_ode_encoder_fused_eq_skeleton]
  unfold Gen.cc0_ode_encoder_fused_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  sl_exec (disch := first | sl_exact hc)
  sl_step
  have e1 : Scf.trips k0_t1_loop.lb k0_t1_loop.ub k0_t1_loop.st = 63 := by decide +kernel
  have e2 : Scf.trips k0_t2_loop.lb k0_t2_loop.ub k0_t2_loop.st = 16 := by decide +kernel
  have a5 : run_first.sl.r arg5 harg5 c x5 = Gen.k0_pay25 x5 := congrArg Gen.k0_pay25 (whole harg5 _ x5)
  have a7 : run_first.sl.r_1 arg7 harg7 c x7 = Gen.k0_pay26 x7 := congrArg Gen.k0_pay26 (whole harg7 _ x7)
  have a8 : run_first.sl.r_2 arg8 harg8 c x8 = Gen.k0_pay27 x8 := congrArg Gen.k0_pay27 (whole harg8 _ x8)
  have a9 : run_first.sl.r_3 arg9 harg9 c x9 = Gen.k0_pay28 x9 := congrArg Gen.k0_pay28 (whole harg9 _ x9)
  have a10 : run_first.sl.r_4 arg10 harg10 c x10 = Gen.k0_pay35 x10 := congrArg Gen.k0_pay35 (whole harg10 _ x10)
  have a11 : run_first.sl.r_5 arg11 harg11 c x11 = Gen.k0_pay36 x11 := congrArg Gen.k0_pay36 (whole harg11 _ x11)
  have a12 : run_first.sl.r_6 arg12 harg12 c x12 = Gen.k0_pay37 x12 := congrArg Gen.k0_pay37 (whole harg12 _ x12)
  have a13 : run_first.sl.r_7 arg13 harg13 c x13 = Gen.k0_pay38 x13 := congrArg Gen.k0_pay38 (whole harg13 _ x13)
  have a14 : run_first.sl.r_8 arg14 harg14 c x14 = Gen.k0_pay39 x14 := congrArg Gen.k0_pay39 (whole harg14 _ x14)
  have a15 : run_first.sl.r_9 arg15 harg15 c x15 = Gen.k0_pay40 x15 := congrArg Gen.k0_pay40 (whole harg15 _ x15)
  have a17 : run_first.sl.v28 arg3 harg3 arg17 c x3 = (first x3).1 := by
    unfold run_first.sl.v28 run_first.sl.H17_1
    rw [View.readCov_full]
    exact congrArg (fun y => Gen.k0_pay21 (View.ld y (Rect.unit (s := S2x32) ![0, 0] S1x32.size Gen.inb_S2x32_S1x32_0_0))) (harg3.read_unread x3)
  have a18 : run_first.sl.v3 arg3 harg3 arg18 c x3 = (first x3).2 := by
    unfold run_first.sl.v3 run_first.sl.H18_1
    rw [View.readCov_full]
    exact congrArg (fun y => Gen.k0_pay22 (View.ld y (Rect.unit (s := S2x32) ![1, 0] S1x32.size Gen.inb_S2x32_S1x32_1_0))) (harg3.read_unread x3)
  have aW : arg19.view.read (Elt F) (arg19.view.writes (Elt F) arg19.view.junk (run_first.sl.H19_1 arg2 harg2 arg4 harg4 arg6 harg6 c x2 x4 x6))
      = Gen.k0_pay24 x2 x4 x6 := by
    unfold run_first.sl.H19_1
    rw [View.read_writes_full, whole harg2, whole harg4, whole harg6]
  have a33 : run_first.sl.v33 arg2 harg2 arg4 harg4 arg6 harg6 arg19 c x2 x4 x6 = View.ld (Gen.k0_pay24 x2 x4 x6) (rowRect 63) :=
    (readAt_off arg19.view (by decide) _ (row_inb 63) _).trans (congrArg (View.ld · (rowRect 63)) aW)
  have aR : arg20.view.read (Elt F) (arg20.view.writes (Elt F) arg20.view.junk
      (pieces1 (Gen.k0_pay25 x5) (Gen.k0_pay26 x7) (Gen.k0_pay27 x8) (Gen.k0_pay28 x9) (Gen.k0_pay24 x2 x4 x6) (first x3) 63 ++
        [⟨Rect.unit (s := S8192x32) ![8064, 0] S128x32.size Gen.inb_S8192x32_S128x32_8064_0, Gen.k0_pay23 (first x3).2⟩]))
      = slots x2 x4 x5 x6 x7 x8 x9 (first x3) := read_slots _ _ _ _ _ _ arg20.view _ _
  have a65 : run_first.sl.v65 arg2 harg2 arg3 harg3 arg4 harg4 arg5 harg5 arg6 harg6 arg7 harg7 arg8 harg8 arg9 harg9 arg17 arg18 arg19 arg20 c x2 x3 x4 x5 x6 x7 x8 x9
      = View.ld (slots x2 x4 x5 x6 x7 x8 x9 (first x3)) (rowRect 1) := by
    unfold run_first.sl.v65
    rw [a5, a7, a8, a9, aW, a17, a18, e1]
    exact (readAt_off arg20.view (by decide) _ (row_inb 1) _).trans (congrArg (View.ld · (rowRect 1)) aR)
  iapply Hk
  isplitl [H2]
  · iexists _
    isplitr
    swap
    · iexact H2
    ipureintro
    exact harg2.read_unread _
  isplitl [H3]
  · iexists _
    isplitr
    swap
    · iexact H3
    ipureintro
    exact harg3.read_unread _
  isplitl [H4]
  · iexists _
    isplitr
    swap
    · iexact H4
    ipureintro
    exact harg4.read_unread _
  isplitl [H5]
  · iexists _
    isplitr
    swap
    · iexact H5
    ipureintro
    exact harg5.read_unread _
  isplitl [H6]
  · iexists _
    isplitr
    swap
    · iexact H6
    ipureintro
    exact harg6.read_unread _
  isplitl [H7]
  · iexists _
    isplitr
    swap
    · iexact H7
    ipureintro
    exact harg7.read_unread _
  isplitl [H8]
  · iexists _
    isplitr
    swap
    · iexact H8
    ipureintro
    exact harg8.read_unread _
  isplitl [H9]
  · iexists _
    isplitr
    swap
    · iexact H9
    ipureintro
    exact harg9.read_unread _
  isplitl [H10]
  · iexists _
    isplitr
    swap
    · iexact H10
    ipureintro
    exact harg10.read_unread _
  isplitl [H11]
  · iexists _
    isplitr
    swap
    · iexact H11
    ipureintro
    exact harg11.read_unread _
  isplitl [H12]
  · iexists _
    isplitr
    swap
    · iexact H12
    ipureintro
    exact harg12.read_unread _
  isplitl [H13]
  · iexists _
    isplitr
    swap
    · iexact H13
    ipureintro
    exact harg13.read_unread _
  isplitl [H14]
  · iexists _
    isplitr
    swap
    · iexact H14
    ipureintro
    exact harg14.read_unread _
  isplitl [H15]
  · iexists _
    isplitr
    swap
    · iexact H15
    ipureintro
    exact harg15.read_unread _
  isplitl [H16]
  · iexists _
    isplitr
    swap
    · iexact H16
    ipureintro
    rw [a10, a11, a12, a13, a14, a15, a5, a7, a8, a9, aW, a17, a18, e1, e2, a65]
    refine (read_out_first _ _ _ _ _ _ _ arg16.view f16 _ _).trans ?_
    rw [show ((first x3).1, (first x3).2) = first x3 from rfl, aR]
    rfl
  isplitl [H17]
  · iexists _
    isplitr
    swap
    · iexact H17
    ipureintro

    rw [View.read_writes_full, pay33_eq, a5, a7, a8, a9, aW, a17, a18, a33, e1]
    rfl
  isplitl [H18]
  · iexists _
    isplitr
    swap
    · iexact H18
    ipureintro

    rw [View.read_writes_full, pay34_eq, a5, a7, a8, a9, aW, a17, a18, a33, e1]
    rfl
  isplitl [H19]
  · iexists _, _
    isplitr
    swap
    · iexact H19
    ipureintro
    rfl
  iexists _, _
  isplitr
  swap
  · iexact H20
  ipureintro
  rfl

theorem run_later (c : Dev nD) (x2 : Vec F S64x128x64 .f32) (x3 : Vec F S2x32 .f32) (x4 : Vec F S64x32 .f32) (x5 : Vec F S32x32 .f32) (x6 : Vec F S1x32 .f32) (x7 : Vec F S32x32 .f32) (x8 : Vec F S32x32 .f32) (x9 : Vec F S1x32 .f32) (x10 : Vec F S32x128 .f32) (x11 : Vec F S1x128 .f32) (x12 : Vec F S128x128 .f32) (x13 : Vec F S1x128 .f32) (x14 : Vec F S128x32 .f32) (x15 : Vec F S1x32 .f32)
    (s17 s18 : Vec F S128x32 .f32) (hc : ¬ Scalar.cmpi .ne (Scalar.extui (Scalar.cmpi .eq (BitVec.ofNat 32 (i 1).val) 0#32)) 0#32 = 1#1) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ owns (c : Thread nD τ) arg17 fullShare s17 ∗ owns (c : Thread nD τ) arg18 fullShare s18 ∗ (∃ d, owns (c : Thread nD τ) arg19 fullShare d) ∗ (∃ d, owns (c : Thread nD τ) arg20 fullShare d)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (outLater x2 x4 x5 x6 x7 x8 x9 (s17, s18) x10 x11 x12 x13 x14 x15) ∗ owns (c : Thread nD τ) arg17 fullShare (states x2 x4 x5 x6 x7 x8 x9 (s17, s18) 64).1 ∗ owns (c : Thread nD τ) arg18 fullShare (states x2 x4 x5 x6 x7 x8 x9 (s17, s18) 64).2 ∗ (∃ d, owns (c : Thread nD τ) arg19 fullShare d) ∗ (∃ d, owns (c : Thread nD τ) arg20 fullShare d)) -∗ K ⟨⟩))
      ⊢ wp frame (wpE (defs₀ (F := F)) Variants.none (c : Thread nD τ) none) E (cc0_ode_encoder_fused (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [Gen.cc0_ode_encoder_fused_eq_skeleton]
  unfold Gen.cc0_ode_encoder_fused_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%f18, %hf18, H18⟩, ⟨%d19, %f19, -, H19⟩, ⟨%d20, %f20, -, H20⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg17.eq_unread hf17
  obtain rfl := harg18.eq_unread hf18
  sl_exec (disch := first | sl_exact hc)
  sl_step
  have e1 : Scf.trips k0_t1_loop.lb k0_t1_loop.ub k0_t1_loop.st = 63 := by decide +kernel
  have e2 : Scf.trips k0_t2_loop.lb k0_t2_loop.ub k0_t2_loop.st = 16 := by decide +kernel
  have a5 : run_later.sl.r_1 arg5 harg5 c x5 = Gen.k0_pay25 x5 := congrArg Gen.k0_pay25 (whole harg5 _ x5)
  have a7 : run_later.sl.r_2 arg7 harg7 c x7 = Gen.k0_pay26 x7 := congrArg Gen.k0_pay26 (whole harg7 _ x7)
  have a8 : run_later.sl.r_3 arg8 harg8 c x8 = Gen.k0_pay27 x8 := congrArg Gen.k0_pay27 (whole harg8 _ x8)
  have a9 : run_later.sl.r_4 arg9 harg9 c x9 = Gen.k0_pay28 x9 := congrArg Gen.k0_pay28 (whole harg9 _ x9)
  have a10 : run_later.sl.r_6 arg10 harg10 c x10 = Gen.k0_pay35 x10 := congrArg Gen.k0_pay35 (whole harg10 _ x10)
  have a11 : run_later.sl.r_7 arg11 harg11 c x11 = Gen.k0_pay36 x11 := congrArg Gen.k0_pay36 (whole harg11 _ x11)
  have a12 : run_later.sl.r_8 arg12 harg12 c x12 = Gen.k0_pay37 x12 := congrArg Gen.k0_pay37 (whole harg12 _ x12)
  have a13 : run_later.sl.r_9 arg13 harg13 c x13 = Gen.k0_pay38 x13 := congrArg Gen.k0_pay38 (whole harg13 _ x13)
  have a14 : run_later.sl.r_10 arg14 harg14 c x14 = Gen.k0_pay39 x14 := congrArg Gen.k0_pay39 (whole harg14 _ x14)
  have a15 : run_later.sl.r_11 arg15 harg15 c x15 = Gen.k0_pay40 x15 := congrArg Gen.k0_pay40 (whole harg15 _ x15)
  have a17 : run_later.sl.r_5 arg17 harg17 c s17 = s17 := whole harg17 _ s17
  have a18 : run_later.sl.r arg18 harg18 c s18 = s18 := whole harg18 _ s18
  have aW : arg19.view.read (Elt F) (arg19.view.writes (Elt F) arg19.view.junk (run_later.sl.H19_1 arg2 harg2 arg4 harg4 arg6 harg6 c x2 x4 x6))
      = Gen.k0_pay24 x2 x4 x6 := by
    unfold run_later.sl.H19_1
    rw [View.read_writes_full, whole harg2, whole harg4, whole harg6]
  have a33 : run_later.sl.v33 arg2 harg2 arg4 harg4 arg6 harg6 arg19 c x2 x4 x6 = View.ld (Gen.k0_pay24 x2 x4 x6) (rowRect 63) :=
    (readAt_off arg19.view (by decide) _ (row_inb 63) _).trans (congrArg (View.ld · (rowRect 63)) aW)
  have aR : arg20.view.read (Elt F) (arg20.view.writes (Elt F) arg20.view.junk
      (pieces1 (Gen.k0_pay25 x5) (Gen.k0_pay26 x7) (Gen.k0_pay27 x8) (Gen.k0_pay28 x9) (Gen.k0_pay24 x2 x4 x6) (s17, s18) 63 ++
        [⟨Rect.unit (s := S8192x32) ![8064, 0] S128x32.size Gen.inb_S8192x32_S128x32_8064_0, Gen.k0_pay23 (s17, s18).2⟩]))
      = slots x2 x4 x5 x6 x7 x8 x9 (s17, s18) := read_slots _ _ _ _ _ _ arg20.view _ _
  iapply Hk
  isplitl [H2]
  · iexists _
    isplitr
    swap
    · iexact H2
    ipureintro
    exact harg2.read_unread _
  isplitl [H3]
  · iexists _
    isplitr
    swap
    · iexact H3
    ipureintro
    exact harg3.read_unread _
  isplitl [H4]
  · iexists _
    isplitr
    swap
    · iexact H4
    ipureintro
    exact harg4.read_unread _
  isplitl [H5]
  · iexists _
    isplitr
    swap
    · iexact H5
    ipureintro
    exact harg5.read_unread _
  isplitl [H6]
  · iexists _
    isplitr
    swap
    · iexact H6
    ipureintro
    exact harg6.read_unread _
  isplitl [H7]
  · iexists _
    isplitr
    swap
    · iexact H7
    ipureintro
    exact harg7.read_unread _
  isplitl [H8]
  · iexists _
    isplitr
    swap
    · iexact H8
    ipureintro
    exact harg8.read_unread _
  isplitl [H9]
  · iexists _
    isplitr
    swap
    · iexact H9
    ipureintro
    exact harg9.read_unread _
  isplitl [H10]
  · iexists _
    isplitr
    swap
    · iexact H10
    ipureintro
    exact harg10.read_unread _
  isplitl [H11]
  · iexists _
    isplitr
    swap
    · iexact H11
    ipureintro
    exact harg11.read_unread _
  isplitl [H12]
  · iexists _
    isplitr
    swap
    · iexact H12
    ipureintro
    exact harg12.read_unread _
  isplitl [H13]
  · iexists _
    isplitr
    swap
    · iexact H13
    ipureintro
    exact harg13.read_unread _
  isplitl [H14]
  · iexists _
    isplitr
    swap
    · iexact H14
    ipureintro
    exact harg14.read_unread _
  isplitl [H15]
  · iexists _
    isplitr
    swap
    · iexact H15
    ipureintro
    exact harg15.read_unread _
  isplitl [H16]
  · iexists _
    isplitr
    swap
    · iexact H16
    ipureintro
    rw [a10, a11, a12, a13, a14, a15, a5, a7, a8, a9, aW, a17, a18, e1, e2, whole harg18]
    refine (read_out _ _ _ _ _ _ _ arg16.view f16).trans ?_
    exact congrArg (outOf _ _ _ _ _ _) aR
  isplitl [H17]
  · iexists _
    isplitr
    swap
    · iexact H17
    ipureintro
    unfold run_later.sl.H17_1
    rw [View.read_writes_full, pay33_eq, a5, a7, a8, a9, aW, a17, a18, a33, e1]
    rfl
  isplitl [H18]
  · iexists _
    isplitr
    swap
    · iexact H18
    ipureintro
    unfold run_later.sl.H18_1
    rw [View.read_writes_full, pay34_eq, a5, a7, a8, a9, aW, a17, a18, a33, e1]
    rfl
  isplitl [H19]
  · iexists _, _
    isplitr
    swap
    · iexact H19
    ipureintro
    rfl
  iexists _, _
  isplitr
  swap
  · iexact H20
  ipureintro
  rfl

end

end Cert.Proof.KernelIdeal

end
-- ==== Proof.KernelIdeal.Run.lean ====
module

public import proofs.«01_k».proof.Proof.KernelIdeal.Body
public import proofs.«01_k».proof.Proof.Gen.KernelIdeal.Frame
public import Idealize.ShloMosaic.Lib.Claim

@[expose] public section

set_option maxRecDepth 16384
set_option maxHeartbeats 2000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the proof. -/
local notation "𝕄" => MT nD τ sig Unit (Elt F) ℕ (UR sig nD τ) ℕ

/-! ### Points, buffers and blocks -/

/-- The kernel's test for the first point of a row block. -/
abbrev starts (i : grid0.Coords) : Prop :=
  Scalar.cmpi .ne (Scalar.extui (Scalar.cmpi .eq (BitVec.ofNat 32 (i 1).val) 0#32)) 0#32 = 1#1

/-- A row block starts at the points that sixteen divides. -/
theorem starts_iff : ∀ t : Fin cfg0.N, starts (grid0.coords t) ↔ t.val % 16 = 0 :=
  (by decide +kernel : ∀ t : Fin grid0.N, starts (grid0.coords t) ↔ t.val % 16 = 0)

/-- The buffer that stages window 0 at point `t`, and that it is a whole one. -/
abbrev stg0 (t : Fin cfg0.N) : Memref sig .tc .vmem S64x128x64 .f32 := win0_0.stage (cfg0.slots t 0)
theorem stg0_whole (t : Fin cfg0.N) : (stg0 t).IsWhole := hstage0_0 ((cfg0.slots t 0).cast nbuf0_0)

/-- The buffer that stages window 1 at point `t`, and that it is a whole one. -/
abbrev stg1 (t : Fin cfg0.N) : Memref sig .tc .vmem S2x32 .f32 := win0_1.stage (cfg0.slots t 1)
theorem stg1_whole (t : Fin cfg0.N) : (stg1 t).IsWhole := hstage0_1 ((cfg0.slots t 1).cast nbuf0_1)

/-- The buffer that stages window 2 at point `t`, and that it is a whole one. -/
abbrev stg2 (t : Fin cfg0.N) : Memref sig .tc .vmem S64x32 .f32 := win0_2.stage (cfg0.slots t 2)
theorem stg2_whole (t : Fin cfg0.N) : (stg2 t).IsWhole := hstage0_2 ((cfg0.slots t 2).cast nbuf0_2)

/-- The buffer that stages window 3 at point `t`, and that it is a whole one. -/
abbrev stg3 (t : Fin cfg0.N) : Memref sig .tc .vmem S32x32 .f32 := win0_3.stage (cfg0.slots t 3)
theorem stg3_whole (t : Fin cfg0.N) : (stg3 t).IsWhole := hstage0_3 ((cfg0.slots t 3).cast nbuf0_3)

/-- The buffer that stages window 4 at point `t`, and that it is a whole one. -/
abbrev stg4 (t : Fin cfg0.N) : Memref sig .tc .vmem S1x32 .f32 := win0_4.stage (cfg0.slots t 4)
theorem stg4_whole (t : Fin cfg0.N) : (stg4 t).IsWhole := hstage0_4 ((cfg0.slots t 4).cast nbuf0_4)

/-- The buffer that stages window 5 at point `t`, and that it is a whole one. -/
abbrev stg5 (t : Fin cfg0.N) : Memref sig .tc .vmem S32x32 .f32 := win0_5.stage (cfg0.slots t 5)
theorem stg5_whole (t : Fin cfg0.N) : (stg5 t).IsWhole := hstage0_5 ((cfg0.slots t 5).cast nbuf0_5)

/-- The buffer that stages window 6 at point `t`, and that it is a whole one. -/
abbrev stg6 (t : Fin cfg0.N) : Memref sig .tc .vmem S32x32 .f32 := win0_6.stage (cfg0.slots t 6)
theorem stg6_whole (t : Fin cfg0.N) : (stg6 t).IsWhole := hstage0_6 ((cfg0.slots t 6).cast nbuf0_6)

/-- The buffer that stages window 7 at point `t`, and that it is a whole one. -/
abbrev stg7 (t : Fin cfg0.N) : Memref sig .tc .vmem S1x32 .f32 := win0_7.stage (cfg0.slots t 7)
theorem stg7_whole (t : Fin cfg0.N) : (stg7 t).IsWhole := hstage0_7 ((cfg0.slots t 7).cast nbuf0_7)

/-- The buffer that stages window 8 at point `t`, and that it is a whole one. -/
abbrev stg8 (t : Fin cfg0.N) : Memref sig .tc .vmem S32x128 .f32 := win0_8.stage (cfg0.slots t 8)
theorem stg8_whole (t : Fin cfg0.N) : (stg8 t).IsWhole := hstage0_8 ((cfg0.slots t 8).cast nbuf0_8)

/-- The buffer that stages window 9 at point `t`, and that it is a whole one. -/
abbrev stg9 (t : Fin cfg0.N) : Memref sig .tc .vmem S1x128 .f32 := win0_9.stage (cfg0.slots t 9)
theorem stg9_whole (t : Fin cfg0.N) : (stg9 t).IsWhole := hstage0_9 ((cfg0.slots t 9).cast nbuf0_9)

/-- The buffer that stages window 10 at point `t`, and that it is a whole one. -/
abbrev stg10 (t : Fin cfg0.N) : Memref sig .tc .vmem S128x128 .f32 := win0_10.stage (cfg0.slots t 10)
theorem stg10_whole (t : Fin cfg0.N) : (stg10 t).IsWhole := hstage0_10 ((cfg0.slots t 10).cast nbuf0_10)

/-- The buffer that stages window 11 at point `t`, and that it is a whole one. -/
abbrev stg11 (t : Fin cfg0.N) : Memref sig .tc .vmem S1x128 .f32 := win0_11.stage (cfg0.slots t 11)
theorem stg11_whole (t : Fin cfg0.N) : (stg11 t).IsWhole := hstage0_11 ((cfg0.slots t 11).cast nbuf0_11)

/-- The buffer that stages window 12 at point `t`, and that it is a whole one. -/
abbrev stg12 (t : Fin cfg0.N) : Memref sig .tc .vmem S128x32 .f32 := win0_12.stage (cfg0.slots t 12)
theorem stg12_whole (t : Fin cfg0.N) : (stg12 t).IsWhole := hstage0_12 ((cfg0.slots t 12).cast nbuf0_12)

/-- The buffer that stages window 13 at point `t`, and that it is a whole one. -/
abbrev stg13 (t : Fin cfg0.N) : Memref sig .tc .vmem S1x32 .f32 := win0_13.stage (cfg0.slots t 13)
theorem stg13_whole (t : Fin cfg0.N) : (stg13 t).IsWhole := hstage0_13 ((cfg0.slots t 13).cast nbuf0_13)

/-- The buffer that stages window 14 at point `t`, and that it is a whole one. -/
abbrev stg14 (t : Fin cfg0.N) : Memref sig .tc .vmem S64x128x32 .f32 := win0_14.stage (cfg0.slots t 14)
theorem stg14_whole (t : Fin cfg0.N) : (stg14 t).IsWhole := hstage0_14 ((cfg0.slots t 14).cast nbuf0_14)

/-- Scratch buffer 0. -/
abbrev scr0 : Memref sig .tc .vmem S128x32 .f32 := Memref.whole cc0_scratch0

/-- Scratch buffer 1. -/
abbrev scr1 : Memref sig .tc .vmem S128x32 .f32 := Memref.whole cc0_scratch1

/-- Scratch buffer 2. -/
abbrev scr2 : Memref sig .tc .vmem S8192x32 .f32 := Memref.whole cc0_scratch2

/-- Scratch buffer 3. -/
abbrev scr3 : Memref sig .tc .vmem S8192x32 .f32 := Memref.whole cc0_scratch3

variable (m : (ℓ : Loc nD τ sig) → Buf (Elt F) ℓ) (ρ : Dev nD → PrngReg)

/-- The block of window 0 at point `t`. -/
abbrev blk0 (c : Dev nD) (t : Fin cfg0.N) : Vec F S64x128x64 .f32 := iblk m c 0 t
/-- The block of window 1 at point `t`. -/
abbrev blk1 (c : Dev nD) (t : Fin cfg0.N) : Vec F S2x32 .f32 := iblk m c 1 t
/-- The block of window 2 at point `t`. -/
abbrev blk2 (c : Dev nD) (t : Fin cfg0.N) : Vec F S64x32 .f32 := iblk m c 2 t
/-- The block of window 3 at point `t`. -/
abbrev blk3 (c : Dev nD) (t : Fin cfg0.N) : Vec F S32x32 .f32 := iblk m c 3 t
/-- The block of window 4 at point `t`. -/
abbrev blk4 (c : Dev nD) (t : Fin cfg0.N) : Vec F S1x32 .f32 := iblk m c 4 t
/-- The block of window 5 at point `t`. -/
abbrev blk5 (c : Dev nD) (t : Fin cfg0.N) : Vec F S32x32 .f32 := iblk m c 5 t
/-- The block of window 6 at point `t`. -/
abbrev blk6 (c : Dev nD) (t : Fin cfg0.N) : Vec F S32x32 .f32 := iblk m c 6 t
/-- The block of window 7 at point `t`. -/
abbrev blk7 (c : Dev nD) (t : Fin cfg0.N) : Vec F S1x32 .f32 := iblk m c 7 t
/-- The block of window 8 at point `t`. -/
abbrev blk8 (c : Dev nD) (t : Fin cfg0.N) : Vec F S32x128 .f32 := iblk m c 8 t
/-- The block of window 9 at point `t`. -/
abbrev blk9 (c : Dev nD) (t : Fin cfg0.N) : Vec F S1x128 .f32 := iblk m c 9 t
/-- The block of window 10 at point `t`. -/
abbrev blk10 (c : Dev nD) (t : Fin cfg0.N) : Vec F S128x128 .f32 := iblk m c 10 t
/-- The block of window 11 at point `t`. -/
abbrev blk11 (c : Dev nD) (t : Fin cfg0.N) : Vec F S1x128 .f32 := iblk m c 11 t
/-- The block of window 12 at point `t`. -/
abbrev blk12 (c : Dev nD) (t : Fin cfg0.N) : Vec F S128x32 .f32 := iblk m c 12 t
/-- The block of window 13 at point `t`. -/
abbrev blk13 (c : Dev nD) (t : Fin cfg0.N) : Vec F S1x32 .f32 := iblk m c 13 t

/-- The states of both cells after point `t`, from those before it. -/
def advance (c : Dev nD) (t : Fin cfg0.N) (e : Vec F S128x32 .f32 × Vec F S128x32 .f32) : Vec F S128x32 .f32 × Vec F S128x32 .f32 :=
  states (blk0 m c t) (blk2 m c t) (blk3 m c t) (blk4 m c t) (blk5 m c t) (blk6 m c t) (blk7 m c t) e 64

/-- The states of both cells after point `n`: a row block starts from the initial states, and each other point goes on
    from the point before it. -/
def carried (c : Dev nD) : (n : ℕ) → n < cfg0.N → Vec F S128x32 .f32 × Vec F S128x32 .f32
  | 0, h => advance m c ⟨0, h⟩ (first (blk1 m c ⟨0, h⟩))
  | n + 1, h => advance m c ⟨n + 1, h⟩ (if (n + 1) % 16 = 0 then first (blk1 m c ⟨n + 1, h⟩) else carried c n (Nat.lt_of_succ_lt h))

/-- The states of both cells before point `t`. -/
def entering (c : Dev nD) (t : Fin cfg0.N) : Vec F S128x32 .f32 × Vec F S128x32 .f32 :=
  if t.val % 16 = 0 then first (blk1 m c t) else carried m c (t.val - 1) (Nat.lt_of_le_of_lt (Nat.sub_le _ _) t.isLt)

/-- The states after a point are those before it, advanced. -/
theorem carried_eq (c : Dev nD) (t : Fin cfg0.N) : carried m c t.val t.isLt = advance m c t (entering m c t) := by
  obtain ⟨n, h⟩ := t
  cases n with
  | zero => rfl
  | succ n => rfl

/-- The block that point `t` stores. -/
def stored (c : Dev nD) (t : Fin cfg0.N) : Vec F S64x128x32 .f32 :=
  if t.val % 16 = 0 then outFirst (blk0 m c t) (blk2 m c t) (blk3 m c t) (blk4 m c t) (blk5 m c t) (blk6 m c t) (blk7 m c t) (entering m c t) (blk8 m c t) (blk9 m c t) (blk10 m c t) (blk11 m c t) (blk12 m c t) (blk13 m c t)
  else outLater (blk0 m c t) (blk2 m c t) (blk3 m c t) (blk4 m c t) (blk5 m c t) (blk6 m c t) (blk7 m c t) (entering m c t) (blk8 m c t) (blk9 m c t) (blk10 m c t) (blk11 m c t) (blk12 m c t) (blk13 m c t)

/-! ### The scratch buffers between the points -/

/-- A scratch buffer at some contents, as a memref. -/
theorem scr_owns (c : Dev nD) (b : Ref sig .tc) :
    iprop(∃ f : Buf (Elt F) ((c : Thread nD τ).loc b), ((c : Thread nD τ).loc b) ↦{fullShare} f)
      ⊢ (iprop(∃ d, owns (c : Thread nD τ) (Memref.whole b) fullShare d) : sProp 𝕄) := by
  unfold owns
  simp only [Memref.view_whole, View.read_whole, View.set_whole]
  iintro ⟨%f, H⟩
  iexists f, f
  isplitr
  · ipureintro
    rfl
  · iexact H

/-- And back. -/
theorem owns_scr (c : Dev nD) (b : Ref sig .tc) (d : b.ty.Contents (Elt F)) :
    owns (c : Thread nD τ) (Memref.whole b) fullShare d
      ⊢ (iprop(∃ f : Buf (Elt F) ((c : Thread nD τ).loc b), ((c : Thread nD τ).loc b) ↦{fullShare} f) : sProp 𝕄) := by
  unfold owns
  simp only [Memref.view_whole, View.read_whole, View.set_whole]
  iintro ⟨%f, -, H⟩
  iexists f
  iexact H

/-- The scratch buffers at any contents, and the register of the random numbers. -/
def loose (c : Dev nD) : sProp 𝕄 :=
  iprop((∃ d, owns (c : Thread nD τ) scr0 fullShare d) ∗ (∃ d, owns (c : Thread nD τ) scr1 fullShare d)
    ∗ (∃ d, owns (c : Thread nD τ) scr2 fullShare d) ∗ (∃ d, owns (c : Thread nD τ) scr3 fullShare d) ∗ ∃ r, prngReg c r)

/-- The scratch buffers with the states of both cells at `e`. -/
def held (c : Dev nD) (e : Vec F S128x32 .f32 × Vec F S128x32 .f32) : sProp 𝕄 :=
  iprop(owns (c : Thread nD τ) scr0 fullShare e.1 ∗ owns (c : Thread nD τ) scr1 fullShare e.2
    ∗ (∃ d, owns (c : Thread nD τ) scr2 fullShare d) ∗ (∃ d, owns (c : Thread nD τ) scr3 fullShare d) ∗ ∃ r, prngReg c r)

/-- Known states are some states. -/
theorem held_loose (c : Dev nD) (e : Vec F S128x32 .f32 × Vec F S128x32 .f32) : (held c e : sProp 𝕄) ⊢ loose c := by
  unfold held loose
  iintro ⟨H0, H1, H⟩
  isplitl [H0]
  · iexists _
    iexact H0
  isplitl [H1]
  · iexists _
    iexact H1
  iexact H

/-- What the region hands over at its start; -/
theorem enter_loose (c : Dev nD) : (Pipeline.ΦA spec0 c : sProp 𝕄) ⊢ loose c := by
  unfold Pipeline.ΦA loose
  rw [scopedRest0_eq]
  iintro ⟨⟨H0, H1, H2, H3⟩, Hr⟩
  isplitl [H0]
  · iapply (scr_owns c cc0_scratch0)
    iexact H0
  isplitl [H1]
  · iapply (scr_owns c cc0_scratch1)
    iexact H1
  isplitl [H2]
  · iapply (scr_owns c cc0_scratch2)
    iexact H2
  isplitl [H3]
  · iapply (scr_owns c cc0_scratch3)
    iexact H3
  iexact Hr

/-- what it takes back at its end. -/
theorem leave_loose (c : Dev nD) : (loose c : sProp 𝕄) ⊢ Pipeline.ΦA spec0 c := by
  unfold Pipeline.ΦA loose
  rw [scopedRest0_eq]
  iintro ⟨⟨%d0, H0⟩, ⟨%d1, H1⟩, ⟨%d2, H2⟩, ⟨%d3, H3⟩, Hr⟩
  isplitr [Hr]
  · isplitl [H0]
    · iapply owns_scr
      iexact H0
    isplitl [H1]
    · iapply owns_scr
      iexact H1
    isplitl [H2]
    · iapply owns_scr
      iexact H2
    iapply owns_scr
    iexact H3
  iexact Hr

/-- What holds of the scratch buffers after `n` points. -/
def between (c : Dev nD) : (n : ℕ) → n ≤ cfg0.N → sProp 𝕄
  | 0, _ => loose c
  | n + 1, h => held c (carried m c n h)

/-- Whatever the point, the buffers are there. -/
theorem between_loose (c : Dev nD) (n : ℕ) (h : n ≤ cfg0.N) : between m c n h ⊢ loose c := by
  cases n with
  | zero => exact .rfl
  | succ n => exact held_loose c _

/-- Before a point that goes on with a row block the states are those of the point before it. -/
theorem between_held (c : Dev nD) (t : Fin cfg0.N) (h : ¬ t.val % 16 = 0) : between m c t.val (Nat.le_of_lt t.isLt) = held c (entering m c t) := by
  unfold entering
  rw [if_neg h]
  obtain ⟨n, hn⟩ := t
  cases n with
  | zero => exact absurd rfl h
  | succ n => rfl

/-! ### The pipeline's data -/

/-- Each window's array as the region finds it, and each window's buffer after a point: an operand's block, the stored block. -/
def dats (_ : Fin 1) (c : Dev nD) : Dat τ (Elt F) Unit ℕ (UR sig nD τ) ℕ cfg0 c where
  A w := V m c (Pipeline.arrRef spec0 w)
  after w t := match w with

    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => stored m c t
  Φ t := between m c t.val (Nat.le_of_lt_succ t.isLt)
  q _ := fullShare
  owed _ := 0

/-- The arrays are as the region finds them. -/
theorem A_eq (c : Dev nD) (w) : (dats m 0 c).A w = V m c (Pipeline.arrRef spec0 w) := by
  dsimp only [dats]

/-- The scratch buffers before a point. -/
theorem before_point (c : Dev nD) (t : Fin cfg0.N) : (dats m 0 c).Φ t.castSucc = between m c t.val (Nat.le_of_lt t.isLt) := by
  dsimp only [dats]
  exact Pipeline.Dat.Φ_castSucc (between m c) t

theorem after0_0 (c : Dev nD) (t) : (dats m 0 c).after 0 t = iblk m c 0 t := by
  dsimp only [dats]
theorem before0_0 (c : Dev nD) (t d) : (dats m 0 c).before 0 t d = iblk m c 0 t :=
  before0_0_of m (dats m 0 c) (A_eq m c 0) (after0_0 m c) t d
theorem after0_1 (c : Dev nD) (t) : (dats m 0 c).after 1 t = iblk m c 1 t := by
  dsimp only [dats]
theorem before0_1 (c : Dev nD) (t d) : (dats m 0 c).before 1 t d = iblk m c 1 t :=
  before0_1_of m (dats m 0 c) (A_eq m c 1) (after0_1 m c) t d
theorem after0_2 (c : Dev nD) (t) : (dats m 0 c).after 2 t = iblk m c 2 t := by
  dsimp only [dats]
theorem before0_2 (c : Dev nD) (t d) : (dats m 0 c).before 2 t d = iblk m c 2 t :=
  before0_2_of m (dats m 0 c) (A_eq m c 2) (after0_2 m c) t d
theorem after0_3 (c : Dev nD) (t) : (dats m 0 c).after 3 t = iblk m c 3 t := by
  dsimp only [dats]
theorem before0_3 (c : Dev nD) (t d) : (dats m 0 c).before 3 t d = iblk m c 3 t :=
  before0_3_of m (dats m 0 c) (A_eq m c 3) (after0_3 m c) t d
theorem after0_4 (c : Dev nD) (t) : (dats m 0 c).after 4 t = iblk m c 4 t := by
  dsimp only [dats]
theorem before0_4 (c : Dev nD) (t d) : (dats m 0 c).before 4 t d = iblk m c 4 t :=
  before0_4_of m (dats m 0 c) (A_eq m c 4) (after0_4 m c) t d
theorem after0_5 (c : Dev nD) (t) : (dats m 0 c).after 5 t = iblk m c 5 t := by
  dsimp only [dats]
theorem before0_5 (c : Dev nD) (t d) : (dats m 0 c).before 5 t d = iblk m c 5 t :=
  before0_5_of m (dats m 0 c) (A_eq m c 5) (after0_5 m c) t d
theorem after0_6 (c : Dev nD) (t) : (dats m 0 c).after 6 t = iblk m c 6 t := by
  dsimp only [dats]
theorem before0_6 (c : Dev nD) (t d) : (dats m 0 c).before 6 t d = iblk m c 6 t :=
  before0_6_of m (dats m 0 c) (A_eq m c 6) (after0_6 m c) t d
theorem after0_7 (c : Dev nD) (t) : (dats m 0 c).after 7 t = iblk m c 7 t := by
  dsimp only [dats]
theorem before0_7 (c : Dev nD) (t d) : (dats m 0 c).before 7 t d = iblk m c 7 t :=
  before0_7_of m (dats m 0 c) (A_eq m c 7) (after0_7 m c) t d
theorem after0_8 (c : Dev nD) (t) : (dats m 0 c).after 8 t = iblk m c 8 t := by
  dsimp only [dats]
theorem before0_8 (c : Dev nD) (t d) : (dats m 0 c).before 8 t d = iblk m c 8 t :=
  before0_8_of m (dats m 0 c) (A_eq m c 8) (after0_8 m c) t d
theorem after0_9 (c : Dev nD) (t) : (dats m 0 c).after 9 t = iblk m c 9 t := by
  dsimp only [dats]
theorem before0_9 (c : Dev nD) (t d) : (dats m 0 c).before 9 t d = iblk m c 9 t :=
  before0_9_of m (dats m 0 c) (A_eq m c 9) (after0_9 m c) t d
theorem after0_10 (c : Dev nD) (t) : (dats m 0 c).after 10 t = iblk m c 10 t := by
  dsimp only [dats]
theorem before0_10 (c : Dev nD) (t d) : (dats m 0 c).before 10 t d = iblk m c 10 t :=
  before0_10_of m (dats m 0 c) (A_eq m c 10) (after0_10 m c) t d
theorem after0_11 (c : Dev nD) (t) : (dats m 0 c).after 11 t = iblk m c 11 t := by
  dsimp only [dats]
theorem before0_11 (c : Dev nD) (t d) : (dats m 0 c).before 11 t d = iblk m c 11 t :=
  before0_11_of m (dats m 0 c) (A_eq m c 11) (after0_11 m c) t d
theorem after0_12 (c : Dev nD) (t) : (dats m 0 c).after 12 t = iblk m c 12 t := by
  dsimp only [dats]
theorem before0_12 (c : Dev nD) (t d) : (dats m 0 c).before 12 t d = iblk m c 12 t :=
  before0_12_of m (dats m 0 c) (A_eq m c 12) (after0_12 m c) t d
theorem after0_13 (c : Dev nD) (t) : (dats m 0 c).after 13 t = iblk m c 13 t := by
  dsimp only [dats]
theorem before0_13 (c : Dev nD) (t d) : (dats m 0 c).before 13 t d = iblk m c 13 t :=
  before0_13_of m (dats m 0 c) (A_eq m c 13) (after0_13 m c) t d
theorem after0_14 (c : Dev nD) (t) : (dats m 0 c).after 14 t = stored m c t := by
  dsimp only [dats]

/-- What a point starts from: the scratch buffers, the tallies, each window's buffer. -/
def pointPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d))
    ∗ (∃ d, owns (c : Thread nD τ) (stg13 t) fullShare ((dats m 0 c).before 13 t d))
    ∗ (∃ d, owns (c : Thread nD τ) (stg14 t) fullShare ((dats m 0 c).before 14 t d)))

/-- What it ends with. -/
def pointPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ owns (c : Thread nD τ) (stg11 t) fullShare ((dats m 0 c).after 11 t)
    ∗ owns (c : Thread nD τ) (stg12 t) fullShare ((dats m 0 c).after 12 t)
    ∗ owns (c : Thread nD τ) (stg13 t) fullShare ((dats m 0 c).after 13 t)
    ∗ owns (c : Thread nD τ) (stg14 t) fullShare ((dats m 0 c).after 14 t))

/-- The body at a point, between the two. -/
theorem sound_body (c : Dev nD) (t : Fin cfg0.N) :
    pointPre m c t ⊢ wp frame (wpE (defs₀ (F := F)) Variants.none (c : Thread nD τ) none) Set.univ (bodyAt0 t) fun _ => pointPost m c t := by
  unfold pointPre pointPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl, after0_0, after0_1, after0_2, after0_3, after0_4, after0_5, after0_6, after0_7, after0_8, after0_9, after0_10, after0_11, after0_12, after0_13, after0_14]
  rw [show (dats m 0 c).Φ t.succ = held c (carried m c t.val t.isLt) from rfl, before_point, carried_eq]
  unfold advance stored
  by_cases ht : t.val % 16 = 0
  · have he : entering m c t = first (blk1 m c t) := if_pos ht
    rw [he, if_pos ht]
    refine (sep_mono (between_loose m c _ _) .rfl).trans ?_
    unfold loose held
    iintro ⟨⟨S0, S1, S2, S3, Hr⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_first (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) (stg9 t) (stg9_whole t) (stg10 t) (stg10_whole t) (stg11 t) (stg11_whole t) (stg12 t) (stg12_whole t) (stg13 t) (stg13_whole t) (stg14 t) (stg14_whole t) scr0 (Memref.isWhole_whole _) scr1 (Memref.isWhole_whole _) scr2 (Memref.isWhole_whole _) scr3 (Memref.isWhole_whole _) c
      (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) ((starts_iff t).mpr ht))
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexists _
      iexact H14
    isplitl [S0]
    · iexact S0
    isplitl [S1]
    · iexact S1
    isplitl [S2]
    · iexact S2
    isplitl [S3]
    · iexact S3
    iintro ⟨H0, H1, H2, H3, H4, H5, H6, H7, H8, H9, H10, H11, H12, H13, H14, S0, S1, S2, S3⟩
    isplitl [S0 S1 S2 S3 Hr]
    · isplitl [S0]
      · iexact S0
      isplitl [S1]
      · iexact S1
      isplitl [S2]
      · iexact S2
      isplitl [S3]
      · iexact S3
      iexact Hr
    isplitl [HO]
    · iexact HO
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    iexact H14
  · rw [if_neg ht, between_held m c t ht]
    generalize entering m c t = e
    obtain ⟨s17, s18⟩ := e
    unfold held
    iintro ⟨⟨S0, S1, S2, S3, Hr⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_later (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) (stg9 t) (stg9_whole t) (stg10 t) (stg10_whole t) (stg11 t) (stg11_whole t) (stg12 t) (stg12_whole t) (stg13 t) (stg13_whole t) (stg14 t) (stg14_whole t) scr0 (Memref.isWhole_whole _) scr1 (Memref.isWhole_whole _) scr2 (Memref.isWhole_whole _) scr3 (Memref.isWhole_whole _) c
      (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) s17 s18 (fun h => ht ((starts_iff t).mp h)))
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexists _
      iexact H14
    isplitl [S0]
    · iexact S0
    isplitl [S1]
    · iexact S1
    isplitl [S2]
    · iexact S2
    isplitl [S3]
    · iexact S3
    iintro ⟨H0, H1, H2, H3, H4, H5, H6, H7, H8, H9, H10, H11, H12, H13, H14, S0, S1, S2, S3⟩
    isplitl [S0 S1 S2 S3 Hr]
    · isplitl [S0]
      · iexact S0
      isplitl [S1]
      · iexact S1
      isplitl [S2]
      · iexact S2
      isplitl [S3]
      · iexact S3
      iexact Hr
    isplitl [HO]
    · iexact HO
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    iexact H14

/-- The program's row of the kernel is its body. -/
theorem defs₀_row (t : Fin cfg0.N) :
    (defs₀ (F := F)) .tc cfg0.body (cfg0.bodyArgs t (cfg0.slots t)) = bodyAt0 t := by
  unfold defs₀
  rw [Defs.onTc_tc]

/-- The body at every point. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-! ### The run -/

/-- What the region hands over is what the first point starts from; -/
theorem hin (c : Dev nD) : Pipeline.ΦA spec0 c ⊢ (dats m 0 c).Φ 0 := by
  rw [show (dats m 0 c).Φ 0 = loose c from rfl]
  exact enter_loose c

/-- what the last point leaves is what the region takes back. -/
theorem hout (c : Dev nD) : (dats m 0 c).Φ (Fin.last cfg0.N) ⊢ Pipeline.ΦA spec0 c := by
  rw [show (dats m 0 c).Φ (Fin.last cfg0.N) = between m c cfg0.N (le_refl _) from rfl]
  exact (between_loose m c _ _).trans (leave_loose c)

set_option backward.isDefEq.respectTransparency.types false in
/-- The program runs to its end from any memory; its arrays end at what the points leave, and the counters at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The program leaves its arguments and its counters as they were. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (frame_of m ρ (dats m) (A_eq m) (run_main m ρ)) ((θ_run defs _ _).mono (fun _ h => h.2) (run_quiescent m ρ))

end Cert.Proof.KernelIdeal

end
-- ==== Proof.Reference.Stretches.lean ====
/-
  The reference's operations in stretches: @main's between its three loops, each loop's body and each loop's test.
  For each stretch: that it touches tensor buffers only, that it allocates none, and which buffers it writes. Then @main
  and the loop bodies as the chains of their stretches.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.Proof.Reference

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.ReferenceIdeal Cert.ReferenceIdeal.Gen

variable {F : FTy → Type} [FloatOps F]

/-- Operations of the call of `flip`. -/
abbrev head0 : List (HloOp τ sig (Elt F)) :=
  [ StableHlo.TRef.unary (.of main_arg0 : StableHlo.TRef sig ⟨S256x1024x64, .f32⟩) (.of main_v0 : StableHlo.TRef sig ⟨S256x1024x64, .f32⟩) (Host.reverse [1]) ]
theorem head0_sub : (head0 : List (HloOp τ sig (Elt F))).Forall fun op => op.bufs ⊆ tcRefs τ sig :=
  unary_bufs_sub ..
theorem head0_fresh : (head0 : List (HloOp τ sig (Elt F))).Forall fun op => op.fresh = ∅ := forall_fresh_of_map rfl
abbrev head0_W : List (Ref sig .tc) := [main_v0]
theorem head0_writes : (head0 : List (HloOp τ sig (Elt F))).Forall fun op => op.writes ⊆ (head0_W.map (Proc.devRef (τ := τ) .tc)).toFinset :=
  forall_writes_sub_of_map rfl
theorem head0_keep (V : Valuation τ sig (Elt F)) (r : Ref sig .tc) (h : r ∉ head0_W) : after head0 V (Proc.devRef .tc r) = V (Proc.devRef .tc r) :=
  after_of_writes_sub head0 V head0_writes h

/-- Operations of @main. -/
abbrev head1 : List (HloOp τ sig (Elt F)) :=
  [ StableHlo.unary main_arg2 main_v1 (broadcastInDim S2x256x32 ![0, 1, 2] bcast_S2x1x32_S2x256x32_0_1_2 : (⟨S2x1x32, .f32⟩ : BufTy).Contents (Elt F) → (⟨S2x256x32, .f32⟩ : BufTy).Contents (Elt F)),
    StableHlo.unary main_v1 main_v2 ((extractStridedSlice S1x256x32 ![0, 0, 0] · slices_S2x256x32_S1x256x32_0_0_0) : (⟨S2x256x32, .f32⟩ : BufTy).Contents (Elt F) → (⟨S1x256x32, .f32⟩ : BufTy).Contents (Elt F)),
    StableHlo.reshape main_v2 main_v3 (rfl : (.f32 : EltTy) = .f32) shapeCasts_S1x256x32_S256x32 ]
theorem head1_sub : (head1 : List (HloOp τ sig (Elt F))).Forall fun op => op.bufs ⊆ tcRefs τ sig :=
  ⟨unary_bufs_sub .., unary_bufs_sub .., reshape_bufs_sub ..⟩
theorem head1_fresh : (head1 : List (HloOp τ sig (Elt F))).Forall fun op => op.fresh = ∅ := forall_fresh_of_map rfl
abbrev head1_W : List (Ref sig .tc) := [main_v1, main_v2, main_v3]
theorem head1_writes : (head1 : List (HloOp τ sig (Elt F))).Forall fun op => op.writes ⊆ (head1_W.map (Proc.devRef (τ := τ) .tc)).toFinset :=
  forall_writes_sub_of_map rfl
theorem head1_keep (V : Valuation τ sig (Elt F)) (r : Ref sig .tc) (h : r ∉ head1_W) : after head1 V (Proc.devRef .tc r) = V (Proc.devRef .tc r) :=
  after_of_writes_sub head1 V head1_writes h

/-- Operations of @main. -/
abbrev head2 : List (HloOp τ sig (Elt F)) :=
  [ StableHlo.binary main_v0 main_arg3 main_v4 ((fun l r => Host.dotGeneral dot_S256x1024x64_S32x64_S256x1024x32_2_1_01_0_n_n none l r) : (⟨S256x1024x64, .f32⟩ : BufTy).Contents (Elt F) → (⟨S32x64, .f32⟩ : BufTy).Contents (Elt F) → (⟨S256x1024x32, .f32⟩ : BufTy).Contents (Elt F)),
    StableHlo.unary main_arg5 main_v5 (broadcastInDim S1x1x32 ![2] bcast_S32_S1x1x32_2 : (⟨S32, .f32⟩ : BufTy).Contents (Elt F) → (⟨S1x1x32, .f32⟩ : BufTy).Contents (Elt F)),
    StableHlo.unary main_v5 main_v6 (broadcastInDim S256x1024x32 ![0, 1, 2] bcast_S1x1x32_S256x1024x32_0_1_2 : (⟨S1x1x32, .f32⟩ : BufTy).Contents (Elt F) → (⟨S256x1024x32, .f32⟩ : BufTy).Contents (Elt F)),
    StableHlo.binary main_v4 main_v6 main_v7 (addf : (⟨S256x1024x32, .f32⟩ : BufTy).Contents (Elt F) → (⟨S256x1024x32, .f32⟩ : BufTy).Contents (Elt F) → (⟨S256x1024x32, .f32⟩ : BufTy).Contents (Elt F)),
    StableHlo.unary main_v7 main_v8 ((transpose S1024x256x32 [1, 0, 2] · transposes_S256x1024x32_S1024x256x32_1_0_2) : (⟨S256x1024x32, .f32⟩ : BufTy).Contents (Elt F) → (⟨S1024x256x32, .f32⟩ : BufTy).Contents (Elt F)) ]
theorem head2_sub : (head2 : List (HloOp τ sig (Elt F))).Forall fun op => op.bufs ⊆ tcRefs τ sig :=
  ⟨binary_bufs_sub .., unary_bufs_sub .., unary_bufs_sub .., binary_bufs_sub .., unary_bufs_sub ..⟩
theorem head2_fresh : (head2 : List (HloOp τ sig (Elt F))).Forall fun op => op.fresh = ∅ := forall_fresh_of_map rfl
abbrev head2_W : List (Ref sig .tc) := [main_v4, main_v5, main_v6, main_v7, main_v8]
theorem head2_writes : (head2 : List (HloOp τ sig (Elt F))).Forall fun op => op.writes ⊆ (head2_W.map (Proc.devRef (τ := τ) .tc)).toFinset :=
  forall_writes_sub_of_map rfl
theorem head2_keep (V : Valuation τ sig (Elt F)) (r : Ref sig .tc) (h : r ∉ head2_W) : after head2 V (Proc.devRef .tc r) = V (Proc.devRef .tc r) :=
  after_of_writes_sub head2 V head2_writes h

/-- Operations of @main. -/
abbrev head3 : List (HloOp τ sig (Elt F)) :=
  [ StableHlo.nullary main_cst (constant S_ .f32 0x00000000#32),
    StableHlo.unary main_cst main_v9 (broadcastInDim S1024x256x32 ![] bcast_S_S1024x256x32 : (⟨S_, .f32⟩ : BufTy).Contents (Elt F) → (⟨S1024x256x32, .f32⟩ : BufTy).Contents (Elt F)),
    StableHlo.nullary main_c (constantI S_ 32 0#32),
    StableHlo.unary main_v8 main_v10_0 id,
    StableHlo.unary main_arg4 main_v10_1 id,
    StableHlo.unary main_arg6 main_v10_2 id,
    StableHlo.unary main_c main_v10_3 id,
    StableHlo.unary main_v3 main_v10_4 id,
    StableHlo.unary main_v9 main_v10_5 id ]
theorem head3_sub : (head3 : List (HloOp τ sig (Elt F))).Forall fun op => op.bufs ⊆ tcRefs τ sig :=
  ⟨nullary_bufs_sub .., unary_bufs_sub .., nullary_bufs_sub .., unary_bufs_sub .., unary_bufs_sub .., unary_bufs_sub .., unary_bufs_sub .., unary_bufs_sub .., unary_bufs_sub ..⟩
theorem head3_fresh : (head3 : List (HloOp τ sig (Elt F))).Forall fun op => op.fresh = ∅ := forall_fresh_of_map rfl
abbrev head3_W : List (Ref sig .tc) := [main_cst, main_v9, main_c, main_v10_0, main_v10_1, main_v10_2, main_v10_3, main_v10_4, main_v10_5]
theorem head3_writes : (head3 : List (HloOp τ sig (Elt F))).Forall fun op => op.writes ⊆ (head3_W.map (Proc.devRef (τ := τ) .tc)).toFinset :=
  forall_writes_sub_of_map rfl
theorem head3_keep (V : Valuation τ sig (Elt F)) (r : Ref sig .tc) (h : r ∉ head3_W) : after head3 V (Proc.devRef .tc r) = V (Proc.devRef .tc r) :=
  after_of_writes_sub head3 V head3_writes h

/-- Operations of @main. -/
abbrev head4 : List (HloOp τ sig (Elt F)) :=
  [ StableHlo.unary main_v10_5 main_v11 ((transpose S256x1024x32 [1, 0, 2] · transposes_S1024x256x32_S256x1024x32_1_0_2) : (⟨S1024x256x32, .f32⟩ : BufTy).Contents (Elt F) → (⟨S256x1024x32, .f32⟩ : BufTy).Contents (Elt F)),
    StableHlo.unary main_v1 main_v12 ((extractStridedSlice S1x256x32 ![1, 0, 0] · slices_S2x256x32_S1x256x32_1_0_0) : (⟨S2x256x32, .f32⟩ : BufTy).Contents (Elt F) → (⟨S1x256x32, .f32⟩ : BufTy).Contents (Elt F)),
    StableHlo.reshape main_v12 main_v13 (rfl : (.f32 : EltTy) = .f32) shapeCasts_S1x256x32_S256x32 ]
theorem head4_sub : (head4 : List (HloOp τ sig (Elt F))).Forall fun op => op.bufs ⊆ tcRefs τ sig :=
  ⟨unary_bufs_sub .., unary_bufs_sub .., reshape_bufs_sub ..⟩
theorem head4_fresh : (head4 : List (HloOp τ sig (Elt F))).Forall fun op => op.fresh = ∅ := forall_fresh_of_map rfl
abbrev head4_W : List (Ref sig .tc) := [main_v11, main_v12, main_v13]
theorem head4_writes : (head4 : List (HloOp τ sig (Elt F))).Forall fun op => op.writes ⊆ (head4_W.map (Proc.devRef (τ := τ) .tc)).toFinset :=
  forall_writes_sub_of_map rfl
theorem head4_keep (V : Valuation τ sig (Elt F)) (r : Ref sig .tc) (h : r ∉ head4_W) : after head4 V (Proc.devRef .tc r) = V (Proc.devRef .tc r) :=
  after_of_writes_sub head4 V head4_writes h

/-- Operations of @main. -/
abbrev head5 : List (HloOp τ sig (Elt F)) :=
  [ StableHlo.binary main_v11 main_arg7 main_v14 ((fun l r => Host.dotGeneral dot_S256x1024x32_S32x32_S256x1024x32_2_1_01_0_n_n none l r) : (⟨S256x1024x32, .f32⟩ : BufTy).Contents (Elt F) → (⟨S32x32, .f32⟩ : BufTy).Contents (Elt F) → (⟨S256x1024x32, .f32⟩ : BufTy).Contents (Elt F)),
    StableHlo.unary main_arg9 main_v15 (broadcastInDim S1x1x32 ![2] bcast_S32_S1x1x32_2 : (⟨S32, .f32⟩ : BufTy).Contents (Elt F) → (⟨S1x1x32, .f32⟩ : BufTy).Contents (Elt F)),
    StableHlo.unary main_v15 main_v16 (broadcastInDim S256x1024x32 ![0, 1, 2] bcast_S1x1x32_S256x1024x32_0_1_2 : (⟨S1x1x32, .f32⟩ : BufTy).Contents (Elt F) → (⟨S256x1024x32, .f32⟩ : BufTy).Contents (Elt F)),
    StableHlo.binary main_v14 main_v16 main_v17 (addf : (⟨S256x1024x32, .f32⟩ : BufTy).Contents (Elt F) → (⟨S256x1024x32, .f32⟩ : BufTy).Contents (Elt F) → (⟨S256x1024x32, .f32⟩ : BufTy).Contents (Elt F)),
    StableHlo.unary main_v17 main_v18 ((transpose S1024x256x32 [1, 0, 2] · transposes_S256x1024x32_S1024x256x32_1_0_2) : (⟨S256x1024x32, .f32⟩ : BufTy).Contents (Elt F) → (⟨S1024x256x32, .f32⟩ : BufTy).Contents (Elt F)) ]
theorem head5_sub : (head5 : List (HloOp τ sig (Elt F))).Forall fun op => op.bufs ⊆ tcRefs τ sig :=
  ⟨binary_bufs_sub .., unary_bufs_sub .., unary_bufs_sub .., binary_bufs_sub .., unary_bufs_sub ..⟩
theorem head5_fresh : (head5 : List (HloOp τ sig (Elt F))).Forall fun op => op.fresh = ∅ := forall_fresh_of_map rfl
abbrev head5_W : List (Ref sig .tc) := [main_v14, main_v15, main_v16, main_v17, main_v18]
theorem head5_writes : (head5 : List (HloOp τ sig (Elt F))).Forall fun op => op.writes ⊆ (head5_W.map (Proc.devRef (τ := τ) .tc)).toFinset :=
  forall_writes_sub_of_map rfl
theorem head5_keep (V : Valuation τ sig (Elt F)) (r : Ref sig .tc) (h : r ∉ head5_W) : after head5 V (Proc.devRef .tc r) = V (Proc.devRef .tc r) :=
  after_of_writes_sub head5 V head5_writes h

/-- Operations of @main. -/
abbrev head6 : List (HloOp τ sig (Elt F)) :=
  [ StableHlo.nullary main_cst_0 (constant S_ .f32 0x00000000#32),
    StableHlo.unary main_cst_0 main_v19 (broadcastInDim S1024x256x32 ![] bcast_S_S1024x256x32 : (⟨S_, .f32⟩ : BufTy).Contents (Elt F) → (⟨S1024x256x32, .f32⟩ : BufTy).Contents (Elt F)),
    StableHlo.nullary main_c_1 (constantI S_ 32 0#32),
    StableHlo.unary main_v18 main_v20_0 id,
    StableHlo.unary main_arg8 main_v20_1 id,
    StableHlo.unary main_arg10 main_v20_2 id,
    StableHlo.unary main_c_1 main_v20_3 id,
    StableHlo.unary main_v13 main_v20_4 id,
    StableHlo.unary main_v19 main_v20_5 id ]
theorem head6_sub : (head6 : List (HloOp τ sig (Elt F))).Forall fun op => op.bufs ⊆ tcRefs τ sig :=
  ⟨nullary_bufs_sub .., unary_bufs_sub .., nullary_bufs_sub .., unary_bufs_sub .., unary_bufs_sub .., unary_bufs_sub .., unary_bufs_sub .., unary_bufs_sub .., unary_bufs_sub ..⟩
theorem head6_fresh : (head6 : List (HloOp τ sig (Elt F))).Forall fun op => op.fresh = ∅ := forall_fresh_of_map rfl
abbrev head6_W : List (Ref sig .tc) := [main_cst_0, main_v19, main_c_1, main_v20_0, main_v20_1, main_v20_2, main_v20_3, main_v20_4, main_v20_5]
theorem head6_writes : (head6 : List (HloOp τ sig (Elt F))).Forall fun op => op.writes ⊆ (head6_W.map (Proc.devRef (τ := τ) .tc)).toFinset :=
  forall_writes_sub_of_map rfl
theorem head6_keep (V : Valuation τ sig (Elt F)) (r : Ref sig .tc) (h : r ∉ head6_W) : after head6 V (Proc.devRef .tc r) = V (Proc.devRef .tc r) :=
  after_of_writes_sub head6 V head6_writes h

/-- Operations of @main. -/
abbrev head7 : List (HloOp τ sig (Elt F)) :=
  [ StableHlo.unary main_v20_5 main_v21 ((transpose S256x1024x32 [1, 0, 2] · transposes_S1024x256x32_S256x1024x32_1_0_2) : (⟨S1024x256x32, .f32⟩ : BufTy).Contents (Elt F) → (⟨S256x1024x32, .f32⟩ : BufTy).Contents (Elt F)) ]
theorem head7_sub : (head7 : List (HloOp τ sig (Elt F))).Forall fun op => op.bufs ⊆ tcRefs τ sig :=
  unary_bufs_sub ..
theorem head7_fresh : (head7 : List (HloOp τ sig (Elt F))).Forall fun op => op.fresh = ∅ := forall_fresh_of_map rfl
abbrev head7_W : List (Ref sig .tc) := [main_v21]
theorem head7_writes : (head7 : List (HloOp τ sig (Elt F))).Forall fun op => op.writes ⊆ (head7_W.map (Proc.devRef (τ := τ) .tc)).toFinset :=
  forall_writes_sub_of_map rfl
theorem head7_keep (V : Valuation τ sig (Elt F)) (r : Ref sig .tc) (h : r ∉ head7_W) : after head7 V (Proc.devRef .tc r) = V (Proc.devRef .tc r) :=
  after_of_writes_sub head7 V head7_writes h

/-- Operations of the call of `flip_0`. -/
abbrev head8 : List (HloOp τ sig (Elt F)) :=
  [ StableHlo.TRef.unary (.of main_v21 : StableHlo.TRef sig ⟨S256x1024x32, .f32⟩) (.of main_v22 : StableHlo.TRef sig ⟨S256x1024x32, .f32⟩) (Host.reverse [1]) ]
theorem head8_sub : (head8 : List (HloOp τ sig (Elt F))).Forall fun op => op.bufs ⊆ tcRefs τ sig :=
  unary_bufs_sub ..
theorem head8_fresh : (head8 : List (HloOp τ sig (Elt F))).Forall fun op => op.fresh = ∅ := forall_fresh_of_map rfl
abbrev head8_W : List (Ref sig .tc) := [main_v22]
theorem head8_writes : (head8 : List (HloOp τ sig (Elt F))).Forall fun op => op.writes ⊆ (head8_W.map (Proc.devRef (τ := τ) .tc)).toFinset :=
  forall_writes_sub_of_map rfl
theorem head8_keep (V : Valuation τ sig (Elt F)) (r : Ref sig .tc) (h : r ∉ head8_W) : after head8 V (Proc.devRef .tc r) = V (Proc.devRef .tc r) :=
  after_of_writes_sub head8 V head8_writes h

/-- Operations of @main. -/
abbrev head9 : List (HloOp τ sig (Elt F)) :=
  [ StableHlo.unary main_v22 main_v23 ((extractStridedSlice S256x1023x32 ![0, 1, 0] · slices_S256x1024x32_S256x1023x32_0_1_0) : (⟨S256x1024x32, .f32⟩ : BufTy).Contents (Elt F) → (⟨S256x1023x32, .f32⟩ : BufTy).Contents (Elt F)),
    StableHlo.nullary main_c_2 (constantI S_ 32 0#32),
    StableHlo.unary main_arg11 main_v24_0 id,
    StableHlo.unary main_arg12 main_v24_1 id,
    StableHlo.unary main_arg13 main_v24_2 id,
    StableHlo.unary main_arg14 main_v24_3 id,
    StableHlo.unary main_arg15 main_v24_4 id,
    StableHlo.unary main_arg16 main_v24_5 id,
    StableHlo.unary main_c_2 main_v24_6 id,
    StableHlo.unary main_v23 main_v24_7 id ]
theorem head9_sub : (head9 : List (HloOp τ sig (Elt F))).Forall fun op => op.bufs ⊆ tcRefs τ sig :=
  ⟨unary_bufs_sub .., nullary_bufs_sub .., unary_bufs_sub .., unary_bufs_sub .., unary_bufs_sub .., unary_bufs_sub .., unary_bufs_sub .., unary_bufs_sub .., unary_bufs_sub .., unary_bufs_sub ..⟩
theorem head9_fresh : (head9 : List (HloOp τ sig (Elt F))).Forall fun op => op.fresh = ∅ := forall_fresh_of_map rfl
abbrev head9_W : List (Ref sig .tc) := [main_v23, main_c_2, main_v24_0, main_v24_1, main_v24_2, main_v24_3, main_v24_4, main_v24_5, main_v24_6, main_v24_7]
theorem head9_writes : (head9 : List (HloOp τ sig (Elt F))).Forall fun op => op.writes ⊆ (head9_W.map (Proc.devRef (τ := τ) .tc)).toFinset :=
  forall_writes_sub_of_map rfl
theorem head9_keep (V : Valuation τ sig (Elt F)) (r : Ref sig .tc) (h : r ∉ head9_W) : after head9 V (Proc.devRef .tc r) = V (Proc.devRef .tc r) :=
  after_of_writes_sub head9 V head9_writes h

/-- Operations of @main. -/
abbrev head10 : List (HloOp τ sig (Elt F)) :=
  [ StableHlo.unary main_v22 main_v25 ((extractStridedSlice S256x1x32 ![0, 1023, 0] · slices_S256x1024x32_S256x1x32_0_1023_0) : (⟨S256x1024x32, .f32⟩ : BufTy).Contents (Elt F) → (⟨S256x1x32, .f32⟩ : BufTy).Contents (Elt F)),
    StableHlo.binary main_v24_7 main_v25 main_v26 ((fun a b => concatenate S256x1024x32 1 [⟨S256x1023x32, a⟩, ⟨S256x1x32, b⟩] concatenates_S256x1023x32_S256x1x32_S256x1024x32_d1) : (⟨S256x1023x32, .f32⟩ : BufTy).Contents (Elt F) → (⟨S256x1x32, .f32⟩ : BufTy).Contents (Elt F) → (⟨S256x1024x32, .f32⟩ : BufTy).Contents (Elt F)) ]
theorem head10_sub : (head10 : List (HloOp τ sig (Elt F))).Forall fun op => op.bufs ⊆ tcRefs τ sig :=
  ⟨unary_bufs_sub .., binary_bufs_sub ..⟩
theorem head10_fresh : (head10 : List (HloOp τ sig (Elt F))).Forall fun op => op.fresh = ∅ := forall_fresh_of_map rfl
abbrev head10_W : List (Ref sig .tc) := [main_v25, main_v26]
theorem head10_writes : (head10 : List (HloOp τ sig (Elt F))).Forall fun op => op.writes ⊆ (head10_W.map (Proc.devRef (τ := τ) .tc)).toFinset :=
  forall_writes_sub_of_map rfl
theorem head10_keep (V : Valuation τ sig (Elt F)) (r : Ref sig .tc) (h : r ∉ head10_W) : after head10 V (Proc.devRef .tc r) = V (Proc.devRef .tc r) :=
  after_of_writes_sub head10 V head10_writes h

/-- Operations of the call of `dynamic_index_in_dim`. -/
abbrev first0 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v10_0 : StableHlo.TRef sig ⟨S1024x256x32, .f32⟩) ![(.of main_v10_3 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x256x32, .f32⟩) (fun x i => Host.dynamicSlice S1x256x32 x (fun k => (i k (Shape.Idx.first h_S_)).toInt) sliceFits_S1024x256x32_S1x256x32),
    StableHlo.TRef.reshape (.of main_while0b_call1_v0 : StableHlo.TRef sig ⟨S1x256x32, .f32⟩) (.of main_while0b_v27 : StableHlo.TRef sig ⟨S256x32, .f32⟩) (rfl : (.f32 : EltTy) = .f32) shapeCasts_S1x256x32_S256x32 ]
theorem first0_sub : (first0 : List (HloOp τ sig (Elt F))).Forall fun op => op.bufs ⊆ tcRefs τ sig :=
  ⟨nullary_bufs_sub .., nullary_bufs_sub .., unaryIndexed_bufs_sub .., reshape_bufs_sub ..⟩
theorem first0_fresh : (first0 : List (HloOp τ sig (Elt F))).Forall fun op => op.fresh = ∅ := forall_fresh_of_map rfl
abbrev first0_W : List (Ref sig .tc) := [main_while0b_call1_c, main_while0b_call1_c_0, main_while0b_call1_v0, main_while0b_v27]
theorem first0_writes : (first0 : List (HloOp τ sig (Elt F))).Forall fun op => op.writes ⊆ (first0_W.map (Proc.devRef (τ := τ) .tc)).toFinset :=
  forall_writes_sub_of_map rfl
theorem first0_keep (V : Valuation τ sig (Elt F)) (r : Ref sig .tc) (h : r ∉ first0_W) : after first0 V (Proc.devRef .tc r) = V (Proc.devRef .tc r) :=
  after_of_writes_sub first0 V first0_writes h

/-- Operations of the first recurrent loop's body. -/
abbrev first1 : List (HloOp τ sig (Elt F)) :=
  [ StableHlo.unary main_v10_1 main_while0b_v28 ((transpose S32x32 [1, 0] · transposes_S32x32_S32x32_1_0) : (⟨S32x32, .f32⟩ : BufTy).Contents (Elt F) → (⟨S32x32, .f32⟩ : BufTy).Contents (Elt F)),
    StableHlo.binary main_v10_4 main_while0b_v28 main_while0b_v29 ((fun l r => Host.dotGeneral dot_S256x32_S32x32_S256x32_1_0_0_1_n_n none l r) : (⟨S256x32, .f32⟩ : BufTy).Contents (Elt F) → (⟨S32x32, .f32⟩ : BufTy).Contents (Elt F) → (⟨S256x32, .f32⟩ : BufTy).Contents (Elt F)),
    StableHlo.binary main_while0b_v27 main_while0b_v29 main_while0b_v30 (addf : (⟨S256x32, .f32⟩ : BufTy).Contents (Elt F) → (⟨S256x32, .f32⟩ : BufTy).Contents (Elt F) → (⟨S256x32, .f32⟩ : BufTy).Contents (Elt F)),
    StableHlo.unary main_v10_2 main_while0b_v31 (broadcastInDim S1x32 ![1] bcast_S32_S1x32_1 : (⟨S32, .f32⟩ : BufTy).Contents (Elt F) → (⟨S1x32, .f32⟩ : BufTy).Contents (Elt F)),
    StableHlo.unary main_while0b_v31 main_while0b_v32 (broadcastInDim S256x32 ![0, 1] bcast_S1x32_S256x32_0_1 : (⟨S1x32, .f32⟩ : BufTy).Contents (Elt F) → (⟨S256x32, .f32⟩ : BufTy).Contents (Elt F)),
    StableHlo.binary main_while0b_v30 main_while0b_v32 main_while0b_v33 (addf : (⟨S256x32, .f32⟩ : BufTy).Contents (Elt F) → (⟨S256x32, .f32⟩ : BufTy).Contents (Elt F) → (⟨S256x32, .f32⟩ : BufTy).Contents (Elt F)),
    StableHlo.unary main_while0b_v33 main_while0b_v34 (Host.tanh : (⟨S256x32, .f32⟩ : BufTy).Contents (Elt F) → (⟨S256x32, .f32⟩ : BufTy).Contents (Elt F)) ]
theorem first1_sub : (first1 : List (HloOp τ sig (Elt F))).Forall fun op => op.bufs ⊆ tcRefs τ sig :=
  ⟨unary_bufs_sub .., binary_bufs_sub .., binary_bufs_sub .., unary_bufs_sub .., unary_bufs_sub .., binary_bufs_sub .., unary_bufs_sub ..⟩
theorem first1_fresh : (first1 : List (HloOp τ sig (Elt F))).Forall fun op => op.fresh = ∅ := forall_fresh_of_map rfl
abbrev first1_W : List (Ref sig .tc) := [main_while0b_v28, main_while0b_v29, main_while0b_v30, main_while0b_v31, main_while0b_v32, main_while0b_v33, main_while0b_v34]
theorem first1_writes : (first1 : List (HloOp τ sig (Elt F))).Forall fun op => op.writes ⊆ (first1_W.map (Proc.devRef (τ := τ) .tc)).toFinset :=
  forall_writes_sub_of_map rfl
theorem first1_keep (V : Valuation τ sig (Elt F)) (r : Ref sig .tc) (h : r ∉ first1_W) : after first1 V (Proc.devRef .tc r) = V (Proc.devRef .tc r) :=
  after_of_writes_sub first1 V first1_writes h

/-- Operations of the call of `dynamic_update_index_in_dim`. -/
abbrev first2 : List (HloOp τ sig (Elt F)) :=
  [ StableHlo.TRef.unary (.of main_while0b_v34 : StableHlo.TRef sig ⟨S256x32, .f32⟩) (.of main_while0b_call2_v0 : StableHlo.TRef sig ⟨S1x256x32, .f32⟩) (broadcastInDim S1x256x32 ![1, 2] bcast_S256x32_S1x256x32_1_2),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.binaryIndexed (.of main_v10_5 : StableHlo.TRef sig ⟨S1024x256x32, .f32⟩) (.of main_while0b_call2_v0 : StableHlo.TRef sig ⟨S1x256x32, .f32⟩) ![(.of main_v10_3 : StableHlo.TRef sig ⟨S_, .i32⟩), (.of main_while0b_call2_c : StableHlo.TRef sig ⟨S_, .i32⟩), (.of main_while0b_call2_c_0 : StableHlo.TRef sig ⟨S_, .i32⟩)] (.of main_while0b_v35 : StableHlo.TRef sig ⟨S1024x256x32, .f32⟩) (fun x u i => Host.dynamicUpdateSlice x u (fun k => (i k (Shape.Idx.first h_S_)).toInt) updateFits_S1024x256x32_S1x256x32) ]
theorem first2_sub : (first2 : List (HloOp τ sig (Elt F))).Forall fun op => op.bufs ⊆ tcRefs τ sig :=
  ⟨unary_bufs_sub .., nullary_bufs_sub .., nullary_bufs_sub .., binaryIndexed_bufs_sub ..⟩
theorem first2_fresh : (first2 : List (HloOp τ sig (Elt F))).Forall fun op => op.fresh = ∅ := forall_fresh_of_map rfl
abbrev first2_W : List (Ref sig .tc) := [main_while0b_call2_v0, main_while0b_call2_c, main_while0b_call2_c_0, main_while0b_v35]
theorem first2_writes : (first2 : List (HloOp τ sig (Elt F))).Forall fun op => op.writes ⊆ (first2_W.map (Proc.devRef (τ := τ) .tc)).toFinset :=
  forall_writes_sub_of_map rfl
theorem first2_keep (V : Valuation τ sig (Elt F)) (r : Ref sig .tc) (h : r ∉ first2_W) : after first2 V (Proc.devRef .tc r) = V (Proc.devRef .tc r) :=
  after_of_writes_sub first2 V first2_writes h

/-- Operations of the first recurrent loop's body. -/
abbrev first3 : List (HloOp τ sig (Elt F)) :=
  [ StableHlo.nullary main_while0b_c_8 (constantI S_ 32 1#32),
    StableHlo.binary main_v10_3 main_while0b_c_8 main_while0b_v36 (addi : (⟨S_, .i32⟩ : BufTy).Contents (Elt F) → (⟨S_, .i32⟩ : BufTy).Contents (Elt F) → (⟨S_, .i32⟩ : BufTy).Contents (Elt F)),
    StableHlo.unary main_while0b_v36 main_v10_3 id,
    StableHlo.unary main_while0b_v34 main_v10_4 id,
    StableHlo.unary main_while0b_v35 main_v10_5 id ]
theorem first3_sub : (first3 : List (HloOp τ sig (Elt F))).Forall fun op => op.bufs ⊆ tcRefs τ sig :=
  ⟨nullary_bufs_sub .., binary_bufs_sub .., unary_bufs_sub .., unary_bufs_sub .., unary_bufs_sub ..⟩
theorem first3_fresh : (first3 : List (HloOp τ sig (Elt F))).Forall fun op => op.fresh = ∅ := forall_fresh_of_map rfl
abbrev first3_W : List (Ref sig .tc) := [main_while0b_c_8, main_while0b_v36, main_v10_3, main_v10_4, main_v10_5]
theorem first3_writes : (first3 : List (HloOp τ sig (Elt F))).Forall fun op => op.writes ⊆ (first3_W.map (Proc.devRef (τ := τ) .tc)).toFinset :=
  forall_writes_sub_of_map rfl
theorem first3_keep (V : Valuation τ sig (Elt F)) (r : Ref sig .tc) (h : r ∉ first3_W) : after first3 V (Proc.devRef .tc r) = V (Proc.devRef .tc r) :=
  after_of_writes_sub first3 V first3_writes h

/-- Operations of the call of `dynamic_index_in_dim`. -/
abbrev second0 : List (HloOp τ sig (Elt F)) :=
  [ StableHlo.TRef.nullary (.of main_while1b_call3_c : StableHlo.TRef sig ⟨S_, .i32⟩) (constantI S_ 32 0#32),
    StableHlo.TRef.nullary (.of main_while1b_call3_c_0 : StableHlo.TRef sig ⟨S_, .i32⟩) (constantI S_ 32 0#32),
    StableHlo.TRef.unaryIndexed (.of main_v20_0 : StableHlo.TRef sig ⟨S1024x256x32, .f32⟩) ![(.of main_v20_3 : StableHlo.TRef sig ⟨S_, .i32⟩), (.of main_while1b_call3_c : StableHlo.TRef sig ⟨S_, .i32⟩), (.of main_while1b_call3_c_0 : StableHlo.TRef sig ⟨S_, .i32⟩)] (.of main_while1b_call3_v0 : StableHlo.TRef sig ⟨S1x256x32, .f32⟩) (fun x i => Host.dynamicSlice S1x256x32 x (fun k => (i k (Shape.Idx.first h_S_)).toInt) sliceFits_S1024x256x32_S1x256x32),
    StableHlo.TRef.reshape (.of main_while1b_call3_v0 : StableHlo.TRef sig ⟨S1x256x32, .f32⟩) (.of main_while1b_v27 : StableHlo.TRef sig ⟨S256x32, .f32⟩) (rfl : (.f32 : EltTy) = .f32) shapeCasts_S1x256x32_S256x32 ]
theorem second0_sub : (second0 : List (HloOp τ sig (Elt F))).Forall fun op => op.bufs ⊆ tcRefs τ sig :=
  ⟨nullary_bufs_sub .., nullary_bufs_sub .., unaryIndexed_bufs_sub .., reshape_bufs_sub ..⟩
theorem second0_fresh : (second0 : List (HloOp τ sig (Elt F))).Forall fun op => op.fresh = ∅ := forall_fresh_of_map rfl
abbrev second0_W : List (Ref sig .tc) := [main_while1b_call3_c, main_while1b_call3_c_0, main_while1b_call3_v0, main_while1b_v27]
theorem second0_writes : (second0 : List (HloOp τ sig (Elt F))).Forall fun op => op.writes ⊆ (second0_W.map (Proc.devRef (τ := τ) .tc)).toFinset :=
  forall_writes_sub_of_map rfl
theorem second0_keep (V : Valuation τ sig (Elt F)) (r : Ref sig .tc) (h : r ∉ second0_W) : after second0 V (Proc.devRef .tc r) = V (Proc.devRef .tc r) :=
  after_of_writes_sub second0 V second0_writes h

/-- Operations of the second recurrent loop's body. -/
abbrev second1 : List (HloOp τ sig (Elt F)) :=
  [ StableHlo.unary main_v20_1 main_while1b_v28 ((transpose S32x32 [1, 0] · transposes_S32x32_S32x32_1_0) : (⟨S32x32, .f32⟩ : BufTy).Contents (Elt F) → (⟨S32x32, .f32⟩ : BufTy).Contents (Elt F)),
    StableHlo.binary main_v20_4 main_while1b_v28 main_while1b_v29 ((fun l r => Host.dotGeneral dot_S256x32_S32x32_S256x32_1_0_0_1_n_n none l r) : (⟨S256x32, .f32⟩ : BufTy).Contents (Elt F) → (⟨S32x32, .f32⟩ : BufTy).Contents (Elt F) → (⟨S256x32, .f32⟩ : BufTy).Contents (Elt F)),
    StableHlo.binary main_while1b_v27 main_while1b_v29 main_while1b_v30 (addf : (⟨S256x32, .f32⟩ : BufTy).Contents (Elt F) → (⟨S256x32, .f32⟩ : BufTy).Contents (Elt F) → (⟨S256x32, .f32⟩ : BufTy).Contents (Elt F)),
    StableHlo.unary main_v20_2 main_while1b_v31 (broadcastInDim S1x32 ![1] bcast_S32_S1x32_1 : (⟨S32, .f32⟩ : BufTy).Contents (Elt F) → (⟨S1x32, .f32⟩ : BufTy).Contents (Elt F)),
    StableHlo.unary main_while1b_v31 main_while1b_v32 (broadcastInDim S256x32 ![0, 1] bcast_S1x32_S256x32_0_1 : (⟨S1x32, .f32⟩ : BufTy).Contents (Elt F) → (⟨S256x32, .f32⟩ : BufTy).Contents (Elt F)),
    StableHlo.binary main_while1b_v30 main_while1b_v32 main_while1b_v33 (addf : (⟨S256x32, .f32⟩ : BufTy).Contents (Elt F) → (⟨S256x32, .f32⟩ : BufTy).Contents (Elt F) → (⟨S256x32, .f32⟩ : BufTy).Contents (Elt F)),
    StableHlo.unary main_while1b_v33 main_while1b_v34 (Host.tanh : (⟨S256x32, .f32⟩ : BufTy).Contents (Elt F) → (⟨S256x32, .f32⟩ : BufTy).Contents (Elt F)) ]
theorem second1_sub : (second1 : List (HloOp τ sig (Elt F))).Forall fun op => op.bufs ⊆ tcRefs τ sig :=
  ⟨unary_bufs_sub .., binary_bufs_sub .., binary_bufs_sub .., unary_bufs_sub .., unary_bufs_sub .., binary_bufs_sub .., unary_bufs_sub ..⟩
theorem second1_fresh : (second1 : List (HloOp τ sig (Elt F))).Forall fun op => op.fresh = ∅ := forall_fresh_of_map rfl
abbrev second1_W : List (Ref sig .tc) := [main_while1b_v28, main_while1b_v29, main_while1b_v30, main_while1b_v31, main_while1b_v32, main_while1b_v33, main_while1b_v34]
theorem second1_writes : (second1 : List (HloOp τ sig (Elt F))).Forall fun op => op.writes ⊆ (second1_W.map (Proc.devRef (τ := τ) .tc)).toFinset :=
  forall_writes_sub_of_map rfl
theorem second1_keep (V : Valuation τ sig (Elt F)) (r : Ref sig .tc) (h : r ∉ second1_W) : after second1 V (Proc.devRef .tc r) = V (Proc.devRef .tc r) :=
  after_of_writes_sub second1 V second1_writes h

/-- Operations of the call of `dynamic_update_index_in_dim`. -/
abbrev second2 : List (HloOp τ sig (Elt F)) :=
  [ StableHlo.TRef.unary (.of main_while1b_v34 : StableHlo.TRef sig ⟨S256x32, .f32⟩) (.of main_while1b_call4_v0 : StableHlo.TRef sig ⟨S1x256x32, .f32⟩) (broadcastInDim S1x256x32 ![1, 2] bcast_S256x32_S1x256x32_1_2),
    StableHlo.TRef.nullary (.of main_while1b_call4_c : StableHlo.TRef sig ⟨S_, .i32⟩) (constantI S_ 32 0#32),
    StableHlo.TRef.nullary (.of main_while1b_call4_c_0 : StableHlo.TRef sig ⟨S_, .i32⟩) (constantI S_ 32 0#32),
    StableHlo.TRef.binaryIndexed (.of main_v20_5 : StableHlo.TRef sig ⟨S1024x256x32, .f32⟩) (.of main_while1b_call4_v0 : StableHlo.TRef sig ⟨S1x256x32, .f32⟩) ![(.of main_v20_3 : StableHlo.TRef sig ⟨S_, .i32⟩), (.of main_while1b_call4_c : StableHlo.TRef sig ⟨S_, .i32⟩), (.of main_while1b_call4_c_0 : StableHlo.TRef sig ⟨S_, .i32⟩)] (.of main_while1b_v35 : StableHlo.TRef sig ⟨S1024x256x32, .f32⟩) (fun x u i => Host.dynamicUpdateSlice x u (fun k => (i k (Shape.Idx.first h_S_)).toInt) updateFits_S1024x256x32_S1x256x32) ]
theorem second2_sub : (second2 : List (HloOp τ sig (Elt F))).Forall fun op => op.bufs ⊆ tcRefs τ sig :=
  ⟨unary_bufs_sub .., nullary_bufs_sub .., nullary_bufs_sub .., binaryIndexed_bufs_sub ..⟩
theorem second2_fresh : (second2 : List (HloOp τ sig (Elt F))).Forall fun op => op.fresh = ∅ := forall_fresh_of_map rfl
abbrev second2_W : List (Ref sig .tc) := [main_while1b_call4_v0, main_while1b_call4_c, main_while1b_call4_c_0, main_while1b_v35]
theorem second2_writes : (second2 : List (HloOp τ sig (Elt F))).Forall fun op => op.writes ⊆ (second2_W.map (Proc.devRef (τ := τ) .tc)).toFinset :=
  forall_writes_sub_of_map rfl
theorem second2_keep (V : Valuation τ sig (Elt F)) (r : Ref sig .tc) (h : r ∉ second2_W) : after second2 V (Proc.devRef .tc r) = V (Proc.devRef .tc r) :=
  after_of_writes_sub second2 V second2_writes h

/-- Operations of the second recurrent loop's body. -/
abbrev second3 : List (HloOp τ sig (Elt F)) :=
  [ StableHlo.nullary main_while1b_c_8 (constantI S_ 32 1#32),
    StableHlo.binary main_v20_3 main_while1b_c_8 main_while1b_v36 (addi : (⟨S_, .i32⟩ : BufTy).Contents (Elt F) → (⟨S_, .i32⟩ : BufTy).Contents (Elt F) → (⟨S_, .i32⟩ : BufTy).Contents (Elt F)),
    StableHlo.unary main_while1b_v36 main_v20_3 id,
    StableHlo.unary main_while1b_v34 main_v20_4 id,
    StableHlo.unary main_while1b_v35 main_v20_5 id ]
theorem second3_sub : (second3 : List (HloOp τ sig (Elt F))).Forall fun op => op.bufs ⊆ tcRefs τ sig :=
  ⟨nullary_bufs_sub .., binary_bufs_sub .., unary_bufs_sub .., unary_bufs_sub .., unary_bufs_sub ..⟩
theorem second3_fresh : (second3 : List (HloOp τ sig (Elt F))).Forall fun op => op.fresh = ∅ := forall_fresh_of_map rfl
abbrev second3_W : List (Ref sig .tc) := [main_while1b_c_8, main_while1b_v36, main_v20_3, main_v20_4, main_v20_5]
theorem second3_writes : (second3 : List (HloOp τ sig (Elt F))).Forall fun op => op.writes ⊆ (second3_W.map (Proc.devRef (τ := τ) .tc)).toFinset :=
  forall_writes_sub_of_map rfl
theorem second3_keep (V : Valuation τ sig (Elt F)) (r : Ref sig .tc) (h : r ∉ second3_W) : after second3 V (Proc.devRef .tc r) = V (Proc.devRef .tc r) :=
  after_of_writes_sub second3 V second3_writes h

/-- Operations of the decoder loop's body, first part. -/
abbrev decodeA0 : List (HloOp τ sig (Elt F)) :=
  [ StableHlo.unary main_v24_0 main_while2b_v27 ((transpose S32x128 [1, 0] · transposes_S128x32_S32x128_1_0) : (⟨S128x32, .f32⟩ : BufTy).Contents (Elt F) → (⟨S32x128, .f32⟩ : BufTy).Contents (Elt F)),
    StableHlo.binary main_v24_7 main_while2b_v27 main_while2b_v28 ((fun l r => Host.dotGeneral dot_S256x1023x32_S32x128_S256x1023x128_2_0_01_1_n_n none l r) : (⟨S256x1023x32, .f32⟩ : BufTy).Contents (Elt F) → (⟨S32x128, .f32⟩ : BufTy).Contents (Elt F) → (⟨S256x1023x128, .f32⟩ : BufTy).Contents (Elt F)),
    StableHlo.unary main_v24_1 main_while2b_v29 (broadcastInDim S1x1x128 ![2] bcast_S128_S1x1x128_2 : (⟨S128, .f32⟩ : BufTy).Contents (Elt F) → (⟨S1x1x128, .f32⟩ : BufTy).Contents (Elt F)),
    StableHlo.unary main_while2b_v29 main_while2b_v30 (broadcastInDim S256x1023x128 ![0, 1, 2] bcast_S1x1x128_S256x1023x128_0_1_2 : (⟨S1x1x128, .f32⟩ : BufTy).Contents (Elt F) → (⟨S256x1023x128, .f32⟩ : BufTy).Contents (Elt F)),
    StableHlo.binary main_while2b_v28 main_while2b_v30 main_while2b_v31 (addf : (⟨S256x1023x128, .f32⟩ : BufTy).Contents (Elt F) → (⟨S256x1023x128, .f32⟩ : BufTy).Contents (Elt F) → (⟨S256x1023x128, .f32⟩ : BufTy).Contents (Elt F)) ]
theorem decodeA0_sub : (decodeA0 : List (HloOp τ sig (Elt F))).Forall fun op => op.bufs ⊆ tcRefs τ sig :=
  ⟨unary_bufs_sub .., binary_bufs_sub .., unary_bufs_sub .., unary_bufs_sub .., binary_bufs_sub ..⟩
theorem decodeA0_fresh : (decodeA0 : List (HloOp τ sig (Elt F))).Forall fun op => op.fresh = ∅ := forall_fresh_of_map rfl
abbrev decodeA0_W : List (Ref sig .tc) := [main_while2b_v27, main_while2b_v28, main_while2b_v29, main_while2b_v30, main_while2b_v31]
theorem decodeA0_writes : (decodeA0 : List (HloOp τ sig (Elt F))).Forall fun op => op.writes ⊆ (decodeA0_W.map (Proc.devRef (τ := τ) .tc)).toFinset :=
  forall_writes_sub_of_map rfl
theorem decodeA0_keep (V : Valuation τ sig (Elt F)) (r : Ref sig .tc) (h : r ∉ decodeA0_W) : after decodeA0 V (Proc.devRef .tc r) = V (Proc.devRef .tc r) :=
  after_of_writes_sub decodeA0 V decodeA0_writes h

/-- Operations of the call of `softplus`. -/
abbrev decodeA1 : List (HloOp τ sig (Elt F)) :=
  [ StableHlo.TRef.nullary (.of main_while2b_call6_cst : StableHlo.TRef sig ⟨S_, .f32⟩) (constant S_ .f32 0x00000000#32),
    StableHlo.TRef.unary (.of main_while2b_call6_cst : StableHlo.TRef sig ⟨S_, .f32⟩) (.of main_while2b_call6_v0 : StableHlo.TRef sig ⟨S256x1023x128, .f32⟩) (broadcastInDim S256x1023x128 ![] bcast_S_S256x1023x128),
    StableHlo.TRef.binary (.of main_while2b_v31 : StableHlo.TRef sig ⟨S256x1023x128, .f32⟩) (.of main_while2b_call6_v0 : StableHlo.TRef sig ⟨S256x1023x128, .f32⟩) (.of main_while2b_call6_v1 : StableHlo.TRef sig ⟨S256x1023x128, .f32⟩) maximumf,
    StableHlo.TRef.unary (.of main_while2b_call6_cst : StableHlo.TRef sig ⟨S_, .f32⟩) (.of main_while2b_call6_v2 : StableHlo.TRef sig ⟨S256x1023x128, .f32⟩) (broadcastInDim S256x1023x128 ![] bcast_S_S256x1023x128),
    StableHlo.TRef.binary (.of main_while2b_v31 : StableHlo.TRef sig ⟨S256x1023x128, .f32⟩) (.of main_while2b_call6_v2 : StableHlo.TRef sig ⟨S256x1023x128, .f32⟩) (.of main_while2b_call6_v3 : StableHlo.TRef sig ⟨S256x1023x128, .f32⟩) subf,
    StableHlo.TRef.binary (.of main_while2b_call6_v3 : StableHlo.TRef sig ⟨S256x1023x128, .f32⟩) (.of main_while2b_call6_v3 : StableHlo.TRef sig ⟨S256x1023x128, .f32⟩) (.of main_while2b_call6_v4 : StableHlo.TRef sig ⟨S256x1023x128, .i1⟩) (cmpf .une),
    StableHlo.TRef.unary (.of main_while2b_call6_cst : StableHlo.TRef sig ⟨S_, .f32⟩) (.of main_while2b_call6_v5 : StableHlo.TRef sig ⟨S256x1023x128, .f32⟩) (broadcastInDim S256x1023x128 ![] bcast_S_S256x1023x128),
    StableHlo.TRef.binary (.of main_while2b_v31 : StableHlo.TRef sig ⟨S256x1023x128, .f32⟩) (.of main_while2b_call6_v5 : StableHlo.TRef sig ⟨S256x1023x128, .f32⟩) (.of main_while2b_call6_v6 : StableHlo.TRef sig ⟨S256x1023x128, .f32⟩) addf,
    StableHlo.TRef.unary (.of main_while2b_call6_v3 : StableHlo.TRef sig ⟨S256x1023x128, .f32⟩) (.of main_while2b_call6_v7 : StableHlo.TRef sig ⟨S256x1023x128, .f32⟩) Host.absf,
    StableHlo.TRef.unary (.of main_while2b_call6_v7 : StableHlo.TRef sig ⟨S256x1023x128, .f32⟩) (.of main_while2b_call6_v8 : StableHlo.TRef sig ⟨S256x1023x128, .f32⟩) Host.negf,
    StableHlo.TRef.unary (.of main_while2b_call6_v8 : StableHlo.TRef sig ⟨S256x1023x128, .f32⟩) (.of main_while2b_call6_v9 : StableHlo.TRef sig ⟨S256x1023x128, .f32⟩) Host.exp,
    StableHlo.TRef.unary (.of main_while2b_call6_v9 : StableHlo.TRef sig ⟨S256x1023x128, .f32⟩) (.of main_while2b_call6_v10 : StableHlo.TRef sig ⟨S256x1023x128, .f32⟩) Host.log1p,
    StableHlo.TRef.binary (.of main_while2b_call6_v1 : StableHlo.TRef sig ⟨S256x1023x128, .f32⟩) (.of main_while2b_call6_v10 : StableHlo.TRef sig ⟨S256x1023x128, .f32⟩) (.of main_while2b_call6_v11 : StableHlo.TRef sig ⟨S256x1023x128, .f32⟩) addf,
    StableHlo.TRef.ternary (.of main_while2b_call6_v4 : StableHlo.TRef sig ⟨S256x1023x128, .i1⟩) (.of main_while2b_call6_v6 : StableHlo.TRef sig ⟨S256x1023x128, .f32⟩) (.of main_while2b_call6_v11 : StableHlo.TRef sig ⟨S256x1023x128, .f32⟩) (.of main_while2b_v32 : StableHlo.TRef sig ⟨S256x1023x128, .f32⟩) select ]
theorem decodeA1_sub : (decodeA1 : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩
theorem decodeA1_fresh : (decodeA1 : List (HloOp τ sig (Elt F))).Forall fun op => op.fresh = ∅ := forall_fresh_of_map rfl
abbrev decodeA1_W : List (Ref sig .tc) := [main_while2b_call6_cst, main_while2b_call6_v0, main_while2b_call6_v1, main_while2b_call6_v2, main_while2b_call6_v3, main_while2b_call6_v4, main_while2b_call6_v5, main_while2b_call6_v6, main_while2b_call6_v7, main_while2b_call6_v8, main_while2b_call6_v9, main_while2b_call6_v10, main_while2b_call6_v11, main_while2b_v32]
theorem decodeA1_writes : (decodeA1 : List (HloOp τ sig (Elt F))).Forall fun op => op.writes ⊆ (decodeA1_W.map (Proc.devRef (τ := τ) .tc)).toFinset :=
  forall_writes_sub_of_map rfl
theorem decodeA1_keep (V : Valuation τ sig (Elt F)) (r : Ref sig .tc) (h : r ∉ decodeA1_W) : after decodeA1 V (Proc.devRef .tc r) = V (Proc.devRef .tc r) :=
  after_of_writes_sub decodeA1 V decodeA1_writes h

/-- Operations of the decoder loop's body, first part. -/
abbrev decodeA2 : List (HloOp τ sig (Elt F)) :=
  [ StableHlo.unary main_v24_2 main_while2b_v33 ((transpose S128x128 [1, 0] · transposes_S128x128_S128x128_1_0) : (⟨S128x128, .f32⟩ : BufTy).Contents (Elt F) → (⟨S128x128, .f32⟩ : BufTy).Contents (Elt F)),
    StableHlo.binary main_while2b_v32 main_while2b_v33 main_while2b_v34 ((fun l r => Host.dotGeneral dot_S256x1023x128_S128x128_S256x1023x128_2_0_01_1_n_n none l r) : (⟨S256x1023x128, .f32⟩ : BufTy).Contents (Elt F) → (⟨S128x128, .f32⟩ : BufTy).Contents (Elt F) → (⟨S256x1023x128, .f32⟩ : BufTy).Contents (Elt F)),
    StableHlo.unary main_v24_3 main_while2b_v35 (broadcastInDim S1x1x128 ![2] bcast_S128_S1x1x128_2 : (⟨S128, .f32⟩ : BufTy).Contents (Elt F) → (⟨S1x1x128, .f32⟩ : BufTy).Contents (Elt F)),
    StableHlo.unary main_while2b_v35 main_while2b_v36 (broadcastInDim S256x1023x128 ![0, 1, 2] bcast_S1x1x128_S256x1023x128_0_1_2 : (⟨S1x1x128, .f32⟩ : BufTy).Contents (Elt F) → (⟨S256x1023x128, .f32⟩ : BufTy).Contents (Elt F)),
    StableHlo.binary main_while2b_v34 main_while2b_v36 main_while2b_v37 (addf : (⟨S256x1023x128, .f32⟩ : BufTy).Contents (Elt F) → (⟨S256x1023x128, .f32⟩ : BufTy).Contents (Elt F) → (⟨S256x1023x128, .f32⟩ : BufTy).Contents (Elt F)) ]
theorem decodeA2_sub : (decodeA2 : List (HloOp τ sig (Elt F))).Forall fun op => op.bufs ⊆ tcRefs τ sig :=
  ⟨unary_bufs_sub .., binary_bufs_sub .., unary_bufs_sub .., unary_bufs_sub .., binary_bufs_sub ..⟩
theorem decodeA2_fresh : (decodeA2 : List (HloOp τ sig (Elt F))).Forall fun op => op.fresh = ∅ := forall_fresh_of_map rfl
abbrev decodeA2_W : List (Ref sig .tc) := [main_while2b_v33, main_while2b_v34, main_while2b_v35, main_while2b_v36, main_while2b_v37]
theorem decodeA2_writes : (decodeA2 : List (HloOp τ sig (Elt F))).Forall fun op => op.writes ⊆ (decodeA2_W.map (Proc.devRef (τ := τ) .tc)).toFinset :=
  forall_writes_sub_of_map rfl
theorem decodeA2_keep (V : Valuation τ sig (Elt F)) (r : Ref sig .tc) (h : r ∉ decodeA2_W) : after decodeA2 V (Proc.devRef .tc r) = V (Proc.devRef .tc r) :=
  after_of_writes_sub decodeA2 V decodeA2_writes h

/-- Operations of the call of `softplus`. -/
abbrev decodeA3 : List (HloOp τ sig (Elt F)) :=
  [ StableHlo.TRef.nullary (.of main_while2b_call7_cst : StableHlo.TRef sig ⟨S_, .f32⟩) (constant S_ .f32 0x00000000#32),
    StableHlo.TRef.unary (.of main_while2b_call7_cst : StableHlo.TRef sig ⟨S_, .f32⟩) (.of main_while2b_call7_v0 : StableHlo.TRef sig ⟨S256x1023x128, .f32⟩) (broadcastInDim S256x1023x128 ![] bcast_S_S256x1023x128),
    StableHlo.TRef.binary (.of main_while2b_v37 : StableHlo.TRef sig ⟨S256x1023x128, .f32⟩) (.of main_while2b_call7_v0 : StableHlo.TRef sig ⟨S256x1023x128, .f32⟩) (.of main_while2b_call7_v1 : StableHlo.TRef sig ⟨S256x1023x128, .f32⟩) maximumf,
    StableHlo.TRef.unary (.of main_while2b_call7_cst : StableHlo.TRef sig ⟨S_, .f32⟩) (.of main_while2b_call7_v2 : StableHlo.TRef sig ⟨S256x1023x128, .f32⟩) (broadcastInDim S256x1023x128 ![] bcast_S_S256x1023x128),
    StableHlo.TRef.binary (.of main_while2b_v37 : StableHlo.TRef sig ⟨S256x1023x128, .f32⟩) (.of main_while2b_call7_v2 : StableHlo.TRef sig ⟨S256x1023x128, .f32⟩) (.of main_while2b_call7_v3 : StableHlo.TRef sig ⟨S256x1023x128, .f32⟩) subf,
    StableHlo.TRef.binary (.of main_while2b_call7_v3 : StableHlo.TRef sig ⟨S256x1023x128, .f32⟩) (.of main_while2b_call7_v3 : StableHlo.TRef sig ⟨S256x1023x128, .f32⟩) (.of main_while2b_call7_v4 : StableHlo.TRef sig ⟨S256x1023x128, .i1⟩) (cmpf .une),
    StableHlo.TRef.unary (.of main_while2b_call7_cst : StableHlo.TRef sig ⟨S_, .f32⟩) (.of main_while2b_call7_v5 : StableHlo.TRef sig ⟨S256x1023x128, .f32⟩) (broadcastInDim S256x1023x128 ![] bcast_S_S256x1023x128),
    StableHlo.TRef.binary (.of main_while2b_v37 : StableHlo.TRef sig ⟨S256x1023x128, .f32⟩) (.of main_while2b_call7_v5 : StableHlo.TRef sig ⟨S256x1023x128, .f32⟩) (.of main_while2b_call7_v6 : StableHlo.TRef sig ⟨S256x1023x128, .f32⟩) addf,
    StableHlo.TRef.unary (.of main_while2b_call7_v3 : StableHlo.TRef sig ⟨S256x1023x128, .f32⟩) (.of main_while2b_call7_v7 : StableHlo.TRef sig ⟨S256x1023x128, .f32⟩) Host.absf,
    StableHlo.TRef.unary (.of main_while2b_call7_v7 : StableHlo.TRef sig ⟨S256x1023x128, .f32⟩) (.of main_while2b_call7_v8 : StableHlo.TRef sig ⟨S256x1023x128, .f32⟩) Host.negf,
    StableHlo.TRef.unary (.of main_while2b_call7_v8 : StableHlo.TRef sig ⟨S256x1023x128, .f32⟩) (.of main_while2b_call7_v9 : StableHlo.TRef sig ⟨S256x1023x128, .f32⟩) Host.exp,
    StableHlo.TRef.unary (.of main_while2b_call7_v9 : StableHlo.TRef sig ⟨S256x1023x128, .f32⟩) (.of main_while2b_call7_v10 : StableHlo.TRef sig ⟨S256x1023x128, .f32⟩) Host.log1p,
    StableHlo.TRef.binary (.of main_while2b_call7_v1 : StableHlo.TRef sig ⟨S256x1023x128, .f32⟩) (.of main_while2b_call7_v10 : StableHlo.TRef sig ⟨S256x1023x128, .f32⟩) (.of main_while2b_call7_v11 : StableHlo.TRef sig ⟨S256x1023x128, .f32⟩) addf,
    StableHlo.TRef.ternary (.of main_while2b_call7_v4 : StableHlo.TRef sig ⟨S256x1023x128, .i1⟩) (.of main_while2b_call7_v6 : StableHlo.TRef sig ⟨S256x1023x128, .f32⟩) (.of main_while2b_call7_v11 : StableHlo.TRef sig ⟨S256x1023x128, .f32⟩) (.of main_while2b_v38 : StableHlo.TRef sig ⟨S256x1023x128, .f32⟩) select ]
theorem decodeA3_sub : (decodeA3 : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩
theorem decodeA3_fresh : (decodeA3 : List (HloOp τ sig (Elt F))).Forall fun op => op.fresh = ∅ := forall_fresh_of_map rfl
abbrev decodeA3_W : List (Ref sig .tc) := [main_while2b_call7_cst, main_while2b_call7_v0, main_while2b_call7_v1, main_while2b_call7_v2, main_while2b_call7_v3, main_while2b_call7_v4, main_while2b_call7_v5, main_while2b_call7_v6, main_while2b_call7_v7, main_while2b_call7_v8, main_while2b_call7_v9, main_while2b_call7_v10, main_while2b_call7_v11, main_while2b_v38]
theorem decodeA3_writes : (decodeA3 : List (HloOp τ sig (Elt F))).Forall fun op => op.writes ⊆ (decodeA3_W.map (Proc.devRef (τ := τ) .tc)).toFinset :=
  forall_writes_sub_of_map rfl
theorem decodeA3_keep (V : Valuation τ sig (Elt F)) (r : Ref sig .tc) (h : r ∉ decodeA3_W) : after decodeA3 V (Proc.devRef .tc r) = V (Proc.devRef .tc r) :=
  after_of_writes_sub decodeA3 V decodeA3_writes h

/-- Operations of the decoder loop's body, first part. -/
abbrev decodeA4 : List (HloOp τ sig (Elt F)) :=
  [ StableHlo.unary main_v24_4 main_while2b_v39 ((transpose S128x32 [1, 0] · transposes_S32x128_S128x32_1_0) : (⟨S32x128, .f32⟩ : BufTy).Contents (Elt F) → (⟨S128x32, .f32⟩ : BufTy).Contents (Elt F)),
    StableHlo.binary main_while2b_v38 main_while2b_v39 main_while2b_v40 ((fun l r => Host.dotGeneral dot_S256x1023x128_S128x32_S256x1023x32_2_0_01_1_n_n none l r) : (⟨S256x1023x128, .f32⟩ : BufTy).Contents (Elt F) → (⟨S128x32, .f32⟩ : BufTy).Contents (Elt F) → (⟨S256x1023x32, .f32⟩ : BufTy).Contents (Elt F)),
    StableHlo.unary main_v24_5 main_while2b_v41 (broadcastInDim S1x1x32 ![2] bcast_S32_S1x1x32_2 : (⟨S32, .f32⟩ : BufTy).Contents (Elt F) → (⟨S1x1x32, .f32⟩ : BufTy).Contents (Elt F)),
    StableHlo.unary main_while2b_v41 main_while2b_v42 (broadcastInDim S256x1023x32 ![0, 1, 2] bcast_S1x1x32_S256x1023x32_0_1_2 : (⟨S1x1x32, .f32⟩ : BufTy).Contents (Elt F) → (⟨S256x1023x32, .f32⟩ : BufTy).Contents (Elt F)),
    StableHlo.binary main_while2b_v40 main_while2b_v42 main_while2b_v43 (addf : (⟨S256x1023x32, .f32⟩ : BufTy).Contents (Elt F) → (⟨S256x1023x32, .f32⟩ : BufTy).Contents (Elt F) → (⟨S256x1023x32, .f32⟩ : BufTy).Contents (Elt F)) ]
theorem decodeA4_sub : (decodeA4 : List (HloOp τ sig (Elt F))).Forall fun op => op.bufs ⊆ tcRefs τ sig :=
  ⟨unary_bufs_sub .., binary_bufs_sub .., unary_bufs_sub .., unary_bufs_sub .., binary_bufs_sub ..⟩
theorem decodeA4_fresh : (decodeA4 : List (HloOp τ sig (Elt F))).Forall fun op => op.fresh = ∅ := forall_fresh_of_map rfl
abbrev decodeA4_W : List (Ref sig .tc) := [main_while2b_v39, main_while2b_v40, main_while2b_v41, main_while2b_v42, main_while2b_v43]
theorem decodeA4_writes : (decodeA4 : List (HloOp τ sig (Elt F))).Forall fun op => op.writes ⊆ (decodeA4_W.map (Proc.devRef (τ := τ) .tc)).toFinset :=
  forall_writes_sub_of_map rfl
theorem decodeA4_keep (V : Valuation τ sig (Elt F)) (r : Ref sig .tc) (h : r ∉ decodeA4_W) : after decodeA4 V (Proc.devRef .tc r) = V (Proc.devRef .tc r) :=
  after_of_writes_sub decodeA4 V decodeA4_writes h

/-- Operations of the decoder loop's body, first part. -/
abbrev decodeA5 : List (HloOp τ sig (Elt F)) :=
  [ StableHlo.nullary main_while2b_cst_10 (constant S_ .f32 0x3BA3D70A#32),
    StableHlo.unary main_while2b_cst_10 main_while2b_v44 (broadcastInDim S256x1023x32 ![] bcast_S_S256x1023x32 : (⟨S_, .f32⟩ : BufTy).Contents (Elt F) → (⟨S256x1023x32, .f32⟩ : BufTy).Contents (Elt F)),
    StableHlo.binary main_while2b_v44 main_while2b_v43 main_while2b_v45 (mulf : (⟨S256x1023x32, .f32⟩ : BufTy).Contents (Elt F) → (⟨S256x1023x32, .f32⟩ : BufTy).Contents (Elt F) → (⟨S256x1023x32, .f32⟩ : BufTy).Contents (Elt F)),
    StableHlo.binary main_v24_7 main_while2b_v45 main_while2b_v46 (addf : (⟨S256x1023x32, .f32⟩ : BufTy).Contents (Elt F) → (⟨S256x1023x32, .f32⟩ : BufTy).Contents (Elt F) → (⟨S256x1023x32, .f32⟩ : BufTy).Contents (Elt F)) ]
theorem decodeA5_sub : (decodeA5 : List (HloOp τ sig (Elt F))).Forall fun op => op.bufs ⊆ tcRefs τ sig :=
  ⟨nullary_bufs_sub .., unary_bufs_sub .., binary_bufs_sub .., binary_bufs_sub ..⟩
theorem decodeA5_fresh : (decodeA5 : List (HloOp τ sig (Elt F))).Forall fun op => op.fresh = ∅ := forall_fresh_of_map rfl
abbrev decodeA5_W : List (Ref sig .tc) := [main_while2b_cst_10, main_while2b_v44, main_while2b_v45, main_while2b_v46]
theorem decodeA5_writes : (decodeA5 : List (HloOp τ sig (Elt F))).Forall fun op => op.writes ⊆ (decodeA5_W.map (Proc.devRef (τ := τ) .tc)).toFinset :=
  forall_writes_sub_of_map rfl
theorem decodeA5_keep (V : Valuation τ sig (Elt F)) (r : Ref sig .tc) (h : r ∉ decodeA5_W) : after decodeA5 V (Proc.devRef .tc r) = V (Proc.devRef .tc r) :=
  after_of_writes_sub decodeA5 V decodeA5_writes h

/-- Operations of the decoder loop's body, first part. -/
abbrev decodeA6 : List (HloOp τ sig (Elt F)) :=
  [ StableHlo.unary main_v24_0 main_while2b_v47 ((transpose S32x128 [1, 0] · transposes_S128x32_S32x128_1_0) : (⟨S128x32, .f32⟩ : BufTy).Contents (Elt F) → (⟨S32x128, .f32⟩ : BufTy).Contents (Elt F)),
    StableHlo.binary main_while2b_v46 main_while2b_v47 main_while2b_v48 ((fun l r => Host.dotGeneral dot_S256x1023x32_S32x128_S256x1023x128_2_0_01_1_n_n none l r) : (⟨S256x1023x32, .f32⟩ : BufTy).Contents (Elt F) → (⟨S32x128, .f32⟩ : BufTy).Contents (Elt F) → (⟨S256x1023x128, .f32⟩ : BufTy).Contents (Elt F)),
    StableHlo.unary main_v24_1 main_while2b_v49 (broadcastInDim S1x1x128 ![2] bcast_S128_S1x1x128_2 : (⟨S128, .f32⟩ : BufTy).Contents (Elt F) → (⟨S1x1x128, .f32⟩ : BufTy).Contents (Elt F)),
    StableHlo.unary main_while2b_v49 main_while2b_v50 (broadcastInDim S256x1023x128 ![0, 1, 2] bcast_S1x1x128_S256x1023x128_0_1_2 : (⟨S1x1x128, .f32⟩ : BufTy).Contents (Elt F) → (⟨S256x1023x128, .f32⟩ : BufTy).Contents (Elt F)),
    StableHlo.binary main_while2b_v48 main_while2b_v50 main_while2b_v51 (addf : (⟨S256x1023x128, .f32⟩ : BufTy).Contents (Elt F) → (⟨S256x1023x128, .f32⟩ : BufTy).Contents (Elt F) → (⟨S256x1023x128, .f32⟩ : BufTy).Contents (Elt F)) ]
theorem decodeA6_sub : (decodeA6 : List (HloOp τ sig (Elt F))).Forall fun op => op.bufs ⊆ tcRefs τ sig :=
  ⟨unary_bufs_sub .., binary_bufs_sub .., unary_bufs_sub .., unary_bufs_sub .., binary_bufs_sub ..⟩
theorem decodeA6_fresh : (decodeA6 : List (HloOp τ sig (Elt F))).Forall fun op => op.fresh = ∅ := forall_fresh_of_map rfl
abbrev decodeA6_W : List (Ref sig .tc) := [main_while2b_v47, main_while2b_v48, main_while2b_v49, main_while2b_v50, main_while2b_v51]
theorem decodeA6_writes : (decodeA6 : List (HloOp τ sig (Elt F))).Forall fun op => op.writes ⊆ (decodeA6_W.map (Proc.devRef (τ := τ) .tc)).toFinset :=
  forall_writes_sub_of_map rfl
theorem decodeA6_keep (V : Valuation τ sig (Elt F)) (r : Ref sig .tc) (h : r ∉ decodeA6_W) : after decodeA6 V (Proc.devRef .tc r) = V (Proc.devRef .tc r) :=
  after_of_writes_sub decodeA6 V decodeA6_writes h

/-- Operations of the call of `softplus`. -/
abbrev decodeA7 : List (HloOp τ sig (Elt F)) :=
  [ StableHlo.TRef.nullary (.of main_while2b_call8_cst : StableHlo.TRef sig ⟨S_, .f32⟩) (constant S_ .f32 0x00000000#32),
    StableHlo.TRef.unary (.of main_while2b_call8_cst : StableHlo.TRef sig ⟨S_, .f32⟩) (.of main_while2b_call8_v0 : StableHlo.TRef sig ⟨S256x1023x128, .f32⟩) (broadcastInDim S256x1023x128 ![] bcast_S_S256x1023x128),
    StableHlo.TRef.binary (.of main_while2b_v51 : StableHlo.TRef sig ⟨S256x1023x128, .f32⟩) (.of main_while2b_call8_v0 : StableHlo.TRef sig ⟨S256x1023x128, .f32⟩) (.of main_while2b_call8_v1 : StableHlo.TRef sig ⟨S256x1023x128, .f32⟩) maximumf,
    StableHlo.TRef.unary (.of main_while2b_call8_cst : StableHlo.TRef sig ⟨S_, .f32⟩) (.of main_while2b_call8_v2 : StableHlo.TRef sig ⟨S256x1023x128, .f32⟩) (broadcastInDim S256x1023x128 ![] bcast_S_S256x1023x128),
    StableHlo.TRef.binary (.of main_while2b_v51 : StableHlo.TRef sig ⟨S256x1023x128, .f32⟩) (.of main_while2b_call8_v2 : StableHlo.TRef sig ⟨S256x1023x128, .f32⟩) (.of main_while2b_call8_v3 : StableHlo.TRef sig ⟨S256x1023x128, .f32⟩) subf,
    StableHlo.TRef.binary (.of main_while2b_call8_v3 : StableHlo.TRef sig ⟨S256x1023x128, .f32⟩) (.of main_while2b_call8_v3 : StableHlo.TRef sig ⟨S256x1023x128, .f32⟩) (.of main_while2b_call8_v4 : StableHlo.TRef sig ⟨S256x1023x128, .i1⟩) (cmpf .une),
    StableHlo.TRef.unary (.of main_while2b_call8_cst : StableHlo.TRef sig ⟨S_, .f32⟩) (.of main_while2b_call8_v5 : StableHlo.TRef sig ⟨S256x1023x128, .f32⟩) (broadcastInDim S256x1023x128 ![] bcast_S_S256x1023x128),
    StableHlo.TRef.binary (.of main_while2b_v51 : StableHlo.TRef sig ⟨S256x1023x128, .f32⟩) (.of main_while2b_call8_v5 : StableHlo.TRef sig ⟨S256x1023x128, .f32⟩) (.of main_while2b_call8_v6 : StableHlo.TRef sig ⟨S256x1023x128, .f32⟩) addf,
    StableHlo.TRef.unary (.of main_while2b_call8_v3 : StableHlo.TRef sig ⟨S256x1023x128, .f32⟩) (.of main_while2b_call8_v7 : StableHlo.TRef sig ⟨S256x1023x128, .f32⟩) Host.absf,
    StableHlo.TRef.unary (.of main_while2b_call8_v7 : StableHlo.TRef sig ⟨S256x1023x128, .f32⟩) (.of main_while2b_call8_v8 : StableHlo.TRef sig ⟨S256x1023x128, .f32⟩) Host.negf,
    StableHlo.TRef.unary (.of main_while2b_call8_v8 : StableHlo.TRef sig ⟨S256x1023x128, .f32⟩) (.of main_while2b_call8_v9 : StableHlo.TRef sig ⟨S256x1023x128, .f32⟩) Host.exp,
    StableHlo.TRef.unary (.of main_while2b_call8_v9 : StableHlo.TRef sig ⟨S256x1023x128, .f32⟩) (.of main_while2b_call8_v10 : StableHlo.TRef sig ⟨S256x1023x128, .f32⟩) Host.log1p,
    StableHlo.TRef.binary (.of main_while2b_call8_v1 : StableHlo.TRef sig ⟨S256x1023x128, .f32⟩) (.of main_while2b_call8_v10 : StableHlo.TRef sig ⟨S256x1023x128, .f32⟩) (.of main_while2b_call8_v11 : StableHlo.TRef sig ⟨S256x1023x128, .f32⟩) addf,
    StableHlo.TRef.ternary (.of main_while2b_call8_v4 : StableHlo.TRef sig ⟨S256x1023x128, .i1⟩) (.of main_while2b_call8_v6 : StableHlo.TRef sig ⟨S256x1023x128, .f32⟩) (.of main_while2b_call8_v11 : StableHlo.TRef sig ⟨S256x1023x128, .f32⟩) (.of main_while2b_v52 : StableHlo.TRef sig ⟨S256x1023x128, .f32⟩) select ]
theorem decodeA7_sub : (decodeA7 : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩
theorem decodeA7_fresh : (decodeA7 : List (HloOp τ sig (Elt F))).Forall fun op => op.fresh = ∅ := forall_fresh_of_map rfl
abbrev decodeA7_W : List (Ref sig .tc) := [main_while2b_call8_cst, main_while2b_call8_v0, main_while2b_call8_v1, main_while2b_call8_v2, main_while2b_call8_v3, main_while2b_call8_v4, main_while2b_call8_v5, main_while2b_call8_v6, main_while2b_call8_v7, main_while2b_call8_v8, main_while2b_call8_v9, main_while2b_call8_v10, main_while2b_call8_v11, main_while2b_v52]
theorem decodeA7_writes : (decodeA7 : List (HloOp τ sig (Elt F))).Forall fun op => op.writes ⊆ (decodeA7_W.map (Proc.devRef (τ := τ) .tc)).toFinset :=
  forall_writes_sub_of_map rfl
theorem decodeA7_keep (V : Valuation τ sig (Elt F)) (r : Ref sig .tc) (h : r ∉ decodeA7_W) : after decodeA7 V (Proc.devRef .tc r) = V (Proc.devRef .tc r) :=
  after_of_writes_sub decodeA7 V decodeA7_writes h

/-- Operations of the decoder loop's body, first part. -/
abbrev decodeA8 : List (HloOp τ sig (Elt F)) :=
  [ StableHlo.unary main_v24_2 main_while2b_v53 ((transpose S128x128 [1, 0] · transposes_S128x128_S128x128_1_0) : (⟨S128x128, .f32⟩ : BufTy).Contents (Elt F) → (⟨S128x128, .f32⟩ : BufTy).Contents (Elt F)),
    StableHlo.binary main_while2b_v52 main_while2b_v53 main_while2b_v54 ((fun l r => Host.dotGeneral dot_S256x1023x128_S128x128_S256x1023x128_2_0_01_1_n_n none l r) : (⟨S256x1023x128, .f32⟩ : BufTy).Contents (Elt F) → (⟨S128x128, .f32⟩ : BufTy).Contents (Elt F) → (⟨S256x1023x128, .f32⟩ : BufTy).Contents (Elt F)),
    StableHlo.unary main_v24_3 main_while2b_v55 (broadcastInDim S1x1x128 ![2] bcast_S128_S1x1x128_2 : (⟨S128, .f32⟩ : BufTy).Contents (Elt F) → (⟨S1x1x128, .f32⟩ : BufTy).Contents (Elt F)),
    StableHlo.unary main_while2b_v55 main_while2b_v56 (broadcastInDim S256x1023x128 ![0, 1, 2] bcast_S1x1x128_S256x1023x128_0_1_2 : (⟨S1x1x128, .f32⟩ : BufTy).Contents (Elt F) → (⟨S256x1023x128, .f32⟩ : BufTy).Contents (Elt F)),
    StableHlo.binary main_while2b_v54 main_while2b_v56 main_while2b_v57 (addf : (⟨S256x1023x128, .f32⟩ : BufTy).Contents (Elt F) → (⟨S256x1023x128, .f32⟩ : BufTy).Contents (Elt F) → (⟨S256x1023x128, .f32⟩ : BufTy).Contents (Elt F)) ]
theorem decodeA8_sub : (decodeA8 : List (HloOp τ sig (Elt F))).Forall fun op => op.bufs ⊆ tcRefs τ sig :=
  ⟨unary_bufs_sub .., binary_bufs_sub .., unary_bufs_sub .., unary_bufs_sub .., binary_bufs_sub ..⟩
theorem decodeA8_fresh : (decodeA8 : List (HloOp τ sig (Elt F))).Forall fun op => op.fresh = ∅ := forall_fresh_of_map rfl
abbrev decodeA8_W : List (Ref sig .tc) := [main_while2b_v53, main_while2b_v54, main_while2b_v55, main_while2b_v56, main_while2b_v57]
theorem decodeA8_writes : (decodeA8 : List (HloOp τ sig (Elt F))).Forall fun op => op.writes ⊆ (decodeA8_W.map (Proc.devRef (τ := τ) .tc)).toFinset :=
  forall_writes_sub_of_map rfl
theorem decodeA8_keep (V : Valuation τ sig (Elt F)) (r : Ref sig .tc) (h : r ∉ decodeA8_W) : after decodeA8 V (Proc.devRef .tc r) = V (Proc.devRef .tc r) :=
  after_of_writes_sub decodeA8 V decodeA8_writes h

/-- Operations of the call of `softplus`. -/
abbrev decodeA9 : List (HloOp τ sig (Elt F)) :=
  [ StableHlo.TRef.nullary (.of main_while2b_call9_cst : StableHlo.TRef sig ⟨S_, .f32⟩) (constant S_ .f32 0x00000000#32),
    StableHlo.TRef.unary (.of main_while2b_call9_cst : StableHlo.TRef sig ⟨S_, .f32⟩) (.of main_while2b_call9_v0 : StableHlo.TRef sig ⟨S256x1023x128, .f32⟩) (broadcastInDim S256x1023x128 ![] bcast_S_S256x1023x128),
    StableHlo.TRef.binary (.of main_while2b_v57 : StableHlo.TRef sig ⟨S256x1023x128, .f32⟩) (.of main_while2b_call9_v0 : StableHlo.TRef sig ⟨S256x1023x128, .f32⟩) (.of main_while2b_call9_v1 : StableHlo.TRef sig ⟨S256x1023x128, .f32⟩) maximumf,
    StableHlo.TRef.unary (.of main_while2b_call9_cst : StableHlo.TRef sig ⟨S_, .f32⟩) (.of main_while2b_call9_v2 : StableHlo.TRef sig ⟨S256x1023x128, .f32⟩) (broadcastInDim S256x1023x128 ![] bcast_S_S256x1023x128),
    StableHlo.TRef.binary (.of main_while2b_v57 : StableHlo.TRef sig ⟨S256x1023x128, .f32⟩) (.of main_while2b_call9_v2 : StableHlo.TRef sig ⟨S256x1023x128, .f32⟩) (.of main_while2b_call9_v3 : StableHlo.TRef sig ⟨S256x1023x128, .f32⟩) subf,
    StableHlo.TRef.binary (.of main_while2b_call9_v3 : StableHlo.TRef sig ⟨S256x1023x128, .f32⟩) (.of main_while2b_call9_v3 : StableHlo.TRef sig ⟨S256x1023x128, .f32⟩) (.of main_while2b_call9_v4 : StableHlo.TRef sig ⟨S256x1023x128, .i1⟩) (cmpf .une),
    StableHlo.TRef.unary (.of main_while2b_call9_cst : StableHlo.TRef sig ⟨S_, .f32⟩) (.of main_while2b_call9_v5 : StableHlo.TRef sig ⟨S256x1023x128, .f32⟩) (broadcastInDim S256x1023x128 ![] bcast_S_S256x1023x128),
    StableHlo.TRef.binary (.of main_while2b_v57 : StableHlo.TRef sig ⟨S256x1023x128, .f32⟩) (.of main_while2b_call9_v5 : StableHlo.TRef sig ⟨S256x1023x128, .f32⟩) (.of main_while2b_call9_v6 : StableHlo.TRef sig ⟨S256x1023x128, .f32⟩) addf,
    StableHlo.TRef.unary (.of main_while2b_call9_v3 : StableHlo.TRef sig ⟨S256x1023x128, .f32⟩) (.of main_while2b_call9_v7 : StableHlo.TRef sig ⟨S256x1023x128, .f32⟩) Host.absf,
    StableHlo.TRef.unary (.of main_while2b_call9_v7 : StableHlo.TRef sig ⟨S256x1023x128, .f32⟩) (.of main_while2b_call9_v8 : StableHlo.TRef sig ⟨S256x1023x128, .f32⟩) Host.negf,
    StableHlo.TRef.unary (.of main_while2b_call9_v8 : StableHlo.TRef sig ⟨S256x1023x128, .f32⟩) (.of main_while2b_call9_v9 : StableHlo.TRef sig ⟨S256x1023x128, .f32⟩) Host.exp,
    StableHlo.TRef.unary (.of main_while2b_call9_v9 : StableHlo.TRef sig ⟨S256x1023x128, .f32⟩) (.of main_while2b_call9_v10 : StableHlo.TRef sig ⟨S256x1023x128, .f32⟩) Host.log1p,
    StableHlo.TRef.binary (.of main_while2b_call9_v1 : StableHlo.TRef sig ⟨S256x1023x128, .f32⟩) (.of main_while2b_call9_v10 : StableHlo.TRef sig ⟨S256x1023x128, .f32⟩) (.of main_while2b_call9_v11 : StableHlo.TRef sig ⟨S256x1023x128, .f32⟩) addf,
    StableHlo.TRef.ternary (.of main_while2b_call9_v4 : StableHlo.TRef sig ⟨S256x1023x128, .i1⟩) (.of main_while2b_call9_v6 : StableHlo.TRef sig ⟨S256x1023x128, .f32⟩) (.of main_while2b_call9_v11 : StableHlo.TRef sig ⟨S256x1023x128, .f32⟩) (.of main_while2b_v58 : StableHlo.TRef sig ⟨S256x1023x128, .f32⟩) select ]
theorem decodeA9_sub : (decodeA9 : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩
theorem decodeA9_fresh : (decodeA9 : List (HloOp τ sig (Elt F))).Forall fun op => op.fresh = ∅ := forall_fresh_of_map rfl
abbrev decodeA9_W : List (Ref sig .tc) := [main_while2b_call9_cst, main_while2b_call9_v0, main_while2b_call9_v1, main_while2b_call9_v2, main_while2b_call9_v3, main_while2b_call9_v4, main_while2b_call9_v5, main_while2b_call9_v6, main_while2b_call9_v7, main_while2b_call9_v8, main_while2b_call9_v9, main_while2b_call9_v10, main_while2b_call9_v11, main_while2b_v58]
theorem decodeA9_writes : (decodeA9 : List (HloOp τ sig (Elt F))).Forall fun op => op.writes ⊆ (decodeA9_W.map (Proc.devRef (τ := τ) .tc)).toFinset :=
  forall_writes_sub_of_map rfl
theorem decodeA9_keep (V : Valuation τ sig (Elt F)) (r : Ref sig .tc) (h : r ∉ decodeA9_W) : after decodeA9 V (Proc.devRef .tc r) = V (Proc.devRef .tc r) :=
  after_of_writes_sub decodeA9 V decodeA9_writes h

/-- Operations of the decoder loop's body, first part. -/
abbrev decodeA10 : List (HloOp τ sig (Elt F)) :=
  [ StableHlo.unary main_v24_4 main_while2b_v59 ((transpose S128x32 [1, 0] · transposes_S32x128_S128x32_1_0) : (⟨S32x128, .f32⟩ : BufTy).Contents (Elt F) → (⟨S128x32, .f32⟩ : BufTy).Contents (Elt F)),
    StableHlo.binary main_while2b_v58 main_while2b_v59 main_while2b_v60 ((fun l r => Host.dotGeneral dot_S256x1023x128_S128x32_S256x1023x32_2_0_01_1_n_n none l r) : (⟨S256x1023x128, .f32⟩ : BufTy).Contents (Elt F) → (⟨S128x32, .f32⟩ : BufTy).Contents (Elt F) → (⟨S256x1023x32, .f32⟩ : BufTy).Contents (Elt F)),
    StableHlo.unary main_v24_5 main_while2b_v61 (broadcastInDim S1x1x32 ![2] bcast_S32_S1x1x32_2 : (⟨S32, .f32⟩ : BufTy).Contents (Elt F) → (⟨S1x1x32, .f32⟩ : BufTy).Contents (Elt F)),
    StableHlo.unary main_while2b_v61 main_while2b_v62 (broadcastInDim S256x1023x32 ![0, 1, 2] bcast_S1x1x32_S256x1023x32_0_1_2 : (⟨S1x1x32, .f32⟩ : BufTy).Contents (Elt F) → (⟨S256x1023x32, .f32⟩ : BufTy).Contents (Elt F)),
    StableHlo.binary main_while2b_v60 main_while2b_v62 main_while2b_v63 (addf : (⟨S256x1023x32, .f32⟩ : BufTy).Contents (Elt F) → (⟨S256x1023x32, .f32⟩ : BufTy).Contents (Elt F) → (⟨S256x1023x32, .f32⟩ : BufTy).Contents (Elt F)) ]
theorem decodeA10_sub : (decodeA10 : List (HloOp τ sig (Elt F))).Forall fun op => op.bufs ⊆ tcRefs τ sig :=
  ⟨unary_bufs_sub .., binary_bufs_sub .., unary_bufs_sub .., unary_bufs_sub .., binary_bufs_sub ..⟩
theorem decodeA10_fresh : (decodeA10 : List (HloOp τ sig (Elt F))).Forall fun op => op.fresh = ∅ := forall_fresh_of_map rfl
abbrev decodeA10_W : List (Ref sig .tc) := [main_while2b_v59, main_while2b_v60, main_while2b_v61, main_while2b_v62, main_while2b_v63]
theorem decodeA10_writes : (decodeA10 : List (HloOp τ sig (Elt F))).Forall fun op => op.writes ⊆ (decodeA10_W.map (Proc.devRef (τ := τ) .tc)).toFinset :=
  forall_writes_sub_of_map rfl
theorem decodeA10_keep (V : Valuation τ sig (Elt F)) (r : Ref sig .tc) (h : r ∉ decodeA10_W) : after decodeA10 V (Proc.devRef .tc r) = V (Proc.devRef .tc r) :=
  after_of_writes_sub decodeA10 V decodeA10_writes h

/-- Operations of the decoder loop's body, first part. -/
abbrev decodeA11 : List (HloOp τ sig (Elt F)) :=
  [ StableHlo.nullary main_while2b_cst_11 (constant S_ .f32 0x3BA3D70A#32),
    StableHlo.unary main_while2b_cst_11 main_while2b_v64 (broadcastInDim S256x1023x32 ![] bcast_S_S256x1023x32 : (⟨S_, .f32⟩ : BufTy).Contents (Elt F) → (⟨S256x1023x32, .f32⟩ : BufTy).Contents (Elt F)),
    StableHlo.binary main_while2b_v64 main_while2b_v63 main_while2b_v65 (mulf : (⟨S256x1023x32, .f32⟩ : BufTy).Contents (Elt F) → (⟨S256x1023x32, .f32⟩ : BufTy).Contents (Elt F) → (⟨S256x1023x32, .f32⟩ : BufTy).Contents (Elt F)),
    StableHlo.binary main_v24_7 main_while2b_v65 main_while2b_v66 (addf : (⟨S256x1023x32, .f32⟩ : BufTy).Contents (Elt F) → (⟨S256x1023x32, .f32⟩ : BufTy).Contents (Elt F) → (⟨S256x1023x32, .f32⟩ : BufTy).Contents (Elt F)) ]
theorem decodeA11_sub : (decodeA11 : List (HloOp τ sig (Elt F))).Forall fun op => op.bufs ⊆ tcRefs τ sig :=
  ⟨nullary_bufs_sub .., unary_bufs_sub .., binary_bufs_sub .., binary_bufs_sub ..⟩
theorem decodeA11_fresh : (decodeA11 : List (HloOp τ sig (Elt F))).Forall fun op => op.fresh = ∅ := forall_fresh_of_map rfl
abbrev decodeA11_W : List (Ref sig .tc) := [main_while2b_cst_11, main_while2b_v64, main_while2b_v65, main_while2b_v66]
theorem decodeA11_writes : (decodeA11 : List (HloOp τ sig (Elt F))).Forall fun op => op.writes ⊆ (decodeA11_W.map (Proc.devRef (τ := τ) .tc)).toFinset :=
  forall_writes_sub_of_map rfl
theorem decodeA11_keep (V : Valuation τ sig (Elt F)) (r : Ref sig .tc) (h : r ∉ decodeA11_W) : after decodeA11 V (Proc.devRef .tc r) = V (Proc.devRef .tc r) :=
  after_of_writes_sub decodeA11 V decodeA11_writes h

/-- Operations of the decoder loop's body, first part. -/
abbrev decodeA12 : List (HloOp τ sig (Elt F)) :=
  [ StableHlo.unary main_v24_0 main_while2b_v67 ((transpose S32x128 [1, 0] · transposes_S128x32_S32x128_1_0) : (⟨S128x32, .f32⟩ : BufTy).Contents (Elt F) → (⟨S32x128, .f32⟩ : BufTy).Contents (Elt F)),
    StableHlo.binary main_while2b_v66 main_while2b_v67 main_while2b_v68 ((fun l r => Host.dotGeneral dot_S256x1023x32_S32x128_S256x1023x128_2_0_01_1_n_n none l r) : (⟨S256x1023x32, .f32⟩ : BufTy).Contents (Elt F) → (⟨S32x128, .f32⟩ : BufTy).Contents (Elt F) → (⟨S256x1023x128, .f32⟩ : BufTy).Contents (Elt F)),
    StableHlo.unary main_v24_1 main_while2b_v69 (broadcastInDim S1x1x128 ![2] bcast_S128_S1x1x128_2 : (⟨S128, .f32⟩ : BufTy).Contents (Elt F) → (⟨S1x1x128, .f32⟩ : BufTy).Contents (Elt F)),
    StableHlo.unary main_while2b_v69 main_while2b_v70 (broadcastInDim S256x1023x128 ![0, 1, 2] bcast_S1x1x128_S256x1023x128_0_1_2 : (⟨S1x1x128, .f32⟩ : BufTy).Contents (Elt F) → (⟨S256x1023x128, .f32⟩ : BufTy).Contents (Elt F)),
    StableHlo.binary main_while2b_v68 main_while2b_v70 main_while2b_v71 (addf : (⟨S256x1023x128, .f32⟩ : BufTy).Contents (Elt F) → (⟨S256x1023x128, .f32⟩ : BufTy).Contents (Elt F) → (⟨S256x1023x128, .f32⟩ : BufTy).Contents (Elt F)) ]
theorem decodeA12_sub : (decodeA12 : List (HloOp τ sig (Elt F))).Forall fun op => op.bufs ⊆ tcRefs τ sig :=
  ⟨unary_bufs_sub .., binary_bufs_sub .., unary_bufs_sub .., unary_bufs_sub .., binary_bufs_sub ..⟩
theorem decodeA12_fresh : (decodeA12 : List (HloOp τ sig (Elt F))).Forall fun op => op.fresh = ∅ := forall_fresh_of_map rfl
abbrev decodeA12_W : List (Ref sig .tc) := [main_while2b_v67, main_while2b_v68, main_while2b_v69, main_while2b_v70, main_while2b_v71]
theorem decodeA12_writes : (decodeA12 : List (HloOp τ sig (Elt F))).Forall fun op => op.writes ⊆ (decodeA12_W.map (Proc.devRef (τ := τ) .tc)).toFinset :=
  forall_writes_sub_of_map rfl
theorem decodeA12_keep (V : Valuation τ sig (Elt F)) (r : Ref sig .tc) (h : r ∉ decodeA12_W) : after decodeA12 V (Proc.devRef .tc r) = V (Proc.devRef .tc r) :=
  after_of_writes_sub decodeA12 V decodeA12_writes h

/-- Operations of the call of `softplus`. -/
abbrev decodeA13 : List (HloOp τ sig (Elt F)) :=
  [ StableHlo.TRef.nullary (.of main_while2b_call10_cst : StableHlo.TRef sig ⟨S_, .f32⟩) (constant S_ .f32 0x00000000#32),
    StableHlo.TRef.unary (.of main_while2b_call10_cst : StableHlo.TRef sig ⟨S_, .f32⟩) (.of main_while2b_call10_v0 : StableHlo.TRef sig ⟨S256x1023x128, .f32⟩) (broadcastInDim S256x1023x128 ![] bcast_S_S256x1023x128),
    StableHlo.TRef.binary (.of main_while2b_v71 : StableHlo.TRef sig ⟨S256x1023x128, .f32⟩) (.of main_while2b_call10_v0 : StableHlo.TRef sig ⟨S256x1023x128, .f32⟩) (.of main_while2b_call10_v1 : StableHlo.TRef sig ⟨S256x1023x128, .f32⟩) maximumf,
    StableHlo.TRef.unary (.of main_while2b_call10_cst : StableHlo.TRef sig ⟨S_, .f32⟩) (.of main_while2b_call10_v2 : StableHlo.TRef sig ⟨S256x1023x128, .f32⟩) (broadcastInDim S256x1023x128 ![] bcast_S_S256x1023x128),
    StableHlo.TRef.binary (.of main_while2b_v71 : StableHlo.TRef sig ⟨S256x1023x128, .f32⟩) (.of main_while2b_call10_v2 : StableHlo.TRef sig ⟨S256x1023x128, .f32⟩) (.of main_while2b_call10_v3 : StableHlo.TRef sig ⟨S256x1023x128, .f32⟩) subf,
    StableHlo.TRef.binary (.of main_while2b_call10_v3 : StableHlo.TRef sig ⟨S256x1023x128, .f32⟩) (.of main_while2b_call10_v3 : StableHlo.TRef sig ⟨S256x1023x128, .f32⟩) (.of main_while2b_call10_v4 : StableHlo.TRef sig ⟨S256x1023x128, .i1⟩) (cmpf .une),
    StableHlo.TRef.unary (.of main_while2b_call10_cst : StableHlo.TRef sig ⟨S_, .f32⟩) (.of main_while2b_call10_v5 : StableHlo.TRef sig ⟨S256x1023x128, .f32⟩) (broadcastInDim S256x1023x128 ![] bcast_S_S256x1023x128),
    StableHlo.TRef.binary (.of main_while2b_v71 : StableHlo.TRef sig ⟨S256x1023x128, .f32⟩) (.of main_while2b_call10_v5 : StableHlo.TRef sig ⟨S256x1023x128, .f32⟩) (.of main_while2b_call10_v6 : StableHlo.TRef sig ⟨S256x1023x128, .f32⟩) addf,
    StableHlo.TRef.unary (.of main_while2b_call10_v3 : StableHlo.TRef sig ⟨S256x1023x128, .f32⟩) (.of main_while2b_call10_v7 : StableHlo.TRef sig ⟨S256x1023x128, .f32⟩) Host.absf,
    StableHlo.TRef.unary (.of main_while2b_call10_v7 : StableHlo.TRef sig ⟨S256x1023x128, .f32⟩) (.of main_while2b_call10_v8 : StableHlo.TRef sig ⟨S256x1023x128, .f32⟩) Host.negf,
    StableHlo.TRef.unary (.of main_while2b_call10_v8 : StableHlo.TRef sig ⟨S256x1023x128, .f32⟩) (.of main_while2b_call10_v9 : StableHlo.TRef sig ⟨S256x1023x128, .f32⟩) Host.exp,
    StableHlo.TRef.unary (.of main_while2b_call10_v9 : StableHlo.TRef sig ⟨S256x1023x128, .f32⟩) (.of main_while2b_call10_v10 : StableHlo.TRef sig ⟨S256x1023x128, .f32⟩) Host.log1p,
    StableHlo.TRef.binary (.of main_while2b_call10_v1 : StableHlo.TRef sig ⟨S256x1023x128, .f32⟩) (.of main_while2b_call10_v10 : StableHlo.TRef sig ⟨S256x1023x128, .f32⟩) (.of main_while2b_call10_v11 : StableHlo.TRef sig ⟨S256x1023x128, .f32⟩) addf,
    StableHlo.TRef.ternary (.of main_while2b_call10_v4 : StableHlo.TRef sig ⟨S256x1023x128, .i1⟩) (.of main_while2b_call10_v6 : StableHlo.TRef sig ⟨S256x1023x128, .f32⟩) (.of main_while2b_call10_v11 : StableHlo.TRef sig ⟨S256x1023x128, .f32⟩) (.of main_while2b_v72 : StableHlo.TRef sig ⟨S256x1023x128, .f32⟩) select ]
theorem decodeA13_sub : (decodeA13 : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩
theorem decodeA13_fresh : (decodeA13 : List (HloOp τ sig (Elt F))).Forall fun op => op.fresh = ∅ := forall_fresh_of_map rfl
abbrev decodeA13_W : List (Ref sig .tc) := [main_while2b_call10_cst, main_while2b_call10_v0, main_while2b_call10_v1, main_while2b_call10_v2, main_while2b_call10_v3, main_while2b_call10_v4, main_while2b_call10_v5, main_while2b_call10_v6, main_while2b_call10_v7, main_while2b_call10_v8, main_while2b_call10_v9, main_while2b_call10_v10, main_while2b_call10_v11, main_while2b_v72]
theorem decodeA13_writes : (decodeA13 : List (HloOp τ sig (Elt F))).Forall fun op => op.writes ⊆ (decodeA13_W.map (Proc.devRef (τ := τ) .tc)).toFinset :=
  forall_writes_sub_of_map rfl
theorem decodeA13_keep (V : Valuation τ sig (Elt F)) (r : Ref sig .tc) (h : r ∉ decodeA13_W) : after decodeA13 V (Proc.devRef .tc r) = V (Proc.devRef .tc r) :=
  after_of_writes_sub decodeA13 V decodeA13_writes h

/-- Operations of the decoder loop's body, first part. -/
abbrev decodeA14 : List (HloOp τ sig (Elt F)) :=
  [ StableHlo.unary main_v24_2 main_while2b_v73 ((transpose S128x128 [1, 0] · transposes_S128x128_S128x128_1_0) : (⟨S128x128, .f32⟩ : BufTy).Contents (Elt F) → (⟨S128x128, .f32⟩ : BufTy).Contents (Elt F)),
    StableHlo.binary main_while2b_v72 main_while2b_v73 main_while2b_v74 ((fun l r => Host.dotGeneral dot_S256x1023x128_S128x128_S256x1023x128_2_0_01_1_n_n none l r) : (⟨S256x1023x128, .f32⟩ : BufTy).Contents (Elt F) → (⟨S128x128, .f32⟩ : BufTy).Contents (Elt F) → (⟨S256x1023x128, .f32⟩ : BufTy).Contents (Elt F)),
    StableHlo.unary main_v24_3 main_while2b_v75 (broadcastInDim S1x1x128 ![2] bcast_S128_S1x1x128_2 : (⟨S128, .f32⟩ : BufTy).Contents (Elt F) → (⟨S1x1x128, .f32⟩ : BufTy).Contents (Elt F)),
    StableHlo.unary main_while2b_v75 main_while2b_v76 (broadcastInDim S256x1023x128 ![0, 1, 2] bcast_S1x1x128_S256x1023x128_0_1_2 : (⟨S1x1x128, .f32⟩ : BufTy).Contents (Elt F) → (⟨S256x1023x128, .f32⟩ : BufTy).Contents (Elt F)),
    StableHlo.binary main_while2b_v74 main_while2b_v76 main_while2b_v77 (addf : (⟨S256x1023x128, .f32⟩ : BufTy).Contents (Elt F) → (⟨S256x1023x128, .f32⟩ : BufTy).Contents (Elt F) → (⟨S256x1023x128, .f32⟩ : BufTy).Contents (Elt F)) ]
theorem decodeA14_sub : (decodeA14 : List (HloOp τ sig (Elt F))).Forall fun op => op.bufs ⊆ tcRefs τ sig :=
  ⟨unary_bufs_sub .., binary_bufs_sub .., unary_bufs_sub .., unary_bufs_sub .., binary_bufs_sub ..⟩
theorem decodeA14_fresh : (decodeA14 : List (HloOp τ sig (Elt F))).Forall fun op => op.fresh = ∅ := forall_fresh_of_map rfl
abbrev decodeA14_W : List (Ref sig .tc) := [main_while2b_v73, main_while2b_v74, main_while2b_v75, main_while2b_v76, main_while2b_v77]
theorem decodeA14_writes : (decodeA14 : List (HloOp τ sig (Elt F))).Forall fun op => op.writes ⊆ (decodeA14_W.map (Proc.devRef (τ := τ) .tc)).toFinset :=
  forall_writes_sub_of_map rfl
theorem decodeA14_keep (V : Valuation τ sig (Elt F)) (r : Ref sig .tc) (h : r ∉ decodeA14_W) : after decodeA14 V (Proc.devRef .tc r) = V (Proc.devRef .tc r) :=
  after_of_writes_sub decodeA14 V decodeA14_writes h

/-- Operations of the call of `softplus`. -/
abbrev decodeA15 : List (HloOp τ sig (Elt F)) :=
  [ StableHlo.TRef.nullary (.of main_while2b_call11_cst : StableHlo.TRef sig ⟨S_, .f32⟩) (constant S_ .f32 0x00000000#32),
    StableHlo.TRef.unary (.of main_while2b_call11_cst : StableHlo.TRef sig ⟨S_, .f32⟩) (.of main_while2b_call11_v0 : StableHlo.TRef sig ⟨S256x1023x128, .f32⟩) (broadcastInDim S256x1023x128 ![] bcast_S_S256x1023x128),
    StableHlo.TRef.binary (.of main_while2b_v77 : StableHlo.TRef sig ⟨S256x1023x128, .f32⟩) (.of main_while2b_call11_v0 : StableHlo.TRef sig ⟨S256x1023x128, .f32⟩) (.of main_while2b_call11_v1 : StableHlo.TRef sig ⟨S256x1023x128, .f32⟩) maximumf,
    StableHlo.TRef.unary (.of main_while2b_call11_cst : StableHlo.TRef sig ⟨S_, .f32⟩) (.of main_while2b_call11_v2 : StableHlo.TRef sig ⟨S256x1023x128, .f32⟩) (broadcastInDim S256x1023x128 ![] bcast_S_S256x1023x128),
    StableHlo.TRef.binary (.of main_while2b_v77 : StableHlo.TRef sig ⟨S256x1023x128, .f32⟩) (.of main_while2b_call11_v2 : StableHlo.TRef sig ⟨S256x1023x128, .f32⟩) (.of main_while2b_call11_v3 : StableHlo.TRef sig ⟨S256x1023x128, .f32⟩) subf,
    StableHlo.TRef.binary (.of main_while2b_call11_v3 : StableHlo.TRef sig ⟨S256x1023x128, .f32⟩) (.of main_while2b_call11_v3 : StableHlo.TRef sig ⟨S256x1023x128, .f32⟩) (.of main_while2b_call11_v4 : StableHlo.TRef sig ⟨S256x1023x128, .i1⟩) (cmpf .une),
    StableHlo.TRef.unary (.of main_while2b_call11_cst : StableHlo.TRef sig ⟨S_, .f32⟩) (.of main_while2b_call11_v5 : StableHlo.TRef sig ⟨S256x1023x128, .f32⟩) (broadcastInDim S256x1023x128 ![] bcast_S_S256x1023x128),
    StableHlo.TRef.binary (.of main_while2b_v77 : StableHlo.TRef sig ⟨S256x1023x128, .f32⟩) (.of main_while2b_call11_v5 : StableHlo.TRef sig ⟨S256x1023x128, .f32⟩) (.of main_while2b_call11_v6 : StableHlo.TRef sig ⟨S256x1023x128, .f32⟩) addf,
    StableHlo.TRef.unary (.of main_while2b_call11_v3 : StableHlo.TRef sig ⟨S256x1023x128, .f32⟩) (.of main_while2b_call11_v7 : StableHlo.TRef sig ⟨S256x1023x128, .f32⟩) Host.absf,
    StableHlo.TRef.unary (.of main_while2b_call11_v7 : StableHlo.TRef sig ⟨S256x1023x128, .f32⟩) (.of main_while2b_call11_v8 : StableHlo.TRef sig ⟨S256x1023x128, .f32⟩) Host.negf,
    StableHlo.TRef.unary (.of main_while2b_call11_v8 : StableHlo.TRef sig ⟨S256x1023x128, .f32⟩) (.of main_while2b_call11_v9 : StableHlo.TRef sig ⟨S256x1023x128, .f32⟩) Host.exp,
    StableHlo.TRef.unary (.of main_while2b_call11_v9 : StableHlo.TRef sig ⟨S256x1023x128, .f32⟩) (.of main_while2b_call11_v10 : StableHlo.TRef sig ⟨S256x1023x128, .f32⟩) Host.log1p,
    StableHlo.TRef.binary (.of main_while2b_call11_v1 : StableHlo.TRef sig ⟨S256x1023x128, .f32⟩) (.of main_while2b_call11_v10 : StableHlo.TRef sig ⟨S256x1023x128, .f32⟩) (.of main_while2b_call11_v11 : StableHlo.TRef sig ⟨S256x1023x128, .f32⟩) addf,
    StableHlo.TRef.ternary (.of main_while2b_call11_v4 : StableHlo.TRef sig ⟨S256x1023x128, .i1⟩) (.of main_while2b_call11_v6 : StableHlo.TRef sig ⟨S256x1023x128, .f32⟩) (.of main_while2b_call11_v11 : StableHlo.TRef sig ⟨S256x1023x128, .f32⟩) (.of main_while2b_v78 : StableHlo.TRef sig ⟨S256x1023x128, .f32⟩) select ]
theorem decodeA15_sub : (decodeA15 : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩
theorem decodeA15_fresh : (decodeA15 : List (HloOp τ sig (Elt F))).Forall fun op => op.fresh = ∅ := forall_fresh_of_map rfl
abbrev decodeA15_W : List (Ref sig .tc) := [main_while2b_call11_cst, main_while2b_call11_v0, main_while2b_call11_v1, main_while2b_call11_v2, main_while2b_call11_v3, main_while2b_call11_v4, main_while2b_call11_v5, main_while2b_call11_v6, main_while2b_call11_v7, main_while2b_call11_v8, main_while2b_call11_v9, main_while2b_call11_v10, main_while2b_call11_v11, main_while2b_v78]
theorem decodeA15_writes : (decodeA15 : List (HloOp τ sig (Elt F))).Forall fun op => op.writes ⊆ (decodeA15_W.map (Proc.devRef (τ := τ) .tc)).toFinset :=
  forall_writes_sub_of_map rfl
theorem decodeA15_keep (V : Valuation τ sig (Elt F)) (r : Ref sig .tc) (h : r ∉ decodeA15_W) : after decodeA15 V (Proc.devRef .tc r) = V (Proc.devRef .tc r) :=
  after_of_writes_sub decodeA15 V decodeA15_writes h

/-- Operations of the decoder loop's body, first part. -/
abbrev decodeA16 : List (HloOp τ sig (Elt F)) :=
  [ StableHlo.unary main_v24_4 main_while2b_v79 ((transpose S128x32 [1, 0] · transposes_S32x128_S128x32_1_0) : (⟨S32x128, .f32⟩ : BufTy).Contents (Elt F) → (⟨S128x32, .f32⟩ : BufTy).Contents (Elt F)),
    StableHlo.binary main_while2b_v78 main_while2b_v79 main_while2b_v80 ((fun l r => Host.dotGeneral dot_S256x1023x128_S128x32_S256x1023x32_2_0_01_1_n_n none l r) : (⟨S256x1023x128, .f32⟩ : BufTy).Contents (Elt F) → (⟨S128x32, .f32⟩ : BufTy).Contents (Elt F) → (⟨S256x1023x32, .f32⟩ : BufTy).Contents (Elt F)),
    StableHlo.unary main_v24_5 main_while2b_v81 (broadcastInDim S1x1x32 ![2] bcast_S32_S1x1x32_2 : (⟨S32, .f32⟩ : BufTy).Contents (Elt F) → (⟨S1x1x32, .f32⟩ : BufTy).Contents (Elt F)),
    StableHlo.unary main_while2b_v81 main_while2b_v82 (broadcastInDim S256x1023x32 ![0, 1, 2] bcast_S1x1x32_S256x1023x32_0_1_2 : (⟨S1x1x32, .f32⟩ : BufTy).Contents (Elt F) → (⟨S256x1023x32, .f32⟩ : BufTy).Contents (Elt F)),
    StableHlo.binary main_while2b_v80 main_while2b_v82 main_while2b_v83 (addf : (⟨S256x1023x32, .f32⟩ : BufTy).Contents (Elt F) → (⟨S256x1023x32, .f32⟩ : BufTy).Contents (Elt F) → (⟨S256x1023x32, .f32⟩ : BufTy).Contents (Elt F)) ]
theorem decodeA16_sub : (decodeA16 : List (HloOp τ sig (Elt F))).Forall fun op => op.bufs ⊆ tcRefs τ sig :=
  ⟨unary_bufs_sub .., binary_bufs_sub .., unary_bufs_sub .., unary_bufs_sub .., binary_bufs_sub ..⟩
theorem decodeA16_fresh : (decodeA16 : List (HloOp τ sig (Elt F))).Forall fun op => op.fresh = ∅ := forall_fresh_of_map rfl
abbrev decodeA16_W : List (Ref sig .tc) := [main_while2b_v79, main_while2b_v80, main_while2b_v81, main_while2b_v82, main_while2b_v83]
theorem decodeA16_writes : (decodeA16 : List (HloOp τ sig (Elt F))).Forall fun op => op.writes ⊆ (decodeA16_W.map (Proc.devRef (τ := τ) .tc)).toFinset :=
  forall_writes_sub_of_map rfl
theorem decodeA16_keep (V : Valuation τ sig (Elt F)) (r : Ref sig .tc) (h : r ∉ decodeA16_W) : after decodeA16 V (Proc.devRef .tc r) = V (Proc.devRef .tc r) :=
  after_of_writes_sub decodeA16 V decodeA16_writes h

/-- Operations of the decoder loop's body, first part. -/
abbrev decodeA17 : List (HloOp τ sig (Elt F)) :=
  [ StableHlo.nullary main_while2b_cst_12 (constant S_ .f32 0x3C23D70A#32) ]
theorem decodeA17_sub : (decodeA17 : List (HloOp τ sig (Elt F))).Forall fun op => op.bufs ⊆ tcRefs τ sig :=
  nullary_bufs_sub ..
theorem decodeA17_fresh : (decodeA17 : List (HloOp τ sig (Elt F))).Forall fun op => op.fresh = ∅ := forall_fresh_of_map rfl
abbrev decodeA17_W : List (Ref sig .tc) := [main_while2b_cst_12]
theorem decodeA17_writes : (decodeA17 : List (HloOp τ sig (Elt F))).Forall fun op => op.writes ⊆ (decodeA17_W.map (Proc.devRef (τ := τ) .tc)).toFinset :=
  forall_writes_sub_of_map rfl
theorem decodeA17_keep (V : Valuation τ sig (Elt F)) (r : Ref sig .tc) (h : r ∉ decodeA17_W) : after decodeA17 V (Proc.devRef .tc r) = V (Proc.devRef .tc r) :=
  after_of_writes_sub decodeA17 V decodeA17_writes h

/-- Operations of the decoder loop's body, second part. -/
abbrev decodeB0 : List (HloOp τ sig (Elt F)) :=
  [ StableHlo.unary main_while2b_cst_12 main_while2b_v84 (broadcastInDim S256x1023x32 ![] bcast_S_S256x1023x32 : (⟨S_, .f32⟩ : BufTy).Contents (Elt F) → (⟨S256x1023x32, .f32⟩ : BufTy).Contents (Elt F)),
    StableHlo.binary main_while2b_v84 main_while2b_v83 main_while2b_v85 (mulf : (⟨S256x1023x32, .f32⟩ : BufTy).Contents (Elt F) → (⟨S256x1023x32, .f32⟩ : BufTy).Contents (Elt F) → (⟨S256x1023x32, .f32⟩ : BufTy).Contents (Elt F)),
    StableHlo.binary main_v24_7 main_while2b_v85 main_while2b_v86 (addf : (⟨S256x1023x32, .f32⟩ : BufTy).Contents (Elt F) → (⟨S256x1023x32, .f32⟩ : BufTy).Contents (Elt F) → (⟨S256x1023x32, .f32⟩ : BufTy).Contents (Elt F)) ]
theorem decodeB0_sub : (decodeB0 : List (HloOp τ sig (Elt F))).Forall fun op => op.bufs ⊆ tcRefs τ sig :=
  ⟨unary_bufs_sub .., binary_bufs_sub .., binary_bufs_sub ..⟩
theorem decodeB0_fresh : (decodeB0 : List (HloOp τ sig (Elt F))).Forall fun op => op.fresh = ∅ := forall_fresh_of_map rfl
abbrev decodeB0_W : List (Ref sig .tc) := [main_while2b_v84, main_while2b_v85, main_while2b_v86]
theorem decodeB0_writes : (decodeB0 : List (HloOp τ sig (Elt F))).Forall fun op => op.writes ⊆ (decodeB0_W.map (Proc.devRef (τ := τ) .tc)).toFinset :=
  forall_writes_sub_of_map rfl
theorem decodeB0_keep (V : Valuation τ sig (Elt F)) (r : Ref sig .tc) (h : r ∉ decodeB0_W) : after decodeB0 V (Proc.devRef .tc r) = V (Proc.devRef .tc r) :=
  after_of_writes_sub decodeB0 V decodeB0_writes h

/-- Operations of the decoder loop's body, second part. -/
abbrev decodeB1 : List (HloOp τ sig (Elt F)) :=
  [ StableHlo.unary main_v24_0 main_while2b_v87 ((transpose S32x128 [1, 0] · transposes_S128x32_S32x128_1_0) : (⟨S128x32, .f32⟩ : BufTy).Contents (Elt F) → (⟨S32x128, .f32⟩ : BufTy).Contents (Elt F)),
    StableHlo.binary main_while2b_v86 main_while2b_v87 main_while2b_v88 ((fun l r => Host.dotGeneral dot_S256x1023x32_S32x128_S256x1023x128_2_0_01_1_n_n none l r) : (⟨S256x1023x32, .f32⟩ : BufTy).Contents (Elt F) → (⟨S32x128, .f32⟩ : BufTy).Contents (Elt F) → (⟨S256x1023x128, .f32⟩ : BufTy).Contents (Elt F)),
    StableHlo.unary main_v24_1 main_while2b_v89 (broadcastInDim S1x1x128 ![2] bcast_S128_S1x1x128_2 : (⟨S128, .f32⟩ : BufTy).Contents (Elt F) → (⟨S1x1x128, .f32⟩ : BufTy).Contents (Elt F)),
    StableHlo.unary main_while2b_v89 main_while2b_v90 (broadcastInDim S256x1023x128 ![0, 1, 2] bcast_S1x1x128_S256x1023x128_0_1_2 : (⟨S1x1x128, .f32⟩ : BufTy).Contents (Elt F) → (⟨S256x1023x128, .f32⟩ : BufTy).Contents (Elt F)),
    StableHlo.binary main_while2b_v88 main_while2b_v90 main_while2b_v91 (addf : (⟨S256x1023x128, .f32⟩ : BufTy).Contents (Elt F) → (⟨S256x1023x128, .f32⟩ : BufTy).Contents (Elt F) → (⟨S256x1023x128, .f32⟩ : BufTy).Contents (Elt F)) ]
theorem decodeB1_sub : (decodeB1 : List (HloOp τ sig (Elt F))).Forall fun op => op.bufs ⊆ tcRefs τ sig :=
  ⟨unary_bufs_sub .., binary_bufs_sub .., unary_bufs_sub .., unary_bufs_sub .., binary_bufs_sub ..⟩
theorem decodeB1_fresh : (decodeB1 : List (HloOp τ sig (Elt F))).Forall fun op => op.fresh = ∅ := forall_fresh_of_map rfl
abbrev decodeB1_W : List (Ref sig .tc) := [main_while2b_v87, main_while2b_v88, main_while2b_v89, main_while2b_v90, main_while2b_v91]
theorem decodeB1_writes : (decodeB1 : List (HloOp τ sig (Elt F))).Forall fun op => op.writes ⊆ (decodeB1_W.map (Proc.devRef (τ := τ) .tc)).toFinset :=
  forall_writes_sub_of_map rfl
theorem decodeB1_keep (V : Valuation τ sig (Elt F)) (r : Ref sig .tc) (h : r ∉ decodeB1_W) : after decodeB1 V (Proc.devRef .tc r) = V (Proc.devRef .tc r) :=
  after_of_writes_sub decodeB1 V decodeB1_writes h

/-- Operations of the call of `softplus`. -/
abbrev decodeB2 : List (HloOp τ sig (Elt F)) :=
  [ StableHlo.TRef.nullary (.of main_while2b_call12_cst : StableHlo.TRef sig ⟨S_, .f32⟩) (constant S_ .f32 0x00000000#32),
    StableHlo.TRef.unary (.of main_while2b_call12_cst : StableHlo.TRef sig ⟨S_, .f32⟩) (.of main_while2b_call12_v0 : StableHlo.TRef sig ⟨S256x1023x128, .f32⟩) (broadcastInDim S256x1023x128 ![] bcast_S_S256x1023x128),
    StableHlo.TRef.binary (.of main_while2b_v91 : StableHlo.TRef sig ⟨S256x1023x128, .f32⟩) (.of main_while2b_call12_v0 : StableHlo.TRef sig ⟨S256x1023x128, .f32⟩) (.of main_while2b_call12_v1 : StableHlo.TRef sig ⟨S256x1023x128, .f32⟩) maximumf,
    StableHlo.TRef.unary (.of main_while2b_call12_cst : StableHlo.TRef sig ⟨S_, .f32⟩) (.of main_while2b_call12_v2 : StableHlo.TRef sig ⟨S256x1023x128, .f32⟩) (broadcastInDim S256x1023x128 ![] bcast_S_S256x1023x128),
    StableHlo.TRef.binary (.of main_while2b_v91 : StableHlo.TRef sig ⟨S256x1023x128, .f32⟩) (.of main_while2b_call12_v2 : StableHlo.TRef sig ⟨S256x1023x128, .f32⟩) (.of main_while2b_call12_v3 : StableHlo.TRef sig ⟨S256x1023x128, .f32⟩) subf,
    StableHlo.TRef.binary (.of main_while2b_call12_v3 : StableHlo.TRef sig ⟨S256x1023x128, .f32⟩) (.of main_while2b_call12_v3 : StableHlo.TRef sig ⟨S256x1023x128, .f32⟩) (.of main_while2b_call12_v4 : StableHlo.TRef sig ⟨S256x1023x128, .i1⟩) (cmpf .une),
    StableHlo.TRef.unary (.of main_while2b_call12_cst : StableHlo.TRef sig ⟨S_, .f32⟩) (.of main_while2b_call12_v5 : StableHlo.TRef sig ⟨S256x1023x128, .f32⟩) (broadcastInDim S256x1023x128 ![] bcast_S_S256x1023x128),
    StableHlo.TRef.binary (.of main_while2b_v91 : StableHlo.TRef sig ⟨S256x1023x128, .f32⟩) (.of main_while2b_call12_v5 : StableHlo.TRef sig ⟨S256x1023x128, .f32⟩) (.of main_while2b_call12_v6 : StableHlo.TRef sig ⟨S256x1023x128, .f32⟩) addf,
    StableHlo.TRef.unary (.of main_while2b_call12_v3 : StableHlo.TRef sig ⟨S256x1023x128, .f32⟩) (.of main_while2b_call12_v7 : StableHlo.TRef sig ⟨S256x1023x128, .f32⟩) Host.absf,
    StableHlo.TRef.unary (.of main_while2b_call12_v7 : StableHlo.TRef sig ⟨S256x1023x128, .f32⟩) (.of main_while2b_call12_v8 : StableHlo.TRef sig ⟨S256x1023x128, .f32⟩) Host.negf,
    StableHlo.TRef.unary (.of main_while2b_call12_v8 : StableHlo.TRef sig ⟨S256x1023x128, .f32⟩) (.of main_while2b_call12_v9 : StableHlo.TRef sig ⟨S256x1023x128, .f32⟩) Host.exp,
    StableHlo.TRef.unary (.of main_while2b_call12_v9 : StableHlo.TRef sig ⟨S256x1023x128, .f32⟩) (.of main_while2b_call12_v10 : StableHlo.TRef sig ⟨S256x1023x128, .f32⟩) Host.log1p,
    StableHlo.TRef.binary (.of main_while2b_call12_v1 : StableHlo.TRef sig ⟨S256x1023x128, .f32⟩) (.of main_while2b_call12_v10 : StableHlo.TRef sig ⟨S256x1023x128, .f32⟩) (.of main_while2b_call12_v11 : StableHlo.TRef sig ⟨S256x1023x128, .f32⟩) addf,
    StableHlo.TRef.ternary (.of main_while2b_call12_v4 : StableHlo.TRef sig ⟨S256x1023x128, .i1⟩) (.of main_while2b_call12_v6 : StableHlo.TRef sig ⟨S256x1023x128, .f32⟩) (.of main_while2b_call12_v11 : StableHlo.TRef sig ⟨S256x1023x128, .f32⟩) (.of main_while2b_v92 : StableHlo.TRef sig ⟨S256x1023x128, .f32⟩) select ]
theorem decodeB2_sub : (decodeB2 : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩
theorem decodeB2_fresh : (decodeB2 : List (HloOp τ sig (Elt F))).Forall fun op => op.fresh = ∅ := forall_fresh_of_map rfl
abbrev decodeB2_W : List (Ref sig .tc) := [main_while2b_call12_cst, main_while2b_call12_v0, main_while2b_call12_v1, main_while2b_call12_v2, main_while2b_call12_v3, main_while2b_call12_v4, main_while2b_call12_v5, main_while2b_call12_v6, main_while2b_call12_v7, main_while2b_call12_v8, main_while2b_call12_v9, main_while2b_call12_v10, main_while2b_call12_v11, main_while2b_v92]
theorem decodeB2_writes : (decodeB2 : List (HloOp τ sig (Elt F))).Forall fun op => op.writes ⊆ (decodeB2_W.map (Proc.devRef (τ := τ) .tc)).toFinset :=
  forall_writes_sub_of_map rfl
theorem decodeB2_keep (V : Valuation τ sig (Elt F)) (r : Ref sig .tc) (h : r ∉ decodeB2_W) : after decodeB2 V (Proc.devRef .tc r) = V (Proc.devRef .tc r) :=
  after_of_writes_sub decodeB2 V decodeB2_writes h

/-- Operations of the decoder loop's body, second part. -/
abbrev decodeB3 : List (HloOp τ sig (Elt F)) :=
  [ StableHlo.unary main_v24_2 main_while2b_v93 ((transpose S128x128 [1, 0] · transposes_S128x128_S128x128_1_0) : (⟨S128x128, .f32⟩ : BufTy).Contents (Elt F) → (⟨S128x128, .f32⟩ : BufTy).Contents (Elt F)),
    StableHlo.binary main_while2b_v92 main_while2b_v93 main_while2b_v94 ((fun l r => Host.dotGeneral dot_S256x1023x128_S128x128_S256x1023x128_2_0_01_1_n_n none l r) : (⟨S256x1023x128, .f32⟩ : BufTy).Contents (Elt F) → (⟨S128x128, .f32⟩ : BufTy).Contents (Elt F) → (⟨S256x1023x128, .f32⟩ : BufTy).Contents (Elt F)),
    StableHlo.unary main_v24_3 main_while2b_v95 (broadcastInDim S1x1x128 ![2] bcast_S128_S1x1x128_2 : (⟨S128, .f32⟩ : BufTy).Contents (Elt F) → (⟨S1x1x128, .f32⟩ : BufTy).Contents (Elt F)),
    StableHlo.unary main_while2b_v95 main_while2b_v96 (broadcastInDim S256x1023x128 ![0, 1, 2] bcast_S1x1x128_S256x1023x128_0_1_2 : (⟨S1x1x128, .f32⟩ : BufTy).Contents (Elt F) → (⟨S256x1023x128, .f32⟩ : BufTy).Contents (Elt F)),
    StableHlo.binary main_while2b_v94 main_while2b_v96 main_while2b_v97 (addf : (⟨S256x1023x128, .f32⟩ : BufTy).Contents (Elt F) → (⟨S256x1023x128, .f32⟩ : BufTy).Contents (Elt F) → (⟨S256x1023x128, .f32⟩ : BufTy).Contents (Elt F)) ]
theorem decodeB3_sub : (decodeB3 : List (HloOp τ sig (Elt F))).Forall fun op => op.bufs ⊆ tcRefs τ sig :=
  ⟨unary_bufs_sub .., binary_bufs_sub .., unary_bufs_sub .., unary_bufs_sub .., binary_bufs_sub ..⟩
theorem decodeB3_fresh : (decodeB3 : List (HloOp τ sig (Elt F))).Forall fun op => op.fresh = ∅ := forall_fresh_of_map rfl
abbrev decodeB3_W : List (Ref sig .tc) := [main_while2b_v93, main_while2b_v94, main_while2b_v95, main_while2b_v96, main_while2b_v97]
theorem decodeB3_writes : (decodeB3 : List (HloOp τ sig (Elt F))).Forall fun op => op.writes ⊆ (decodeB3_W.map (Proc.devRef (τ := τ) .tc)).toFinset :=
  forall_writes_sub_of_map rfl
theorem decodeB3_keep (V : Valuation τ sig (Elt F)) (r : Ref sig .tc) (h : r ∉ decodeB3_W) : after decodeB3 V (Proc.devRef .tc r) = V (Proc.devRef .tc r) :=
  after_of_writes_sub decodeB3 V decodeB3_writes h

/-- Operations of the call of `softplus`. -/
abbrev decodeB4 : List (HloOp τ sig (Elt F)) :=
  [ StableHlo.TRef.nullary (.of main_while2b_call13_cst : StableHlo.TRef sig ⟨S_, .f32⟩) (constant S_ .f32 0x00000000#32),
    StableHlo.TRef.unary (.of main_while2b_call13_cst : StableHlo.TRef sig ⟨S_, .f32⟩) (.of main_while2b_call13_v0 : StableHlo.TRef sig ⟨S256x1023x128, .f32⟩) (broadcastInDim S256x1023x128 ![] bcast_S_S256x1023x128),
    StableHlo.TRef.binary (.of main_while2b_v97 : StableHlo.TRef sig ⟨S256x1023x128, .f32⟩) (.of main_while2b_call13_v0 : StableHlo.TRef sig ⟨S256x1023x128, .f32⟩) (.of main_while2b_call13_v1 : StableHlo.TRef sig ⟨S256x1023x128, .f32⟩) maximumf,
    StableHlo.TRef.unary (.of main_while2b_call13_cst : StableHlo.TRef sig ⟨S_, .f32⟩) (.of main_while2b_call13_v2 : StableHlo.TRef sig ⟨S256x1023x128, .f32⟩) (broadcastInDim S256x1023x128 ![] bcast_S_S256x1023x128),
    StableHlo.TRef.binary (.of main_while2b_v97 : StableHlo.TRef sig ⟨S256x1023x128, .f32⟩) (.of main_while2b_call13_v2 : StableHlo.TRef sig ⟨S256x1023x128, .f32⟩) (.of main_while2b_call13_v3 : StableHlo.TRef sig ⟨S256x1023x128, .f32⟩) subf,
    StableHlo.TRef.binary (.of main_while2b_call13_v3 : StableHlo.TRef sig ⟨S256x1023x128, .f32⟩) (.of main_while2b_call13_v3 : StableHlo.TRef sig ⟨S256x1023x128, .f32⟩) (.of main_while2b_call13_v4 : StableHlo.TRef sig ⟨S256x1023x128, .i1⟩) (cmpf .une),
    StableHlo.TRef.unary (.of main_while2b_call13_cst : StableHlo.TRef sig ⟨S_, .f32⟩) (.of main_while2b_call13_v5 : StableHlo.TRef sig ⟨S256x1023x128, .f32⟩) (broadcastInDim S256x1023x128 ![] bcast_S_S256x1023x128),
    StableHlo.TRef.binary (.of main_while2b_v97 : StableHlo.TRef sig ⟨S256x1023x128, .f32⟩) (.of main_while2b_call13_v5 : StableHlo.TRef sig ⟨S256x1023x128, .f32⟩) (.of main_while2b_call13_v6 : StableHlo.TRef sig ⟨S256x1023x128, .f32⟩) addf,
    StableHlo.TRef.unary (.of main_while2b_call13_v3 : StableHlo.TRef sig ⟨S256x1023x128, .f32⟩) (.of main_while2b_call13_v7 : StableHlo.TRef sig ⟨S256x1023x128, .f32⟩) Host.absf,
    StableHlo.TRef.unary (.of main_while2b_call13_v7 : StableHlo.TRef sig ⟨S256x1023x128, .f32⟩) (.of main_while2b_call13_v8 : StableHlo.TRef sig ⟨S256x1023x128, .f32⟩) Host.negf,
    StableHlo.TRef.unary (.of main_while2b_call13_v8 : StableHlo.TRef sig ⟨S256x1023x128, .f32⟩) (.of main_while2b_call13_v9 : StableHlo.TRef sig ⟨S256x1023x128, .f32⟩) Host.exp,
    StableHlo.TRef.unary (.of main_while2b_call13_v9 : StableHlo.TRef sig ⟨S256x1023x128, .f32⟩) (.of main_while2b_call13_v10 : StableHlo.TRef sig ⟨S256x1023x128, .f32⟩) Host.log1p,
    StableHlo.TRef.binary (.of main_while2b_call13_v1 : StableHlo.TRef sig ⟨S256x1023x128, .f32⟩) (.of main_while2b_call13_v10 : StableHlo.TRef sig ⟨S256x1023x128, .f32⟩) (.of main_while2b_call13_v11 : StableHlo.TRef sig ⟨S256x1023x128, .f32⟩) addf,
    StableHlo.TRef.ternary (.of main_while2b_call13_v4 : StableHlo.TRef sig ⟨S256x1023x128, .i1⟩) (.of main_while2b_call13_v6 : StableHlo.TRef sig ⟨S256x1023x128, .f32⟩) (.of main_while2b_call13_v11 : StableHlo.TRef sig ⟨S256x1023x128, .f32⟩) (.of main_while2b_v98 : StableHlo.TRef sig ⟨S256x1023x128, .f32⟩) select ]
theorem decodeB4_sub : (decodeB4 : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩
theorem decodeB4_fresh : (decodeB4 : List (HloOp τ sig (Elt F))).Forall fun op => op.fresh = ∅ := forall_fresh_of_map rfl
abbrev decodeB4_W : List (Ref sig .tc) := [main_while2b_call13_cst, main_while2b_call13_v0, main_while2b_call13_v1, main_while2b_call13_v2, main_while2b_call13_v3, main_while2b_call13_v4, main_while2b_call13_v5, main_while2b_call13_v6, main_while2b_call13_v7, main_while2b_call13_v8, main_while2b_call13_v9, main_while2b_call13_v10, main_while2b_call13_v11, main_while2b_v98]
theorem decodeB4_writes : (decodeB4 : List (HloOp τ sig (Elt F))).Forall fun op => op.writes ⊆ (decodeB4_W.map (Proc.devRef (τ := τ) .tc)).toFinset :=
  forall_writes_sub_of_map rfl
theorem decodeB4_keep (V : Valuation τ sig (Elt F)) (r : Ref sig .tc) (h : r ∉ decodeB4_W) : after decodeB4 V (Proc.devRef .tc r) = V (Proc.devRef .tc r) :=
  after_of_writes_sub decodeB4 V decodeB4_writes h

/-- Operations of the decoder loop's body, second part. -/
abbrev decodeB5 : List (HloOp τ sig (Elt F)) :=
  [ StableHlo.unary main_v24_4 main_while2b_v99 ((transpose S128x32 [1, 0] · transposes_S32x128_S128x32_1_0) : (⟨S32x128, .f32⟩ : BufTy).Contents (Elt F) → (⟨S128x32, .f32⟩ : BufTy).Contents (Elt F)),
    StableHlo.binary main_while2b_v98 main_while2b_v99 main_while2b_v100 ((fun l r => Host.dotGeneral dot_S256x1023x128_S128x32_S256x1023x32_2_0_01_1_n_n none l r) : (⟨S256x1023x128, .f32⟩ : BufTy).Contents (Elt F) → (⟨S128x32, .f32⟩ : BufTy).Contents (Elt F) → (⟨S256x1023x32, .f32⟩ : BufTy).Contents (Elt F)),
    StableHlo.unary main_v24_5 main_while2b_v101 (broadcastInDim S1x1x32 ![2] bcast_S32_S1x1x32_2 : (⟨S32, .f32⟩ : BufTy).Contents (Elt F) → (⟨S1x1x32, .f32⟩ : BufTy).Contents (Elt F)),
    StableHlo.unary main_while2b_v101 main_while2b_v102 (broadcastInDim S256x1023x32 ![0, 1, 2] bcast_S1x1x32_S256x1023x32_0_1_2 : (⟨S1x1x32, .f32⟩ : BufTy).Contents (Elt F) → (⟨S256x1023x32, .f32⟩ : BufTy).Contents (Elt F)),
    StableHlo.binary main_while2b_v100 main_while2b_v102 main_while2b_v103 (addf : (⟨S256x1023x32, .f32⟩ : BufTy).Contents (Elt F) → (⟨S256x1023x32, .f32⟩ : BufTy).Contents (Elt F) → (⟨S256x1023x32, .f32⟩ : BufTy).Contents (Elt F)) ]
theorem decodeB5_sub : (decodeB5 : List (HloOp τ sig (Elt F))).Forall fun op => op.bufs ⊆ tcRefs τ sig :=
  ⟨unary_bufs_sub .., binary_bufs_sub .., unary_bufs_sub .., unary_bufs_sub .., binary_bufs_sub ..⟩
theorem decodeB5_fresh : (decodeB5 : List (HloOp τ sig (Elt F))).Forall fun op => op.fresh = ∅ := forall_fresh_of_map rfl
abbrev decodeB5_W : List (Ref sig .tc) := [main_while2b_v99, main_while2b_v100, main_while2b_v101, main_while2b_v102, main_while2b_v103]
theorem decodeB5_writes : (decodeB5 : List (HloOp τ sig (Elt F))).Forall fun op => op.writes ⊆ (decodeB5_W.map (Proc.devRef (τ := τ) .tc)).toFinset :=
  forall_writes_sub_of_map rfl
theorem decodeB5_keep (V : Valuation τ sig (Elt F)) (r : Ref sig .tc) (h : r ∉ decodeB5_W) : after decodeB5 V (Proc.devRef .tc r) = V (Proc.devRef .tc r) :=
  after_of_writes_sub decodeB5 V decodeB5_writes h

/-- Operations of the decoder loop's body, second part. -/
abbrev decodeB6 : List (HloOp τ sig (Elt F)) :=
  [ StableHlo.nullary main_while2b_cst_13 (constant S_ .f32 0x40000000#32),
    StableHlo.unary main_while2b_cst_13 main_while2b_v104 (broadcastInDim S256x1023x32 ![] bcast_S_S256x1023x32 : (⟨S_, .f32⟩ : BufTy).Contents (Elt F) → (⟨S256x1023x32, .f32⟩ : BufTy).Contents (Elt F)),
    StableHlo.binary main_while2b_v104 main_while2b_v63 main_while2b_v105 (mulf : (⟨S256x1023x32, .f32⟩ : BufTy).Contents (Elt F) → (⟨S256x1023x32, .f32⟩ : BufTy).Contents (Elt F) → (⟨S256x1023x32, .f32⟩ : BufTy).Contents (Elt F)),
    StableHlo.binary main_while2b_v43 main_while2b_v105 main_while2b_v106 (addf : (⟨S256x1023x32, .f32⟩ : BufTy).Contents (Elt F) → (⟨S256x1023x32, .f32⟩ : BufTy).Contents (Elt F) → (⟨S256x1023x32, .f32⟩ : BufTy).Contents (Elt F)),
    StableHlo.nullary main_while2b_cst_14 (constant S_ .f32 0x40000000#32),
    StableHlo.unary main_while2b_cst_14 main_while2b_v107 (broadcastInDim S256x1023x32 ![] bcast_S_S256x1023x32 : (⟨S_, .f32⟩ : BufTy).Contents (Elt F) → (⟨S256x1023x32, .f32⟩ : BufTy).Contents (Elt F)),
    StableHlo.binary main_while2b_v107 main_while2b_v83 main_while2b_v108 (mulf : (⟨S256x1023x32, .f32⟩ : BufTy).Contents (Elt F) → (⟨S256x1023x32, .f32⟩ : BufTy).Contents (Elt F) → (⟨S256x1023x32, .f32⟩ : BufTy).Contents (Elt F)),
    StableHlo.binary main_while2b_v106 main_while2b_v108 main_while2b_v109 (addf : (⟨S256x1023x32, .f32⟩ : BufTy).Contents (Elt F) → (⟨S256x1023x32, .f32⟩ : BufTy).Contents (Elt F) → (⟨S256x1023x32, .f32⟩ : BufTy).Contents (Elt F)),
    StableHlo.binary main_while2b_v109 main_while2b_v103 main_while2b_v110 (addf : (⟨S256x1023x32, .f32⟩ : BufTy).Contents (Elt F) → (⟨S256x1023x32, .f32⟩ : BufTy).Contents (Elt F) → (⟨S256x1023x32, .f32⟩ : BufTy).Contents (Elt F)),
    StableHlo.nullary main_while2b_cst_15 (constant S_ .f32 0x3ADA740E#32),
    StableHlo.unary main_while2b_cst_15 main_while2b_v111 (broadcastInDim S256x1023x32 ![] bcast_S_S256x1023x32 : (⟨S_, .f32⟩ : BufTy).Contents (Elt F) → (⟨S256x1023x32, .f32⟩ : BufTy).Contents (Elt F)),
    StableHlo.binary main_while2b_v111 main_while2b_v110 main_while2b_v112 (mulf : (⟨S256x1023x32, .f32⟩ : BufTy).Contents (Elt F) → (⟨S256x1023x32, .f32⟩ : BufTy).Contents (Elt F) → (⟨S256x1023x32, .f32⟩ : BufTy).Contents (Elt F)),
    StableHlo.binary main_v24_7 main_while2b_v112 main_while2b_v113 (addf : (⟨S256x1023x32, .f32⟩ : BufTy).Contents (Elt F) → (⟨S256x1023x32, .f32⟩ : BufTy).Contents (Elt F) → (⟨S256x1023x32, .f32⟩ : BufTy).Contents (Elt F)) ]
theorem decodeB6_sub : (decodeB6 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub ..⟩
theorem decodeB6_fresh : (decodeB6 : List (HloOp τ sig (Elt F))).Forall fun op => op.fresh = ∅ := forall_fresh_of_map rfl
abbrev decodeB6_W : List (Ref sig .tc) := [main_while2b_cst_13, main_while2b_v104, main_while2b_v105, main_while2b_v106, main_while2b_cst_14, main_while2b_v107, main_while2b_v108, main_while2b_v109, main_while2b_v110, main_while2b_cst_15, main_while2b_v111, main_while2b_v112, main_while2b_v113]
theorem decodeB6_writes : (decodeB6 : List (HloOp τ sig (Elt F))).Forall fun op => op.writes ⊆ (decodeB6_W.map (Proc.devRef (τ := τ) .tc)).toFinset :=
  forall_writes_sub_of_map rfl
theorem decodeB6_keep (V : Valuation τ sig (Elt F)) (r : Ref sig .tc) (h : r ∉ decodeB6_W) : after decodeB6 V (Proc.devRef .tc r) = V (Proc.devRef .tc r) :=
  after_of_writes_sub decodeB6 V decodeB6_writes h

/-- Operations of the decoder loop's body, second part. -/
abbrev decodeB7 : List (HloOp τ sig (Elt F)) :=
  [ StableHlo.nullary main_while2b_c_16 (constantI S_ 32 1#32),
    StableHlo.binary main_v24_6 main_while2b_c_16 main_while2b_v114 (addi : (⟨S_, .i32⟩ : BufTy).Contents (Elt F) → (⟨S_, .i32⟩ : BufTy).Contents (Elt F) → (⟨S_, .i32⟩ : BufTy).Contents (Elt F)),
    StableHlo.unary main_while2b_v114 main_v24_6 id,
    StableHlo.unary main_while2b_v113 main_v24_7 id ]
theorem decodeB7_sub : (decodeB7 : List (HloOp τ sig (Elt F))).Forall fun op => op.bufs ⊆ tcRefs τ sig :=
  ⟨nullary_bufs_sub .., binary_bufs_sub .., unary_bufs_sub .., unary_bufs_sub ..⟩
theorem decodeB7_fresh : (decodeB7 : List (HloOp τ sig (Elt F))).Forall fun op => op.fresh = ∅ := forall_fresh_of_map rfl
abbrev decodeB7_W : List (Ref sig .tc) := [main_while2b_c_16, main_while2b_v114, main_v24_6, main_v24_7]
theorem decodeB7_writes : (decodeB7 : List (HloOp τ sig (Elt F))).Forall fun op => op.writes ⊆ (decodeB7_W.map (Proc.devRef (τ := τ) .tc)).toFinset :=
  forall_writes_sub_of_map rfl
theorem decodeB7_keep (V : Valuation τ sig (Elt F)) (r : Ref sig .tc) (h : r ∉ decodeB7_W) : after decodeB7 V (Proc.devRef .tc r) = V (Proc.devRef .tc r) :=
  after_of_writes_sub decodeB7 V decodeB7_writes h

/-- Operations of the first loop's test. -/
abbrev test0 : List (HloOp τ sig (Elt F)) :=
  [ StableHlo.nullary main_while0c_c_8 (constantI S_ 32 1024#32),
    StableHlo.binary main_v10_3 main_while0c_c_8 main_while0c_v27 (cmpi .slt) ]
theorem test0_sub : (test0 : List (HloOp τ sig (Elt F))).Forall fun op => op.bufs ⊆ tcRefs τ sig :=
  ⟨nullary_bufs_sub .., binary_bufs_sub ..⟩
theorem test0_fresh : (test0 : List (HloOp τ sig (Elt F))).Forall fun op => op.fresh = ∅ := forall_fresh_of_map rfl
abbrev test0_W : List (Ref sig .tc) := [main_while0c_c_8, main_while0c_v27]
theorem test0_writes : (test0 : List (HloOp τ sig (Elt F))).Forall fun op => op.writes ⊆ (test0_W.map (Proc.devRef (τ := τ) .tc)).toFinset :=
  forall_writes_sub_of_map rfl
theorem test0_keep (V : Valuation τ sig (Elt F)) (r : Ref sig .tc) (h : r ∉ test0_W) : after test0 V (Proc.devRef .tc r) = V (Proc.devRef .tc r) :=
  after_of_writes_sub test0 V test0_writes h

/-- Operations of the second loop's test. -/
abbrev test1 : List (HloOp τ sig (Elt F)) :=
  [ StableHlo.nullary main_while1c_c_8 (constantI S_ 32 1024#32),
    StableHlo.binary main_v20_3 main_while1c_c_8 main_while1c_v27 (cmpi .slt) ]
theorem test1_sub : (test1 : List (HloOp τ sig (Elt F))).Forall fun op => op.bufs ⊆ tcRefs τ sig :=
  ⟨nullary_bufs_sub .., binary_bufs_sub ..⟩
theorem test1_fresh : (test1 : List (HloOp τ sig (Elt F))).Forall fun op => op.fresh = ∅ := forall_fresh_of_map rfl
abbrev test1_W : List (Ref sig .tc) := [main_while1c_c_8, main_while1c_v27]
theorem test1_writes : (test1 : List (HloOp τ sig (Elt F))).Forall fun op => op.writes ⊆ (test1_W.map (Proc.devRef (τ := τ) .tc)).toFinset :=
  forall_writes_sub_of_map rfl
theorem test1_keep (V : Valuation τ sig (Elt F)) (r : Ref sig .tc) (h : r ∉ test1_W) : after test1 V (Proc.devRef .tc r) = V (Proc.devRef .tc r) :=
  after_of_writes_sub test1 V test1_writes h

/-- Operations of the third loop's test. -/
abbrev test2 : List (HloOp τ sig (Elt F)) :=
  [ StableHlo.nullary main_while2c_c_10 (constantI S_ 32 9#32),
    StableHlo.binary main_v24_6 main_while2c_c_10 main_while2c_v27 (cmpi .slt) ]
theorem test2_sub : (test2 : List (HloOp τ sig (Elt F))).Forall fun op => op.bufs ⊆ tcRefs τ sig :=
  ⟨nullary_bufs_sub .., binary_bufs_sub ..⟩
theorem test2_fresh : (test2 : List (HloOp τ sig (Elt F))).Forall fun op => op.fresh = ∅ := forall_fresh_of_map rfl
abbrev test2_W : List (Ref sig .tc) := [main_while2c_c_10, main_while2c_v27]
theorem test2_writes : (test2 : List (HloOp τ sig (Elt F))).Forall fun op => op.writes ⊆ (test2_W.map (Proc.devRef (τ := τ) .tc)).toFinset :=
  forall_writes_sub_of_map rfl
theorem test2_keep (V : Valuation τ sig (Elt F)) (r : Ref sig .tc) (h : r ∉ test2_W) : after test2 V (Proc.devRef .tc r) = V (Proc.devRef .tc r) :=
  after_of_writes_sub test2 V test2_writes h

/-- @main is the chain of its stretches and loops. -/
theorem main_chain (c : Dev nD) : main (F := F) c = (Pipeline.chain
  [ seq head0,
    seq head1,
    seq head2,
    seq head3,
    HostLoop.enter 0,
    seq head4,
    seq head5,
    seq head6,
    HostLoop.enter 1,
    seq head7,
    seq head8,
    seq head9,
    HostLoop.enter 2,
    seq head10 ] : Prog (TpuEff nD τ sig (Elt F) (HostLoop.Sig (Pipeline.Sig Λ₀ (Fin 0) fun p => (pcfgs (F := F) p).Adm) 3) .tc) PUnit) := by
  rewrite [Pipeline.chain_cons, StableHlo.chain_seq_cons, StableHlo.chain_seq_cons, StableHlo.chain_seq_cons, Pipeline.chain_cons, StableHlo.chain_seq_cons, StableHlo.chain_seq_cons, StableHlo.chain_seq_cons, Pipeline.chain_cons, StableHlo.chain_seq_cons, Pipeline.chain_cons, StableHlo.chain_seq_cons, Pipeline.chain_cons, StableHlo.chain_seq_cons]
  chain_rfl

/-- The first loop's body is the chain of its stretches. -/
theorem first_chain : main_while0_body (F := F) = (Pipeline.chain
  [ seq first0,
    seq first1,
    seq first2,
    seq first3 ] : Prog (TpuEff nD τ sig (Elt F) (HostLoop.Sig (Pipeline.Sig Λ₀ (Fin 0) fun p => (pcfgs (F := F) p).Adm) 3) .tc) PUnit) := by
  rewrite [Pipeline.chain_cons, StableHlo.chain_seq_cons, Pipeline.chain_cons, StableHlo.chain_seq_cons]
  chain_rfl

/-- The second loop's body is the chain of its stretches. -/
theorem second_chain : main_while1_body (F := F) = (Pipeline.chain
  [ seq second0,
    seq second1,
    seq second2,
    seq second3 ] : Prog (TpuEff nD τ sig (Elt F) (HostLoop.Sig (Pipeline.Sig Λ₀ (Fin 0) fun p => (pcfgs (F := F) p).Adm) 3) .tc) PUnit) := by
  rewrite [Pipeline.chain_cons, StableHlo.chain_seq_cons, Pipeline.chain_cons, StableHlo.chain_seq_cons]
  chain_rfl

/-- The decoder's body, first part, is the chain of its stretches. -/
theorem decodeA_chain : main_while2_body_part0 (F := F) = (Pipeline.chain
  [ seq decodeA0,
    seq decodeA1,
    seq decodeA2,
    seq decodeA3,
    seq decodeA4,
    seq decodeA5,
    seq decodeA6,
    seq decodeA7,
    seq decodeA8,
    seq decodeA9,
    seq decodeA10,
    seq decodeA11,
    seq decodeA12,
    seq decodeA13,
    seq decodeA14,
    seq decodeA15,
    seq decodeA16,
    seq decodeA17 ] : Prog (TpuEff nD τ sig (Elt F) (HostLoop.Sig (Pipeline.Sig Λ₀ (Fin 0) fun p => (pcfgs (F := F) p).Adm) 3) .tc) PUnit) := by
  rewrite [StableHlo.chain_seq_cons, Pipeline.chain_cons, StableHlo.chain_seq_cons, Pipeline.chain_cons, StableHlo.chain_seq_cons, StableHlo.chain_seq_cons, StableHlo.chain_seq_cons, Pipeline.chain_cons, StableHlo.chain_seq_cons, Pipeline.chain_cons, StableHlo.chain_seq_cons, StableHlo.chain_seq_cons, StableHlo.chain_seq_cons, Pipeline.chain_cons, StableHlo.chain_seq_cons, Pipeline.chain_cons, StableHlo.chain_seq_cons, StableHlo.chain_seq_cons]
  chain_rfl

/-- The decoder's body, second part, is the chain of its stretches. -/
theorem decodeB_chain : main_while2_body_part1 (F := F) = (Pipeline.chain
  [ seq decodeB0,
    seq decodeB1,
    seq decodeB2,
    seq decodeB3,
    seq decodeB4,
    seq decodeB5,
    seq decodeB6,
    seq decodeB7 ] : Prog (TpuEff nD τ sig (Elt F) (HostLoop.Sig (Pipeline.Sig Λ₀ (Fin 0) fun p => (pcfgs (F := F) p).Adm) 3) .tc) PUnit) := by
  rewrite [StableHlo.chain_seq_cons, StableHlo.chain_seq_cons, Pipeline.chain_cons, StableHlo.chain_seq_cons, Pipeline.chain_cons, StableHlo.chain_seq_cons, StableHlo.chain_seq_cons, StableHlo.chain_seq_cons]
  chain_rfl

end Cert.Proof.Reference

end
-- ==== Proof.Reference.Run.lean ====
/-
  The run of the reference: its stretches and its three counted loops in order, from any memory with the counters at zero.
  Every tensor buffer ends at what folding the operations gives, each loop's test and body as often as it runs.
-/
module

public import proofs.«01_k».proof.Proof.Reference.Stretches
public import Idealize.ShloMosaic.Lib.Quiescent

@[expose] public section

set_option maxRecDepth 16384

noncomputable section

namespace Cert.Proof.Reference

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.ReferenceIdeal Cert.ReferenceIdeal.Gen

variable {F : FTy → Type} [FloatOps F]

/-- @main's stretches before the first loop. -/
abbrev pre0 : List (List (HloOp τ sig (Elt F))) := [head0, head1, head2, head3]
theorem pre0_plain : Plain (pre0 (F := F)) :=
  .cons head0_sub (hf := List.forall_iff_forall_mem.mp head0_fresh) (.cons head1_sub (hf := List.forall_iff_forall_mem.mp head1_fresh) (.cons head2_sub (hf := List.forall_iff_forall_mem.mp head2_fresh) (.cons head3_sub (hf := List.forall_iff_forall_mem.mp head3_fresh) .nil)))

/-- Between the first loop and the second. -/
abbrev pre1 : List (List (HloOp τ sig (Elt F))) := [head4, head5, head6]
theorem pre1_plain : Plain (pre1 (F := F)) :=
  .cons head4_sub (hf := List.forall_iff_forall_mem.mp head4_fresh) (.cons head5_sub (hf := List.forall_iff_forall_mem.mp head5_fresh) (.cons head6_sub (hf := List.forall_iff_forall_mem.mp head6_fresh) .nil))

/-- Between the second loop and the third. -/
abbrev pre2 : List (List (HloOp τ sig (Elt F))) := [head7, head8, head9]
theorem pre2_plain : Plain (pre2 (F := F)) :=
  .cons head7_sub (hf := List.forall_iff_forall_mem.mp head7_fresh) (.cons head8_sub (hf := List.forall_iff_forall_mem.mp head8_fresh) (.cons head9_sub (hf := List.forall_iff_forall_mem.mp head9_fresh) .nil))

/-- After the third loop. -/
abbrev tail : List (List (HloOp τ sig (Elt F))) := [head10]
theorem tail_plain : Plain (tail (F := F)) :=
  .cons head10_sub (hf := List.forall_iff_forall_mem.mp head10_fresh) .nil

/-- The first loop's body. -/
abbrev body0 : List (List (HloOp τ sig (Elt F))) := [first0, first1, first2, first3]
theorem body0_plain : Plain (body0 (F := F)) :=
  .cons first0_sub (hf := List.forall_iff_forall_mem.mp first0_fresh) (.cons first1_sub (hf := List.forall_iff_forall_mem.mp first1_fresh) (.cons first2_sub (hf := List.forall_iff_forall_mem.mp first2_fresh) (.cons first3_sub (hf := List.forall_iff_forall_mem.mp first3_fresh) .nil)))

/-- The second loop's body. -/
abbrev body1 : List (List (HloOp τ sig (Elt F))) := [second0, second1, second2, second3]
theorem body1_plain : Plain (body1 (F := F)) :=
  .cons second0_sub (hf := List.forall_iff_forall_mem.mp second0_fresh) (.cons second1_sub (hf := List.forall_iff_forall_mem.mp second1_fresh) (.cons second2_sub (hf := List.forall_iff_forall_mem.mp second2_fresh) (.cons second3_sub (hf := List.forall_iff_forall_mem.mp second3_fresh) .nil)))

/-- The third loop's body. -/
abbrev body2 : List (List (HloOp τ sig (Elt F))) := [decodeA0, decodeA1, decodeA2, decodeA3, decodeA4, decodeA5, decodeA6, decodeA7, decodeA8, decodeA9, decodeA10, decodeA11, decodeA12, decodeA13, decodeA14, decodeA15, decodeA16, decodeA17, decodeB0, decodeB1, decodeB2, decodeB3, decodeB4, decodeB5, decodeB6, decodeB7]
theorem body2_plain : Plain (body2 (F := F)) :=
  .cons decodeA0_sub (hf := List.forall_iff_forall_mem.mp decodeA0_fresh) (.cons decodeA1_sub (hf := List.forall_iff_forall_mem.mp decodeA1_fresh) (.cons decodeA2_sub (hf := List.forall_iff_forall_mem.mp decodeA2_fresh) (.cons decodeA3_sub (hf := List.forall_iff_forall_mem.mp decodeA3_fresh) (.cons decodeA4_sub (hf := List.forall_iff_forall_mem.mp decodeA4_fresh) (.cons decodeA5_sub (hf := List.forall_iff_forall_mem.mp decodeA5_fresh) (.cons decodeA6_sub (hf := List.forall_iff_forall_mem.mp decodeA6_fresh) (.cons decodeA7_sub (hf := List.forall_iff_forall_mem.mp decodeA7_fresh) (.cons decodeA8_sub (hf := List.forall_iff_forall_mem.mp decodeA8_fresh) (.cons decodeA9_sub (hf := List.forall_iff_forall_mem.mp decodeA9_fresh) (.cons decodeA10_sub (hf := List.forall_iff_forall_mem.mp decodeA10_fresh) (.cons decodeA11_sub (hf := List.forall_iff_forall_mem.mp decodeA11_fresh) (.cons decodeA12_sub (hf := List.forall_iff_forall_mem.mp decodeA12_fresh) (.cons decodeA13_sub (hf := List.forall_iff_forall_mem.mp decodeA13_fresh) (.cons decodeA14_sub (hf := List.forall_iff_forall_mem.mp decodeA14_fresh) (.cons decodeA15_sub (hf := List.forall_iff_forall_mem.mp decodeA15_fresh) (.cons decodeA16_sub (hf := List.forall_iff_forall_mem.mp decodeA16_fresh) (.cons decodeA17_sub (hf := List.forall_iff_forall_mem.mp decodeA17_fresh) (.cons decodeB0_sub (hf := List.forall_iff_forall_mem.mp decodeB0_fresh) (.cons decodeB1_sub (hf := List.forall_iff_forall_mem.mp decodeB1_fresh) (.cons decodeB2_sub (hf := List.forall_iff_forall_mem.mp decodeB2_fresh) (.cons decodeB3_sub (hf := List.forall_iff_forall_mem.mp decodeB3_fresh) (.cons decodeB4_sub (hf := List.forall_iff_forall_mem.mp decodeB4_fresh) (.cons decodeB5_sub (hf := List.forall_iff_forall_mem.mp decodeB5_fresh) (.cons decodeB6_sub (hf := List.forall_iff_forall_mem.mp decodeB6_fresh) (.cons decodeB7_sub (hf := List.forall_iff_forall_mem.mp decodeB7_fresh) .nil)))))))))))))))))))))))))

/-- A chain of two lists is the chain of the first and then the chain of the second. -/
theorem chain_two {E : Type → Type} (xs ys : List (Prog E PUnit)) :
    (Pipeline.chain xs >>= fun _ => Pipeline.chain ys) = Pipeline.chain (xs ++ ys) := by
  induction xs with
  | nil => rfl
  | cons x xs ih => simp only [List.cons_append, Pipeline.chain_cons, bind_assoc, ih]

theorem decode_chain : main_while2_body (F := F) = Pipeline.chain (body2.map fun ops => (seq ops : Prog _ PUnit)) := by
  rw [show main_while2_body (F := F) = (main_while2_body_part0 >>= fun _ => main_while2_body_part1) from rfl, decodeA_chain, decodeB_chain,
    chain_two]
  rfl

variable (m : (ℓ : Loc nD τ sig) → Buf (Elt F) ℓ) (ρ : Dev nD → PrngReg)

/-! ## The contents at the loops -/

/-- What core `c` holds when the first loop is entered, and when it is left. -/
def enter0 (c : Dev nD) : Valuation τ sig (Elt F) := afterL pre0 (launchContents m c)
def leave0 (c : Dev nD) : Valuation τ sig (Elt F) := after test0 (atTrip test0 body0 (enter0 m) 1024 c)
/-- What it holds around the second loop. -/
def enter1 (c : Dev nD) : Valuation τ sig (Elt F) := afterL pre1 (leave0 m c)
def leave1 (c : Dev nD) : Valuation τ sig (Elt F) := after test1 (atTrip test1 body1 (enter1 m) 1024 c)
/-- What it holds around the third. -/
def enter2 (c : Dev nD) : Valuation τ sig (Elt F) := afterL pre2 (leave1 m c)
def leave2 (c : Dev nD) : Valuation τ sig (Elt F) := after test2 (atTrip test2 body2 (enter2 m) 9 c)
/-- What it holds at the end. -/
def final (c : Dev nD) : Valuation τ sig (Elt F) := afterL tail (leave2 m c)

/-! ## What is carried beside the buffers, and the launch's other arguments: no pipeline, no ticket, no level -/

local notation "𝕄" => MT nD τ sig Unit (Elt F) ℕ (Option PUnit) ℕ

abbrev noAdm : (p : Fin 0) → (pcfgs (F := F) p).Adm := fun p => p.elim0
abbrev noTicket : Fin 0 → Pipeline.Ticket (Ix := Unit) (Name := ℕ) (U := Option PUnit) (Lvl := ℕ) (nD := nD) (τ := τ) (pcfgs (F := F)) noAdm :=
  fun j => j.elim0
abbrev noIx : GSem nD τ sig → Finset Unit := fun _ => ∅
abbrev noLevel : GSem nD τ sig → Unit → ℕ := fun _ _ => 0

/-- What rides along: the core owes nothing. -/
abbrev rest (c : Dev nD) : sProp 𝕄 := iprop(∃ W, owes (c : Thread nD τ) (0 : CellTallies nD τ sig Unit) W)

/-! ## The counters and the tests -/

theorem count0_start (V : Valuation τ sig (Elt F)) : after head3 V (Proc.devRef .tc main_v10_3) = fun _ => (0#32 : BitVec 32) := by
  after_results
  rfl

theorem count0_next (V : Valuation τ sig (Elt F)) :
    after first3 V (Proc.devRef .tc main_v10_3) = addi (V (Proc.devRef .tc main_v10_3)) (constantI S_ 32 1#32) := by
  after_results
  rfl

/-- Before the test is run for the `k`-th time the counter is at `k`. -/
theorem count0 (c : Dev nD) : ∀ k, atTrip test0 body0 (enter0 m) k c (Proc.devRef .tc main_v10_3) = fun _ => Scf.iv 0#32 1#32 k
  | 0 => by
    rw [atTrip_zero, enter0]
    simp only [afterL_cons, afterL_nil]
    rw [count0_start, Scf.iv_zero]
  | k + 1 => by
    rw [atTrip_succ]
    simp only [afterL_cons, afterL_nil]
    rw [count0_next, first2_keep _ _ (by decide), first1_keep _ _ (by decide), first0_keep _ _ (by decide), test0_keep _ _ (by decide), count0 c k, Scf.iv_succ]
    rfl

set_option backward.isDefEq.respectTransparency.types false in
/-- The test says yes exactly below 1024. -/
theorem test0_spec : LoopCond (pcfgs (F := F)) defs₀ Variants.none loops rest (main_while0_cond (F := F)) test0 body0 (enter0 m) 1024 := by
  intro k hk c bd
  have hctr := count0 m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip test0 body0 (enter0 m) k c) main_v10_3 HostLoop.idx0)
        (HloOp.result _ (atTrip test0 body0 (enter0 m) k c) main_while0c_c_8 HostLoop.idx0) = 1#1) (k < 1024)
    rw [nullary_result_ne _ _ _ _ (by decide), nullary_result, hctr]
    exact Scf.cmpi_slt_iv_ub_iff (lb := 0#32) (ub := 1024#32) (st := 1#32) (by decide) (show k ≤ Scf.trips 0#32 1024#32 1#32 from hk)
  isplitl [Hb]; · iexact Hb
  isplitl [Hh]
  · rw [after_cons, after_cons, after_nil]; iexact Hh
  iexact HR

theorem count1_start (V : Valuation τ sig (Elt F)) : after head6 V (Proc.devRef .tc main_v20_3) = fun _ => (0#32 : BitVec 32) := by
  after_results
  rfl

theorem count1_next (V : Valuation τ sig (Elt F)) :
    after second3 V (Proc.devRef .tc main_v20_3) = addi (V (Proc.devRef .tc main_v20_3)) (constantI S_ 32 1#32) := by
  after_results
  rfl

/-- Before the test is run for the `k`-th time the counter is at `k`. -/
theorem count1 (c : Dev nD) : ∀ k, atTrip test1 body1 (enter1 m) k c (Proc.devRef .tc main_v20_3) = fun _ => Scf.iv 0#32 1#32 k
  | 0 => by
    rw [atTrip_zero, enter1]
    simp only [afterL_cons, afterL_nil]
    rw [count1_start, Scf.iv_zero]
  | k + 1 => by
    rw [atTrip_succ]
    simp only [afterL_cons, afterL_nil]
    rw [count1_next, second2_keep _ _ (by decide), second1_keep _ _ (by decide), second0_keep _ _ (by decide), test1_keep _ _ (by decide), count1 c k, Scf.iv_succ]
    rfl

set_option backward.isDefEq.respectTransparency.types false in
/-- The test says yes exactly below 1024. -/
theorem test1_spec : LoopCond (pcfgs (F := F)) defs₀ Variants.none loops rest (main_while1_cond (F := F)) test1 body1 (enter1 m) 1024 := by
  intro k hk c bd
  have hctr := count1 m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip test1 body1 (enter1 m) k c) main_v20_3 HostLoop.idx0)
        (HloOp.result _ (atTrip test1 body1 (enter1 m) k c) main_while1c_c_8 HostLoop.idx0) = 1#1) (k < 1024)
    rw [nullary_result_ne _ _ _ _ (by decide), nullary_result, hctr]
    exact Scf.cmpi_slt_iv_ub_iff (lb := 0#32) (ub := 1024#32) (st := 1#32) (by decide) (show k ≤ Scf.trips 0#32 1024#32 1#32 from hk)
  isplitl [Hb]; · iexact Hb
  isplitl [Hh]
  · rw [after_cons, after_cons, after_nil]; iexact Hh
  iexact HR

theorem count2_start (V : Valuation τ sig (Elt F)) : after head9 V (Proc.devRef .tc main_v24_6) = fun _ => (0#32 : BitVec 32) := by
  after_results
  rfl

theorem count2_next (V : Valuation τ sig (Elt F)) :
    after decodeB7 V (Proc.devRef .tc main_v24_6) = addi (V (Proc.devRef .tc main_v24_6)) (constantI S_ 32 1#32) := by
  after_results
  rfl

/-- Before the test is run for the `k`-th time the counter is at `k`. -/
theorem count2 (c : Dev nD) : ∀ k, atTrip test2 body2 (enter2 m) k c (Proc.devRef .tc main_v24_6) = fun _ => Scf.iv 0#32 1#32 k
  | 0 => by
    rw [atTrip_zero, enter2]
    simp only [afterL_cons, afterL_nil]
    rw [count2_start, Scf.iv_zero]
  | k + 1 => by
    rw [atTrip_succ]
    simp only [afterL_cons, afterL_nil]
    rw [count2_next, decodeB6_keep _ _ (by decide), decodeB5_keep _ _ (by decide), decodeB4_keep _ _ (by decide), decodeB3_keep _ _ (by decide), decodeB2_keep _ _ (by decide), decodeB1_keep _ _ (by decide), decodeB0_keep _ _ (by decide), decodeA17_keep _ _ (by decide), decodeA16_keep _ _ (by decide), decodeA15_keep _ _ (by decide), decodeA14_keep _ _ (by decide), decodeA13_keep _ _ (by decide), decodeA12_keep _ _ (by decide), decodeA11_keep _ _ (by decide), decodeA10_keep _ _ (by decide), decodeA9_keep _ _ (by decide), decodeA8_keep _ _ (by decide), decodeA7_keep _ _ (by decide), decodeA6_keep _ _ (by decide), decodeA5_keep _ _ (by decide), decodeA4_keep _ _ (by decide), decodeA3_keep _ _ (by decide), decodeA2_keep _ _ (by decide), decodeA1_keep _ _ (by decide), decodeA0_keep _ _ (by decide), test2_keep _ _ (by decide), count2 c k, Scf.iv_succ]
    rfl

set_option backward.isDefEq.respectTransparency.types false in
/-- The test says yes exactly below 9. -/
theorem test2_spec : LoopCond (pcfgs (F := F)) defs₀ Variants.none loops rest (main_while2_cond (F := F)) test2 body2 (enter2 m) 9 := by
  intro k hk c bd
  have hctr := count2 m c k
  unfold main_while2_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip test2 body2 (enter2 m) k c) main_v24_6 HostLoop.idx0)
        (HloOp.result _ (atTrip test2 body2 (enter2 m) k c) main_while2c_c_10 HostLoop.idx0) = 1#1) (k < 9)
    rw [nullary_result_ne _ _ _ _ (by decide), nullary_result, hctr]
    exact Scf.cmpi_slt_iv_ub_iff (lb := 0#32) (ub := 9#32) (st := 1#32) (by decide) (show k ≤ Scf.trips 0#32 9#32 1#32 from hk)
  isplitl [Hb]; · iexact Hb
  isplitl [Hh]
  · rw [after_cons, after_cons, after_nil]; iexact Hh
  iexact HR

/-! ## The run -/

/-- @main's parts in order. -/
def parts : List (Pipeline.CSeg (pcfgs (F := F)) noAdm defs₀ Variants.none noIx noLevel loops noTicket) :=
  segsOf _ noAdm defs₀ Variants.none noIx noLevel loops noTicket rest pre0 pre0_plain (launchContents m)
    ++ loopSeg _ noAdm defs₀ Variants.none noIx noLevel loops noTicket 0 main_while0_cond main_while0_body rfl test0 body0 body0_plain first_chain 1024 (enter0 m) rest (test0_spec m)
    :: (segsOf _ noAdm defs₀ Variants.none noIx noLevel loops noTicket rest pre1 pre1_plain (leave0 m)
    ++ loopSeg _ noAdm defs₀ Variants.none noIx noLevel loops noTicket 1 main_while1_cond main_while1_body rfl test1 body1 body1_plain second_chain 1024 (enter1 m) rest (test1_spec m)
    :: (segsOf _ noAdm defs₀ Variants.none noIx noLevel loops noTicket rest pre2 pre2_plain (leave1 m)
    ++ loopSeg _ noAdm defs₀ Variants.none noIx noLevel loops noTicket 2 main_while2_cond main_while2_body rfl test2 body2 body2_plain decode_chain 9 (enter2 m) rest (test2_spec m)
    :: segsOf _ noAdm defs₀ Variants.none noIx noLevel loops noTicket rest tail tail_plain (leave2 m)))

theorem parts_prog : (parts m).map Pipeline.CSeg.prog
    = (pre0.map fun ops => (seq ops : Prog _ PUnit)) ++ HostLoop.enter 0 :: ((pre1.map fun ops => (seq ops : Prog _ PUnit))
      ++ HostLoop.enter 1 :: ((pre2.map fun ops => (seq ops : Prog _ PUnit)) ++ HostLoop.enter 2 :: tail.map fun ops => (seq ops : Prog _ PUnit))) := by
  unfold parts
  simp only [List.map_append, List.map_cons]
  rw [segsOf_prog, segsOf_prog, segsOf_prog, segsOf_prog]
  rfl

theorem parts_chain : Pipeline.CSeg.Chains (fun c => iprop(held (c : Thread nD τ) (ucRefs τ sig) (launchContents m c) ∗ rest c)) (parts m)
    (fun c => iprop(iprop(held (c : Thread nD τ) (ucRefs τ sig) (final m c)) ∗ ∃ W, owes (c : Thread nD τ) (0 : CellTallies nD τ sig Unit) W)) := by
  unfold parts
  exact .append (segsOf_chains _ _ _ _ _ _ _ _ rest pre0 pre0_plain _) ⟨fun _ => .rfl,
    .append (segsOf_chains _ _ _ _ _ _ _ _ rest pre1 pre1_plain _) ⟨fun _ => .rfl,
    .append (segsOf_chains _ _ _ _ _ _ _ _ rest pre2 pre2_plain _) ⟨fun _ => .rfl,
    segsOf_chains _ _ _ _ _ _ _ _ rest tail tail_plain _⟩⟩⟩

/-- From any memory with zero counters every weakly fair execution terminates, with every tensor buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false → r.2.mem ((c.tc : Thread nD τ).loc b) = final m c (Proc.devRef .tc b)) := by
  refine Pipeline.θ_run_regions_loop_kit (Ix := Unit) (Name := ℕ) (U := Option PUnit) (Lvl := ℕ) (J := Fin 0) (P := Fin 0) (Val := Elt F)
    (pcfgs (F := F)) noAdm (fun k => k.1.elim0) defs₀ Variants.none noIx noLevel loops noTicket m ρ main (parts m)
    (fun c Q => ?_) (Pipeline.CSeg.pairwise_disjoint_of_T_empty _ fun s _ => Finset.eq_empty_of_isEmpty s.T)
    (O₀ := 0) (hL := fun _ _ => rfl) (G := fun _ => iprop(emp)) (u₀ := 1) (hu₀ := ?_)
    (T₀ := fun c => iprop(held (c : Thread nD τ) (ucRefs τ sig) (launchContents m c) ∗ rest c))
    (Tₙ := fun c => iprop(held (c : Thread nD τ) (ucRefs τ sig) (final m c))) (hch := parts_chain m) (hinit := ?_)
    (QY := fun c s => ∀ b ∈ ucRefs τ sig, s.mem ((c : Dev nD), b) = final m c b) (hfin := fun c s' => ?_)
    (hQ := fun _ h c b hb => h c _ (devRef_mem_ucRefs b hb))
  · rw [main_chain c]
    show wp _ _ _ (Pipeline.chain ((parts m).map Pipeline.CSeg.prog)) Q ⊢ _
    rw [parts_prog]
    exact .rfl
  · iintro -
    imodintro
    isplitl []
    · rw [Finset.univ_eq_empty, BI.bigSep_empty]; iempintro
    · iapply (show (BI.emp : sProp 𝕄) ⊢ bigSep Finset.univ (fun _ : Dev nD => (BI.emp : sProp 𝕄)) from by rw [BI.bigSep_emp_const])
      iempintro
  · refine Pipeline.initEach noIx noLevel fun c => ?_
    rw [show unscopedBufs c (fun b => m ((c : Thread nD τ).loc b)) = held (c : Thread nD τ) (ucRefs τ sig) (launchContents m c) from
      Pipeline.unscopedBufs_held c (launchContents m c)]
    iintro ⟨⟨Hh, -, HO, -, -, -⟩, -⟩
    imodintro
    isplitl [Hh]; · iexact Hh
    iexists ∅; iexact HO
  · unfold held
    iintro ⟨Hh, HSI⟩
    ihave Hr := (pointsTo_read_all (ucRefs τ sig) (fun b => ((c : Dev nD), b)) (fun b => final m c b) s') $$ [Hh HSI]
    · isplitl [Hh] <;> iassumption
    icases Hr with ⟨%h, HSI⟩
    imodintro
    isplitr; · ipureintro; exact h
    iexact HSI

/-- The program declares no counter: none is left raised. -/
theorem no_counter (s : MemSt nD τ sig (Elt F)) : s.sem = fun _ => 0 := sem_eq_zero_of_no_sems rfl s

/-! ## The arguments are never written -/

/-- What `pre0` writes. -/
abbrev pre0_W : List (Ref sig .tc) := head0_W ++ head1_W ++ head2_W ++ head3_W
theorem pre0_keep (V : Valuation τ sig (Elt F)) (r : Ref sig .tc) (hr : r ∉ pre0_W) : afterL pre0 V (Proc.devRef .tc r) = V (Proc.devRef .tc r) := by
  simp only [pre0_W, List.mem_append, not_or] at hr
  simp only [afterL_cons, afterL_nil]
  rw [head3_keep _ _ (by tauto), head2_keep _ _ (by tauto), head1_keep _ _ (by tauto), head0_keep _ _ (by tauto)]
/-- What `pre1` writes. -/
abbrev pre1_W : List (Ref sig .tc) := head4_W ++ head5_W ++ head6_W
theorem pre1_keep (V : Valuation τ sig (Elt F)) (r : Ref sig .tc) (hr : r ∉ pre1_W) : afterL pre1 V (Proc.devRef .tc r) = V (Proc.devRef .tc r) := by
  simp only [pre1_W, List.mem_append, not_or] at hr
  simp only [afterL_cons, afterL_nil]
  rw [head6_keep _ _ (by tauto), head5_keep _ _ (by tauto), head4_keep _ _ (by tauto)]
/-- What `pre2` writes. -/
abbrev pre2_W : List (Ref sig .tc) := head7_W ++ head8_W ++ head9_W
theorem pre2_keep (V : Valuation τ sig (Elt F)) (r : Ref sig .tc) (hr : r ∉ pre2_W) : afterL pre2 V (Proc.devRef .tc r) = V (Proc.devRef .tc r) := by
  simp only [pre2_W, List.mem_append, not_or] at hr
  simp only [afterL_cons, afterL_nil]
  rw [head9_keep _ _ (by tauto), head8_keep _ _ (by tauto), head7_keep _ _ (by tauto)]
/-- What `tail` writes. -/
abbrev tail_W : List (Ref sig .tc) := head10_W
theorem tail_keep (V : Valuation τ sig (Elt F)) (r : Ref sig .tc) (hr : r ∉ tail_W) : afterL tail V (Proc.devRef .tc r) = V (Proc.devRef .tc r) := by
  simp only [tail_W, List.mem_append, not_or] at hr
  simp only [afterL_cons, afterL_nil]
  rw [head10_keep _ _ (by tauto)]
/-- What `body0` writes. -/
abbrev body0_W : List (Ref sig .tc) := first0_W ++ first1_W ++ first2_W ++ first3_W
theorem body0_keep (V : Valuation τ sig (Elt F)) (r : Ref sig .tc) (hr : r ∉ body0_W) : afterL body0 V (Proc.devRef .tc r) = V (Proc.devRef .tc r) := by
  simp only [body0_W, List.mem_append, not_or] at hr
  simp only [afterL_cons, afterL_nil]
  rw [first3_keep _ _ (by tauto), first2_keep _ _ (by tauto), first1_keep _ _ (by tauto), first0_keep _ _ (by tauto)]
/-- What `body1` writes. -/
abbrev body1_W : List (Ref sig .tc) := second0_W ++ second1_W ++ second2_W ++ second3_W
theorem body1_keep (V : Valuation τ sig (Elt F)) (r : Ref sig .tc) (hr : r ∉ body1_W) : afterL body1 V (Proc.devRef .tc r) = V (Proc.devRef .tc r) := by
  simp only [body1_W, List.mem_append, not_or] at hr
  simp only [afterL_cons, afterL_nil]
  rw [second3_keep _ _ (by tauto), second2_keep _ _ (by tauto), second1_keep _ _ (by tauto), second0_keep _ _ (by tauto)]
/-- What `body2` writes. -/
abbrev body2_W : List (Ref sig .tc) := decodeA0_W ++ decodeA1_W ++ decodeA2_W ++ decodeA3_W ++ decodeA4_W ++ decodeA5_W ++ decodeA6_W ++ decodeA7_W ++ decodeA8_W ++ decodeA9_W ++ decodeA10_W ++ decodeA11_W ++ decodeA12_W ++ decodeA13_W ++ decodeA14_W ++ decodeA15_W ++ decodeA16_W ++ decodeA17_W ++ decodeB0_W ++ decodeB1_W ++ decodeB2_W ++ decodeB3_W ++ decodeB4_W ++ decodeB5_W ++ decodeB6_W ++ decodeB7_W
theorem body2_keep (V : Valuation τ sig (Elt F)) (r : Ref sig .tc) (hr : r ∉ body2_W) : afterL body2 V (Proc.devRef .tc r) = V (Proc.devRef .tc r) := by
  simp only [body2_W, List.mem_append, not_or] at hr
  simp only [afterL_cons, afterL_nil]
  rw [decodeB7_keep _ _ (by tauto), decodeB6_keep _ _ (by tauto), decodeB5_keep _ _ (by tauto), decodeB4_keep _ _ (by tauto), decodeB3_keep _ _ (by tauto), decodeB2_keep _ _ (by tauto), decodeB1_keep _ _ (by tauto), decodeB0_keep _ _ (by tauto), decodeA17_keep _ _ (by tauto), decodeA16_keep _ _ (by tauto), decodeA15_keep _ _ (by tauto), decodeA14_keep _ _ (by tauto), decodeA13_keep _ _ (by tauto), decodeA12_keep _ _ (by tauto), decodeA11_keep _ _ (by tauto), decodeA10_keep _ _ (by tauto), decodeA9_keep _ _ (by tauto), decodeA8_keep _ _ (by tauto), decodeA7_keep _ _ (by tauto), decodeA6_keep _ _ (by tauto), decodeA5_keep _ _ (by tauto), decodeA4_keep _ _ (by tauto), decodeA3_keep _ _ (by tauto), decodeA2_keep _ _ (by tauto), decodeA1_keep _ _ (by tauto), decodeA0_keep _ _ (by tauto)]
theorem trips0_keep (W : Dev nD → Valuation τ sig (Elt F)) (c : Dev nD) (r : Ref sig .tc) (hr : r ∉ body0_W) (ht : r ∉ test0_W) :
    ∀ n, atTrip test0 body0 W n c (Proc.devRef .tc r) = W c (Proc.devRef .tc r)
  | 0 => rfl
  | n + 1 => by rw [atTrip_succ, body0_keep _ _ hr, test0_keep _ _ ht, trips0_keep W c r hr ht n]
theorem trips1_keep (W : Dev nD → Valuation τ sig (Elt F)) (c : Dev nD) (r : Ref sig .tc) (hr : r ∉ body1_W) (ht : r ∉ test1_W) :
    ∀ n, atTrip test1 body1 W n c (Proc.devRef .tc r) = W c (Proc.devRef .tc r)
  | 0 => rfl
  | n + 1 => by rw [atTrip_succ, body1_keep _ _ hr, test1_keep _ _ ht, trips1_keep W c r hr ht n]
theorem trips2_keep (W : Dev nD → Valuation τ sig (Elt F)) (c : Dev nD) (r : Ref sig .tc) (hr : r ∉ body2_W) (ht : r ∉ test2_W) :
    ∀ n, atTrip test2 body2 W n c (Proc.devRef .tc r) = W c (Proc.devRef .tc r)
  | 0 => rfl
  | n + 1 => by rw [atTrip_succ, body2_keep _ _ hr, test2_keep _ _ ht, trips2_keep W c r hr ht n]

/-- A buffer no stretch writes is at the end what it was at the start. -/
theorem final_keep (c : Dev nD) (r : Ref sig .tc) (h : r ∉ pre0_W ∧ r ∉ test0_W ∧ r ∉ body0_W ∧ r ∉ pre1_W ∧ r ∉ test1_W ∧ r ∉ body1_W ∧ r ∉ pre2_W ∧ r ∉ test2_W ∧ r ∉ body2_W ∧ r ∉ tail_W) :
    final m c (Proc.devRef .tc r) = m ((c.tc : Thread nD τ).loc r) := by
  obtain ⟨h1, h2, h3, h4, h5, h6, h7, h8, h9, h10⟩ := h
  rw [final, tail_keep _ _ h10, leave2, test2_keep _ _ h8, trips2_keep _ _ _ h9 h8, enter2, pre2_keep _ _ h7, leave1, test1_keep _ _ h5,
    trips1_keep _ _ _ h6 h5, enter1, pre1_keep _ _ h4, leave0, test0_keep _ _ h2, trips0_keep _ _ _ h3 h2, enter0, pre0_keep _ _ h1]

/-- The program leaves its arguments and its counters as they were. -/
theorem frame_claim : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun r h => ⟨fun c => ⟨(h c _ rfl).trans (final_keep m c main_arg0 (by decide +kernel)), (h c _ rfl).trans (final_keep m c main_arg1 (by decide +kernel)), (h c _ rfl).trans (final_keep m c main_arg2 (by decide +kernel)), (h c _ rfl).trans (final_keep m c main_arg3 (by decide +kernel)), (h c _ rfl).trans (final_keep m c main_arg4 (by decide +kernel)), (h c _ rfl).trans (final_keep m c main_arg5 (by decide +kernel)), (h c _ rfl).trans (final_keep m c main_arg6 (by decide +kernel)), (h c _ rfl).trans (final_keep m c main_arg7 (by decide +kernel)), (h c _ rfl).trans (final_keep m c main_arg8 (by decide +kernel)), (h c _ rfl).trans (final_keep m c main_arg9 (by decide +kernel)), (h c _ rfl).trans (final_keep m c main_arg10 (by decide +kernel)), (h c _ rfl).trans (final_keep m c main_arg11 (by decide +kernel)), (h c _ rfl).trans (final_keep m c main_arg12 (by decide +kernel)), (h c _ rfl).trans (final_keep m c main_arg13 (by decide +kernel)), (h c _ rfl).trans (final_keep m c main_arg14 (by decide +kernel)), (h c _ rfl).trans (final_keep m c main_arg15 (by decide +kernel)), (h c _ rfl).trans (final_keep m c main_arg16 (by decide +kernel))⟩, no_counter r.2⟩) (run_fold m ρ)

end Cert.Proof.Reference

end
-- ==== Proof.Value.Rows.lean ====
/-
  The network on one batch row: two stacked recurrent layers over the row's steps, last time first, and the integrator
  that decodes each state. Both programs' results are this, row by row.
-/
module

public import Idealize.ShloMosaic.Lib.Pointwise

@[expose] public section

noncomputable section

namespace Cert.Proof.Value

open Idealize.ShloMosaic

/-- A row of `n` numbers. -/
abbrev Row (n : ℕ) : Type := Fin n → EReal

/-- An affine map of a row. -/
def affine {k n : ℕ} (w : Fin k → Fin n → EReal) (b : Row n) (y : Row k) : Row n := fun j => ∑ i, y i * w i j + b j

/-- The softplus of a number. -/
def softplus (x : EReal) : EReal := max x 0 + Ideal.log1p (Ideal.exp (-(FloatOps.absf (F := Ideal) (φ := .f32) x)))

/-- The weights, each matrix from its input to its output. -/
structure Net where
  wi0 : Fin 64 → Fin 32 → EReal
  wh0 : Fin 32 → Fin 32 → EReal
  bi0 : Row 32
  bh0 : Row 32
  wi1 : Fin 32 → Fin 32 → EReal
  wh1 : Fin 32 → Fin 32 → EReal
  bi1 : Row 32
  bh1 : Row 32
  w0 : Fin 32 → Fin 128 → EReal
  b0 : Row 128
  w1 : Fin 128 → Fin 128 → EReal
  b1 : Row 128
  w2 : Fin 128 → Fin 32 → EReal
  b2 : Row 32

namespace Net

variable (N : Net)

/-- One step of the first layer, and of the second. -/
def step0 (x : Row 64) (h : Row 32) : Row 32 := fun j => Ideal.tanh (∑ i, x i * N.wi0 i j + N.bi0 j + ∑ i, h i * N.wh0 i j + N.bh0 j)
def step1 (x : Row 32) (h : Row 32) : Row 32 := fun j => Ideal.tanh (∑ i, x i * N.wi1 i j + N.bi1 j + ∑ i, h i * N.wh1 i j + N.bh1 j)

/-- The first layer's state after `n` steps over the inputs `x`. -/
def state0 (x : ℕ → Row 64) (h : Row 32) : ℕ → Row 32
  | 0 => h
  | n + 1 => N.step0 (x n) (state0 x h n)

/-- The second layer's. -/
def state1 (x : ℕ → Row 64) (h h' : Row 32) : ℕ → Row 32
  | 0 => h'
  | n + 1 => N.step1 (N.state0 x h (n + 1)) (state1 x h h' n)

/-- The field of the decoder. -/
def field (y : Row 32) : Row 32 := affine N.w2 N.b2 fun j => softplus (affine N.w1 N.b1 (fun i => softplus (affine N.w0 N.b0 y i)) j)

/-- A start moved along a slope. -/
def moved (b : BitVec 32) (y k : Row 32) : Row 32 := fun j => y j + Ideal.ofBits .f32 b * k j

/-- The four slopes put together. -/
def join (y k1 k2 k3 k4 : Row 32) : Row 32 :=
  moved 0x3ADA740E#32 y fun j => k1 j + Ideal.ofBits .f32 0x40000000#32 * k2 j + Ideal.ofBits .f32 0x40000000#32 * k3 j + k4 j

/-- One step of the integrator. -/
def decode (y : Row 32) : Row 32 :=
  join y (N.field y) (N.field (moved 0x3BA3D70A#32 y (N.field y))) (N.field (moved 0x3BA3D70A#32 y (N.field (moved 0x3BA3D70A#32 y (N.field y)))))
    (N.field (moved 0x3C23D70A#32 y (N.field (moved 0x3BA3D70A#32 y (N.field (moved 0x3BA3D70A#32 y (N.field y)))))))

/-- The result at time `t`: the state of the step that ends at the time after it, decoded; at the last time the state of
    that time itself. -/
def out (x : ℕ → Row 64) (h h' : Row 32) (t : ℕ) : Row 32 :=
  if t < 1023 then N.decode^[9] (N.state1 x h h' (1023 - t)) else N.state1 x h h' 1

end Net

/-- The weights as the launch holds them, each matrix from its output to its input. -/
def net (a3 : FVec Ideal ⟨2, ![32, 64]⟩ .f32) (a4 : FVec Ideal ⟨2, ![32, 32]⟩ .f32) (a5 a6 : FVec Ideal ⟨1, ![32]⟩ .f32)
    (a7 a8 : FVec Ideal ⟨2, ![32, 32]⟩ .f32) (a9 a10 : FVec Ideal ⟨1, ![32]⟩ .f32) (a11 : FVec Ideal ⟨2, ![128, 32]⟩ .f32) (a12 : FVec Ideal ⟨1, ![128]⟩ .f32)
    (a13 : FVec Ideal ⟨2, ![128, 128]⟩ .f32) (a14 : FVec Ideal ⟨1, ![128]⟩ .f32) (a15 : FVec Ideal ⟨2, ![32, 128]⟩ .f32) (a16 : FVec Ideal ⟨1, ![32]⟩ .f32) : Net where
  wi0 i j := a3 (ix2 j i)
  wh0 i j := a4 (ix2 j i)
  bi0 j := a5 (ix1 j)
  bh0 j := a6 (ix1 j)
  wi1 i j := a7 (ix2 j i)
  wh1 i j := a8 (ix2 j i)
  bi1 j := a9 (ix1 j)
  bh1 j := a10 (ix1 j)
  w0 i j := a11 (ix2 j i)
  b0 j := a12 (ix1 j)
  w1 i j := a13 (ix2 j i)
  b1 j := a14 (ix1 j)
  w2 i j := a15 (ix2 j i)
  b2 j := a16 (ix1 j)

/-- The inputs of batch row `b`, the last time first. -/
def inputs (a0 : FVec Ideal ⟨3, ![256, 1024, 64]⟩ .f32) (b : Fin 256) (n : ℕ) : Row 64 := fun i => a0 (ix3 b (⟨1023 - n, by omega⟩ : Fin 1024) i)

/-- The result of the whole network. -/
def result (a0 : FVec Ideal ⟨3, ![256, 1024, 64]⟩ .f32) (a2 : FVec Ideal ⟨3, ![2, 1, 32]⟩ .f32) (N : Net) : FVec Ideal ⟨3, ![256, 1024, 32]⟩ .f32 := fun y =>
  N.out (inputs a0 (⟨(y 0).val, (y 0).isLt⟩ : Fin 256)) (fun j => a2 (ix3 (0 : Fin 2) (0 : Fin 1) j)) (fun j => a2 (ix3 (1 : Fin 2) (0 : Fin 1) j))
    (y 1).val (⟨(y 2).val, (y 2).isLt⟩ : Fin 32)

end Cert.Proof.Value

end
-- ==== Proof.Value.KernelRows.lean ====
/-
  What one point of the kernel computes, row by row.
-/
module

public import proofs.«01_k».proof.Proof.KernelIdeal.Body
public import proofs.«01_k».proof.Proof.Value.Rows

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Cert.Proof.Value (Row Net affine softplus)

/-! ## The integrator's vectors -/

section vectors

variable {F : FTy → Type} [FloatOps F]

variable (w0 : FVec F S32x128 .f32) (b0 : FVec F S1x128 .f32) (w1 : FVec F S128x128 .f32) (b1 : FVec F S1x128 .f32) (w2 : FVec F S128x32 .f32) (b2 : FVec F S1x32 .f32)

/-- The decoder's three affine maps on 512 rows. -/
def lin0 (y : FVec F S512x32 .f32) : FVec F S512x128 .f32 :=
  addf (matmul dot_S512x32_S32x128_S512x128_1_0_0_1_n_n none y w0 (constant S512x128 .f32 0x00000000#32)) (broadcastTo S512x128 b0 broadcasts_S1x128_S512x128)
def lin1 (y : FVec F S512x128 .f32) : FVec F S512x128 .f32 :=
  addf (matmul dot_S512x128_S128x128_S512x128_1_0_0_1_n_n none y w1 (constant S512x128 .f32 0x00000000#32)) (broadcastTo S512x128 b1 broadcasts_S1x128_S512x128)
def lin2 (y : FVec F S512x128 .f32) : FVec F S512x32 .f32 :=
  addf (matmul dot_S512x128_S128x32_S512x32_1_0_0_1_n_n none y w2 (constant S512x32 .f32 0x00000000#32)) (broadcastTo S512x32 b2 broadcasts_S1x32_S512x32)

/-- Zero, at each of 512 rows. -/
def zeros : FVec F S512x128 .f32 := broadcast S512x128 (Scalar.ofBits .f32 0x00000000#32)

/-- Softplus, as the kernel computes it. -/
def soft (x : FVec F S512x128 .f32) : FVec F S512x128 .f32 :=
  select (cmpf .one (subf x zeros) (subf x zeros)) (addf x zeros) (addf (maximumf x zeros) (log1p (exp (subf zeros (absf (subf x zeros))))))

/-- The field of the decoder. -/
def field (y : FVec F S512x32 .f32) : FVec F S512x32 .f32 := lin2 w2 b2 (soft (lin1 w1 b1 (soft (lin0 w0 b0 y))))

/-- A constant times an array. -/
def times (b : BitVec 32) (x : FVec F S512x32 .f32) : FVec F S512x32 .f32 := mulf (broadcast S512x32 (Scalar.ofBits .f32 b)) x

/-- A start moved along a slope. -/
def moved (b : BitVec 32) (y k : FVec F S512x32 .f32) : FVec F S512x32 .f32 := addf y (times b k)

/-- The four slopes put together. -/
def join (y k1 k2 k3 k4 : FVec F S512x32 .f32) : FVec F S512x32 .f32 :=
  moved 0x3ADA740E#32 y (addf (addf (addf k1 (times 0x40000000#32 k2)) (times 0x40000000#32 k3)) k4)

/-- One step of the integrator over a field. -/
def rkOf (f : FVec F S512x32 .f32 → FVec F S512x32 .f32) (y : FVec F S512x32 .f32) : FVec F S512x32 .f32 :=
  join y (f y) (f (moved 0x3BA3D70A#32 y (f y))) (f (moved 0x3BA3D70A#32 y (f (moved 0x3BA3D70A#32 y (f y)))))
    (f (moved 0x3C23D70A#32 y (f (moved 0x3BA3D70A#32 y (f (moved 0x3BA3D70A#32 y (f y)))))))

/-- The kernel's step is the one over its field. -/
theorem rk_eq (y : Vec F S512x32 .f32) : rk w0 b0 w1 b1 w2 b2 y = rkOf (field w0 b0 w1 b1 w2 b2) y := rfl

end vectors

/-! ## The integrator's rows -/

section decoder

variable (w0 : FVec Ideal S32x128 .f32) (b0 : FVec Ideal S1x128 .f32) (w1 : FVec Ideal S128x128 .f32) (b1 : FVec Ideal S1x128 .f32)
  (w2 : FVec Ideal S128x32 .f32) (b2 : FVec Ideal S1x32 .f32)

/-- A row of an array of rows. -/
abbrev row {k n : ℕ} (y : FVec Ideal ⟨2, ![k, n]⟩ .f32) (r : Fin k) : Row n := fun j => y (ix2 r j)

theorem lin0_row (y : FVec Ideal S512x32 .f32) (r : Fin 512) : row (lin0 w0 b0 y) r = affine (fun i j => w0 (ix2 i j)) (fun j => b0 (ix2 (0 : Fin 1) j)) (row y r) := by
  funext j
  show lin0 w0 b0 y (ix2 r j) = _
  pointwise [lin0]
  rfl
theorem lin1_row (y : FVec Ideal S512x128 .f32) (r : Fin 512) : row (lin1 w1 b1 y) r = affine (fun i j => w1 (ix2 i j)) (fun j => b1 (ix2 (0 : Fin 1) j)) (row y r) := by
  funext j
  show lin1 w1 b1 y (ix2 r j) = _
  pointwise [lin1]
  rfl
theorem lin2_row (y : FVec Ideal S512x128 .f32) (r : Fin 512) : row (lin2 w2 b2 y) r = affine (fun i j => w2 (ix2 i j)) (fun j => b2 (ix2 (0 : Fin 1) j)) (row y r) := by
  funext j
  show lin2 w2 b2 y (ix2 r j) = _
  pointwise [lin2]
  rfl
theorem soft_row (x : FVec Ideal S512x128 .f32) (r : Fin 512) : row (soft x) r = fun j => softplus (row x r j) := by
  funext j
  show soft x (ix2 r j) = _
  pointwise [soft, zeros]
  rw [if_neg (fun h => h rfl), zero_sub]
  rfl
theorem moved_row (b : BitVec 32) (y k : FVec Ideal S512x32 .f32) (r : Fin 512) : row (moved b y k) r = Net.moved b (row y r) (row k r) := by
  funext j
  show moved b y k (ix2 r j) = _
  pointwise [moved, times]
  rfl
theorem join_row (y k1 k2 k3 k4 : FVec Ideal S512x32 .f32) (r : Fin 512) :
    row (join y k1 k2 k3 k4) r = Net.join (row y r) (row k1 r) (row k2 r) (row k3 r) (row k4 r) := by
  funext j
  show join y k1 k2 k3 k4 (ix2 r j) = _
  pointwise [join, moved, times]
  rfl

/-- The kernel's decoder is a network's. -/
structure Decodes (N : Net) : Prop where
  w0 : ∀ i j, w0 (ix2 i j) = N.w0 i j
  b0 : ∀ j, b0 (ix2 (0 : Fin 1) j) = N.b0 j
  w1 : ∀ i j, w1 (ix2 i j) = N.w1 i j
  b1 : ∀ j, b1 (ix2 (0 : Fin 1) j) = N.b1 j
  w2 : ∀ i j, w2 (ix2 i j) = N.w2 i j
  b2 : ∀ j, b2 (ix2 (0 : Fin 1) j) = N.b2 j

variable {w0 b0 w1 b1 w2 b2} {N : Net} (hN : Decodes w0 b0 w1 b1 w2 b2 N)

include hN

theorem field_row (y : FVec Ideal S512x32 .f32) (r : Fin 512) : row (field w0 b0 w1 b1 w2 b2 y) r = N.field (row y r) := by
  unfold field Net.field
  rw [lin2_row, soft_row, lin1_row, soft_row, lin0_row]
  simp only [hN.w0, hN.b0, hN.w1, hN.b1, hN.w2, hN.b2]

theorem rk_row (y : FVec Ideal S512x32 .f32) (r : Fin 512) : row (rk w0 b0 w1 b1 w2 b2 y) r = N.decode (row y r) := by
  rw [rk_eq]
  unfold rkOf Net.decode
  simp only [join_row, field_row hN, moved_row]

theorem rk_rows (y : FVec Ideal S512x32 .f32) (r : Fin 512) : ∀ n, row ((rk w0 b0 w1 b1 w2 b2)^[n] y) r = N.decode^[n] (row y r)
  | 0 => rfl
  | n + 1 => by
    rw [Function.iterate_succ_apply', Function.iterate_succ_apply', rk_row hN, rk_rows y r n]

end decoder

/-! ## The cells' rows -/

theorem pay24_apply (x2 : FVec Ideal S64x128x64 .f32) (x4 : FVec Ideal S64x32 .f32) (x6 : FVec Ideal S1x32 .f32) (s : Fin 64) (r : Fin 128) (j : Fin 32) :
    k0_pay24 (F := Ideal) x2 x4 x6 (ix2 (⟨128 * s.val + r.val, by omega⟩ : Fin 8192) j) = ∑ i, x2 (ix3 s r i) * x4 (ix2 i j) + x6 (ix2 (0 : Fin 1) j) := by
  pointwise [k0_pay24]

theorem pay29_apply (v21 : FVec Ideal S32x32 .f32) (h p : FVec Ideal S128x32 .f32) (r : Fin 128) (j : Fin 32) :
    k0_pay29 v21 h p (ix2 r j) = Ideal.tanh (p (ix2 r j) + ∑ i, h (ix2 r i) * v21 (ix2 i j)) := by
  pointwise [k0_pay29]

theorem pay30_apply (v21 v23 v25 : FVec Ideal S32x32 .f32) (v27 : FVec Ideal S1x32 .f32) (h h' p : FVec Ideal S128x32 .f32) (r : Fin 128) (j : Fin 32) :
    k0_pay30 v21 v23 v25 v27 h h' p (ix2 r j)
      = Ideal.tanh (∑ i, k0_pay29 v21 h p (ix2 r i) * v23 (ix2 i j) + ∑ i, h' (ix2 r i) * v25 (ix2 i j) + v27 (ix2 (0 : Fin 1) j)) := by
  pointwise [k0_pay30]

/-- The rows of a slot, in its rectangle. -/
theorem ld_row (W : Vec Ideal S8192x32 .f32) (n : ℕ) (hn : n ≤ 63) (r : Fin 128) (j : Fin 32) :
    View.ld W (rowRect n) (ix2 r j) = W (ix2 (⟨128 * (63 - n) + r.val, by omega⟩ : Fin 8192) j) := by
  refine congrArg W (funext fun a => ?_)
  match a with
  | ⟨0, _⟩ =>
    refine Fin.ext ?_
    show 8064 - 128 * n + 1 * r.val = 128 * (63 - n) + r.val
    omega
  | ⟨1, _⟩ =>
    refine Fin.ext ?_
    show 0 + 1 * j.val = j.val
    omega

/-- The kernel's two cells are a network's: each layer's two biases come added up. -/
structure Layers (x4 : FVec Ideal S64x32 .f32) (x5 : FVec Ideal S32x32 .f32) (x6 : FVec Ideal S1x32 .f32) (x7 x8 : FVec Ideal S32x32 .f32)
    (x9 : FVec Ideal S1x32 .f32) (N : Net) : Prop where
  wi0 : ∀ i j, x4 (ix2 i j) = N.wi0 i j
  wh0 : ∀ i j, x5 (ix2 i j) = N.wh0 i j
  b0 : ∀ j, x6 (ix2 (0 : Fin 1) j) = N.bi0 j + N.bh0 j
  wi1 : ∀ i j, x7 (ix2 i j) = N.wi1 i j
  wh1 : ∀ i j, x8 (ix2 i j) = N.wh1 i j
  b1 : ∀ j, x9 (ix2 (0 : Fin 1) j) = N.bi1 j + N.bh1 j

section chunk

variable {x2 : FVec Ideal S64x128x64 .f32} {x4 : FVec Ideal S64x32 .f32} {x5 : FVec Ideal S32x32 .f32} {x6 : FVec Ideal S1x32 .f32}
  {x7 x8 : FVec Ideal S32x32 .f32} {x9 : FVec Ideal S1x32 .f32} {N : Net} (hN : Layers x4 x5 x6 x7 x8 x9 N)
  {e : FVec Ideal S128x32 .f32 × FVec Ideal S128x32 .f32} {X : ℕ → Row 64} {h h' : Row 32} {k : ℕ} {r : Fin 128}
  (hx : ∀ (s : Fin 64) (i : Fin 64), x2 (ix3 s r i) = X (k + (63 - s.val)) i)
  (he : (∀ j, e.1 (ix2 r j) = N.state0 X h k j) ∧ ∀ j, e.2 (ix2 r j) = N.state1 X h h' k j)

include hN hx he

/-- A row's states after `n` steps of a chunk whose row starts from the states after `k` steps. -/
theorem states_row : ∀ n, n ≤ 64 → (∀ j, (states (F := Ideal) x2 x4 x5 x6 x7 x8 x9 e n).1 (ix2 r j) = N.state0 X h (k + n) j)
    ∧ ∀ j, (states (F := Ideal) x2 x4 x5 x6 x7 x8 x9 e n).2 (ix2 r j) = N.state1 X h h' (k + n) j
  | 0, _ => he
  | n + 1, hn => by
    obtain ⟨i0, i1⟩ := states_row n (by omega)
    have s0 : ∀ j, k0_pay29 (k0_pay25 x5) (states (F := Ideal) x2 x4 x5 x6 x7 x8 x9 e n).1 (View.ld (k0_pay24 (F := Ideal) x2 x4 x6) (rowRect n)) (ix2 r j)
        = N.state0 X h (k + n + 1) j := fun j => by
      refine (pay29_apply _ _ _ r j).trans ?_
      refine congrArg Ideal.tanh ?_
      rw [ld_row _ n (by omega)]
      refine (congrArg (· + _) (pay24_apply x2 x4 x6 (⟨63 - n, by omega⟩ : Fin 64) r j)).trans ?_
      simp only [i0, hx, hN.wi0, hN.b0]
      rw [← add_assoc, add_right_comm]
      have e : 63 - (63 - n) = n := by omega
      rw [e]
      refine congrArg (· + _) (congrArg (_ + ·) (Finset.sum_congr rfl fun i _ => ?_))
      refine congrArg (_ * ·) ?_
      rw [show k0_pay25 x5 = x5 from shapeCast_id _ _]
      exact hN.wh0 i j
    refine ⟨s0, fun j => ?_⟩
    show k0_pay30 (k0_pay25 x5) (k0_pay26 x7) (k0_pay27 x8) (k0_pay28 x9) (states (F := Ideal) x2 x4 x5 x6 x7 x8 x9 e n).1 (states (F := Ideal) x2 x4 x5 x6 x7 x8 x9 e n).2
      (View.ld (k0_pay24 (F := Ideal) x2 x4 x6) (rowRect n)) (ix2 r j) = N.state1 X h h' (k + n + 1) j
    refine (pay30_apply _ _ _ _ _ _ _ r j).trans ?_
    refine congrArg Ideal.tanh ?_
    rw [show k0_pay26 x7 = x7 from shapeCast_id _ _, show k0_pay27 x8 = x8 from shapeCast_id _ _, show k0_pay28 x9 = x9 from shapeCast_id _ _]
    simp only [s0, i1, hN.wi1, hN.wh1, hN.b1]
    rw [← add_assoc, add_right_comm (∑ i, N.state0 X h (k + n + 1) i * N.wi1 i j)]

/-- The slots of a row. -/
theorem slots_row (s : Fin 64) (j : Fin 32) :
    slots (F := Ideal) x2 x4 x5 x6 x7 x8 x9 e (ix2 (⟨128 * s.val + r.val, by omega⟩ : Fin 8192) j) = N.state1 X h h' (k + (63 - s.val)) j := by
  show (states (F := Ideal) x2 x4 x5 x6 x7 x8 x9 e (63 - (128 * s.val + r.val) / 128)).2
    (ix2 (⟨(128 * s.val + r.val) % 128, Nat.mod_lt _ (by decide)⟩ : Fin 128) j) = _
  have e1 : (128 * s.val + r.val) / 128 = s.val := by omega
  have e2 : (⟨(128 * s.val + r.val) % 128, Nat.mod_lt _ (by decide)⟩ : Fin 128) = r := Fin.ext (by show (128 * s.val + r.val) % 128 = r.val; omega)
  rw [e1, e2]
  exact (states_row hN hx he (63 - s.val) (by omega)).2 j

variable {x10 : FVec Ideal S32x128 .f32} {x11 : FVec Ideal S1x128 .f32} {x12 : FVec Ideal S128x128 .f32} {x13 : FVec Ideal S1x128 .f32}
  {x14 : FVec Ideal S128x32 .f32} {x15 : FVec Ideal S1x32 .f32} (hD : Decodes x10 x11 x12 x13 x14 x15 N)

include hD

/-- The stored rows: each slot's state, decoded. -/
theorem outLater_row (s : Fin 64) (j : Fin 32) :
    outLater (F := Ideal) x2 x4 x5 x6 x7 x8 x9 e x10 x11 x12 x13 x14 x15 (ix3 s r j) = N.decode^[9] (N.state1 X h h' (k + (63 - s.val))) j := by
  unfold outLater
  rw [show k0_pay35 x10 = x10 from shapeCast_id _ _, show k0_pay36 x11 = x11 from shapeCast_id _ _, show k0_pay37 x12 = x12 from shapeCast_id _ _,
    show k0_pay38 x13 = x13 from shapeCast_id _ _, show k0_pay39 x14 = x14 from shapeCast_id _ _, show k0_pay40 x15 = x15 from shapeCast_id _ _]
  show k0_pay2 (rk9 x10 x11 x12 x13 x14 x15 (View.ld (slots (F := Ideal) x2 x4 x5 x6 x7 x8 x9 e) (inRect (s.val / 4))))
    (ix3 (⟨s.val % 4, Nat.mod_lt _ (by decide)⟩ : Fin 4) r j) = _
  pointwise [k0_pay2]
  refine (congrFun (rk_rows hD _ (⟨s.val % 4 * 128 + r.val, by omega⟩ : Fin 512) 9) j).trans ?_
  refine congrFun (congrArg _ (funext fun i => ?_)) j
  refine Eq.trans ?_ (slots_row hN hx he s i)
  refine congrArg (slots (F := Ideal) x2 x4 x5 x6 x7 x8 x9 e) (funext fun a => ?_)
  match a with
  | ⟨0, _⟩ =>
    refine Fin.ext ?_
    show 7680 - 512 * (15 - s.val / 4) + 1 * (s.val % 4 * 128 + r.val) = 128 * s.val + r.val
    omega
  | ⟨1, _⟩ =>
    refine Fin.ext ?_
    show 0 + 1 * i.val = i.val
    omega

/-- The stored rows of the first chunk: the last slot's row is the state after one step. -/
theorem outFirst_row (s : Fin 64) (j : Fin 32) :
    outFirst (F := Ideal) x2 x4 x5 x6 x7 x8 x9 e x10 x11 x12 x13 x14 x15 (ix3 s r j)
      = if s.val = 63 then N.state1 X h h' (k + 1) j else N.decode^[9] (N.state1 X h h' (k + (63 - s.val))) j := by
  show (if s.val = 63 then k0_pay3 (View.ld (slots (F := Ideal) x2 x4 x5 x6 x7 x8 x9 e) (rowRect 1)) (ix3 (0 : Fin 1) r j)
    else outLater (F := Ideal) x2 x4 x5 x6 x7 x8 x9 e x10 x11 x12 x13 x14 x15 (ix3 s r j)) = _
  split
  · pointwise [k0_pay3]
    exact slots_row hN hx he (62 : Fin 64) j
  · exact outLater_row hN hx he hD s j

end chunk

/-- The states that a row block starts from. -/
theorem first_row (x3 : FVec Ideal S2x32 .f32) (r : Fin 128) (j : Fin 32) :
    (first (F := Ideal) x3).1 (ix2 r j) = x3 (ix2 (0 : Fin 2) j) ∧ (first (F := Ideal) x3).2 (ix2 r j) = x3 (ix2 (1 : Fin 2) j) := by
  constructor
  · pointwise [first, k0_pay21]
  · pointwise [first, k0_pay22]

end Cert.Proof.KernelIdeal

end
-- ==== Proof.Value.Entry.lean ====
/-
  What the region finds: the arrays that the host lines before it make of the arguments, and each window's block of them.
-/
module

public import proofs.«01_k».proof.Proof.KernelIdeal.Run
public import proofs.«01_k».proof.Proof.Value.KernelRows

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.StableHlo

variable (m : (ℓ : Loc nD τ sig) → Buf (Elt Ideal) ℓ) (c : Dev nD)

/-! ## The arguments -/

/-- Argument 0, as launched. -/
abbrev arg0 : FVec Ideal S256x1024x64 .f32 := m ((c.tc : Thread nD τ).loc main_arg0)
/-- Argument 2, as launched. -/
abbrev arg2 : FVec Ideal S2x1x32 .f32 := m ((c.tc : Thread nD τ).loc main_arg2)
/-- Argument 3, as launched. -/
abbrev arg3 : FVec Ideal S32x64 .f32 := m ((c.tc : Thread nD τ).loc main_arg3)
/-- Argument 4, as launched. -/
abbrev arg4 : FVec Ideal S32x32 .f32 := m ((c.tc : Thread nD τ).loc main_arg4)
/-- Argument 5, as launched. -/
abbrev arg5 : FVec Ideal S32 .f32 := m ((c.tc : Thread nD τ).loc main_arg5)
/-- Argument 6, as launched. -/
abbrev arg6 : FVec Ideal S32 .f32 := m ((c.tc : Thread nD τ).loc main_arg6)
/-- Argument 7, as launched. -/
abbrev arg7 : FVec Ideal S32x32 .f32 := m ((c.tc : Thread nD τ).loc main_arg7)
/-- Argument 8, as launched. -/
abbrev arg8 : FVec Ideal S32x32 .f32 := m ((c.tc : Thread nD τ).loc main_arg8)
/-- Argument 9, as launched. -/
abbrev arg9 : FVec Ideal S32 .f32 := m ((c.tc : Thread nD τ).loc main_arg9)
/-- Argument 10, as launched. -/
abbrev arg10 : FVec Ideal S32 .f32 := m ((c.tc : Thread nD τ).loc main_arg10)
/-- Argument 11, as launched. -/
abbrev arg11 : FVec Ideal S128x32 .f32 := m ((c.tc : Thread nD τ).loc main_arg11)
/-- Argument 12, as launched. -/
abbrev arg12 : FVec Ideal S128 .f32 := m ((c.tc : Thread nD τ).loc main_arg12)
/-- Argument 13, as launched. -/
abbrev arg13 : FVec Ideal S128x128 .f32 := m ((c.tc : Thread nD τ).loc main_arg13)
/-- Argument 14, as launched. -/
abbrev arg14 : FVec Ideal S128 .f32 := m ((c.tc : Thread nD τ).loc main_arg14)
/-- Argument 15, as launched. -/
abbrev arg15 : FVec Ideal S32x128 .f32 := m ((c.tc : Thread nD τ).loc main_arg15)
/-- Argument 16, as launched. -/
abbrev arg16 : FVec Ideal S32 .f32 := m ((c.tc : Thread nD τ).loc main_arg16)

/-! ## The arrays that the region finds -/

theorem found0 : V m c main_v0 = (transpose S1024x256x64 [1, 0, 2] (arg0 m c) transposes_S256x1024x64_S1024x256x64_1_0_2 : FVec Ideal S1024x256x64 .f32) := by
  show after (List.flatten [hostOps0]) (fun b => m (c, b)) (Proc.devRef .tc main_v0) = _
  simp only [List.flatten_cons, List.flatten_nil, List.append_nil]
  after_results
theorem found1 : V m c main_v1 = (shapeCast S2x32 (arg2 m c) shapeCasts_S2x1x32_S2x32 : FVec Ideal S2x32 .f32) := by
  show after (List.flatten [hostOps0]) (fun b => m (c, b)) (Proc.devRef .tc main_v1) = _
  simp only [List.flatten_cons, List.flatten_nil, List.append_nil]
  after_results
  rfl
theorem found2 : V m c main_v2 = (transpose S64x32 [1, 0] (arg3 m c) transposes_S32x64_S64x32_1_0 : FVec Ideal S64x32 .f32) := by
  show after (List.flatten [hostOps0]) (fun b => m (c, b)) (Proc.devRef .tc main_v2) = _
  simp only [List.flatten_cons, List.flatten_nil, List.append_nil]
  after_results
theorem found3 : V m c main_v3 = (transpose S32x32 [1, 0] (arg4 m c) transposes_S32x32_S32x32_1_0 : FVec Ideal S32x32 .f32) := by
  show after (List.flatten [hostOps0]) (fun b => m (c, b)) (Proc.devRef .tc main_v3) = _
  simp only [List.flatten_cons, List.flatten_nil, List.append_nil]
  after_results
theorem found5 : V m c main_v5 = (shapeCast S1x32 (addf (arg5 m c) (arg6 m c)) shapeCasts_S32_S1x32 : FVec Ideal S1x32 .f32) := by
  show after (List.flatten [hostOps0]) (fun b => m (c, b)) (Proc.devRef .tc main_v5) = _
  simp only [List.flatten_cons, List.flatten_nil, List.append_nil]
  after_results
  rfl
theorem found6 : V m c main_v6 = (transpose S32x32 [1, 0] (arg7 m c) transposes_S32x32_S32x32_1_0 : FVec Ideal S32x32 .f32) := by
  show after (List.flatten [hostOps0]) (fun b => m (c, b)) (Proc.devRef .tc main_v6) = _
  simp only [List.flatten_cons, List.flatten_nil, List.append_nil]
  after_results
theorem found7 : V m c main_v7 = (transpose S32x32 [1, 0] (arg8 m c) transposes_S32x32_S32x32_1_0 : FVec Ideal S32x32 .f32) := by
  show after (List.flatten [hostOps0]) (fun b => m (c, b)) (Proc.devRef .tc main_v7) = _
  simp only [List.flatten_cons, List.flatten_nil, List.append_nil]
  after_results
theorem found9 : V m c main_v9 = (shapeCast S1x32 (addf (arg9 m c) (arg10 m c)) shapeCasts_S32_S1x32 : FVec Ideal S1x32 .f32) := by
  show after (List.flatten [hostOps0]) (fun b => m (c, b)) (Proc.devRef .tc main_v9) = _
  simp only [List.flatten_cons, List.flatten_nil, List.append_nil]
  after_results
  rfl
theorem found10 : V m c main_v10 = (transpose S32x128 [1, 0] (arg11 m c) transposes_S128x32_S32x128_1_0 : FVec Ideal S32x128 .f32) := by
  show after (List.flatten [hostOps0]) (fun b => m (c, b)) (Proc.devRef .tc main_v10) = _
  simp only [List.flatten_cons, List.flatten_nil, List.append_nil]
  after_results
theorem found11 : V m c main_v11 = (shapeCast S1x128 (arg12 m c) shapeCasts_S128_S1x128 : FVec Ideal S1x128 .f32) := by
  show after (List.flatten [hostOps0]) (fun b => m (c, b)) (Proc.devRef .tc main_v11) = _
  simp only [List.flatten_cons, List.flatten_nil, List.append_nil]
  after_results
  rfl
theorem found12 : V m c main_v12 = (transpose S128x128 [1, 0] (arg13 m c) transposes_S128x128_S128x128_1_0 : FVec Ideal S128x128 .f32) := by
  show after (List.flatten [hostOps0]) (fun b => m (c, b)) (Proc.devRef .tc main_v12) = _
  simp only [List.flatten_cons, List.flatten_nil, List.append_nil]
  after_results
theorem found13 : V m c main_v13 = (shapeCast S1x128 (arg14 m c) shapeCasts_S128_S1x128 : FVec Ideal S1x128 .f32) := by
  show after (List.flatten [hostOps0]) (fun b => m (c, b)) (Proc.devRef .tc main_v13) = _
  simp only [List.flatten_cons, List.flatten_nil, List.append_nil]
  after_results
  rfl
theorem found14 : V m c main_v14 = (transpose S128x32 [1, 0] (arg15 m c) transposes_S32x128_S128x32_1_0 : FVec Ideal S128x32 .f32) := by
  show after (List.flatten [hostOps0]) (fun b => m (c, b)) (Proc.devRef .tc main_v14) = _
  simp only [List.flatten_cons, List.flatten_nil, List.append_nil]
  after_results
theorem found15 : V m c main_v15 = (shapeCast S1x32 (arg16 m c) shapeCasts_S32_S1x32 : FVec Ideal S1x32 .f32) := by
  show after (List.flatten [hostOps0]) (fun b => m (c, b)) (Proc.devRef .tc main_v15) = _
  simp only [List.flatten_cons, List.flatten_nil, List.append_nil]
  after_results
  rfl

/-! ## The blocks -/

/-- The block of the inputs at point `t`: chunk `t % 16`, counted from the last, of row block `t / 16`. -/
theorem index0 : ∀ t : Fin cfg0.N, win0_0.index t = ![15 - t.val % 16, t.val / 16, 0] := (by decide +kernel : ∀ t : Fin grid0.N, _)

/-! Every other operand's block is its whole array. -/

theorem index1 : ∀ t : Fin cfg0.N, win0_1.index t = ![0, 0] := (by decide +kernel : ∀ t : Fin grid0.N, _)
theorem block1 (t : Fin cfg0.N) (a : Fin 2) (b : Fin 32) : blk1 m c t (ix2 a b) = arg2 m c (ix3 a (0 : Fin 1) b) := by
  show V m c main_v1 (((cfg0.win 1).blk t).view.emb (ix2 a b)) = _
  have e : ((cfg0.win 1).blk t).view.emb (ix2 a b) = ix2 a b := by
    funext x
    refine Fin.ext ?_
    match x with
    | ⟨0, _⟩ =>
      show win0_1.index t (0 : Fin 2) * 2 + 1 * a.val = a.val
      rw [index1]
      show 0 * 2 + 1 * a.val = a.val
      omega
    | ⟨1, _⟩ =>
      show win0_1.index t (1 : Fin 2) * 32 + 1 * b.val = b.val
      rw [index1]
      show 0 * 32 + 1 * b.val = b.val
      omega
  rw [e, found1]
  pointwise
theorem index2 : ∀ t : Fin cfg0.N, win0_2.index t = ![0, 0] := (by decide +kernel : ∀ t : Fin grid0.N, _)
theorem block2 (t : Fin cfg0.N) (a : Fin 64) (b : Fin 32) : blk2 m c t (ix2 a b) = arg3 m c (ix2 b a) := by
  show V m c main_v2 (((cfg0.win 2).blk t).view.emb (ix2 a b)) = _
  have e : ((cfg0.win 2).blk t).view.emb (ix2 a b) = ix2 a b := by
    funext x
    refine Fin.ext ?_
    match x with
    | ⟨0, _⟩ =>
      show win0_2.index t (0 : Fin 2) * 64 + 1 * a.val = a.val
      rw [index2]
      show 0 * 64 + 1 * a.val = a.val
      omega
    | ⟨1, _⟩ =>
      show win0_2.index t (1 : Fin 2) * 32 + 1 * b.val = b.val
      rw [index2]
      show 0 * 32 + 1 * b.val = b.val
      omega
  rw [e, found2]
  pointwise
theorem index3 : ∀ t : Fin cfg0.N, win0_3.index t = ![0, 0] := (by decide +kernel : ∀ t : Fin grid0.N, _)
theorem block3 (t : Fin cfg0.N) (a : Fin 32) (b : Fin 32) : blk3 m c t (ix2 a b) = arg4 m c (ix2 b a) := by
  show V m c main_v3 (((cfg0.win 3).blk t).view.emb (ix2 a b)) = _
  have e : ((cfg0.win 3).blk t).view.emb (ix2 a b) = ix2 a b := by
    funext x
    refine Fin.ext ?_
    match x with
    | ⟨0, _⟩ =>
      show win0_3.index t (0 : Fin 2) * 32 + 1 * a.val = a.val
      rw [index3]
      show 0 * 32 + 1 * a.val = a.val
      omega
    | ⟨1, _⟩ =>
      show win0_3.index t (1 : Fin 2) * 32 + 1 * b.val = b.val
      rw [index3]
      show 0 * 32 + 1 * b.val = b.val
      omega
  rw [e, found3]
  pointwise
theorem index4 : ∀ t : Fin cfg0.N, win0_4.index t = ![0, 0] := (by decide +kernel : ∀ t : Fin grid0.N, _)
theorem block4 (t : Fin cfg0.N) (a : Fin 1) (b : Fin 32) : blk4 m c t (ix2 a b) = arg5 m c (ix1 b) + arg6 m c (ix1 b) := by
  show V m c main_v5 (((cfg0.win 4).blk t).view.emb (ix2 a b)) = _
  have e : ((cfg0.win 4).blk t).view.emb (ix2 a b) = ix2 a b := by
    funext x
    refine Fin.ext ?_
    match x with
    | ⟨0, _⟩ =>
      show win0_4.index t (0 : Fin 2) * 1 + 1 * a.val = a.val
      rw [index4]
      show 0 * 1 + 1 * a.val = a.val
      omega
    | ⟨1, _⟩ =>
      show win0_4.index t (1 : Fin 2) * 32 + 1 * b.val = b.val
      rw [index4]
      show 0 * 32 + 1 * b.val = b.val
      omega
  rw [e, found5]
  pointwise
theorem index5 : ∀ t : Fin cfg0.N, win0_5.index t = ![0, 0] := (by decide +kernel : ∀ t : Fin grid0.N, _)
theorem block5 (t : Fin cfg0.N) (a : Fin 32) (b : Fin 32) : blk5 m c t (ix2 a b) = arg7 m c (ix2 b a) := by
  show V m c main_v6 (((cfg0.win 5).blk t).view.emb (ix2 a b)) = _
  have e : ((cfg0.win 5).blk t).view.emb (ix2 a b) = ix2 a b := by
    funext x
    refine Fin.ext ?_
    match x with
    | ⟨0, _⟩ =>
      show win0_5.index t (0 : Fin 2) * 32 + 1 * a.val = a.val
      rw [index5]
      show 0 * 32 + 1 * a.val = a.val
      omega
    | ⟨1, _⟩ =>
      show win0_5.index t (1 : Fin 2) * 32 + 1 * b.val = b.val
      rw [index5]
      show 0 * 32 + 1 * b.val = b.val
      omega
  rw [e, found6]
  pointwise
theorem index6 : ∀ t : Fin cfg0.N, win0_6.index t = ![0, 0] := (by decide +kernel : ∀ t : Fin grid0.N, _)
theorem block6 (t : Fin cfg0.N) (a : Fin 32) (b : Fin 32) : blk6 m c t (ix2 a b) = arg8 m c (ix2 b a) := by
  show V m c main_v7 (((cfg0.win 6).blk t).view.emb (ix2 a b)) = _
  have e : ((cfg0.win 6).blk t).view.emb (ix2 a b) = ix2 a b := by
    funext x
    refine Fin.ext ?_
    match x with
    | ⟨0, _⟩ =>
      show win0_6.index t (0 : Fin 2) * 32 + 1 * a.val = a.val
      rw [index6]
      show 0 * 32 + 1 * a.val = a.val
      omega
    | ⟨1, _⟩ =>
      show win0_6.index t (1 : Fin 2) * 32 + 1 * b.val = b.val
      rw [index6]
      show 0 * 32 + 1 * b.val = b.val
      omega
  rw [e, found7]
  pointwise
theorem index7 : ∀ t : Fin cfg0.N, win0_7.index t = ![0, 0] := (by decide +kernel : ∀ t : Fin grid0.N, _)
theorem block7 (t : Fin cfg0.N) (a : Fin 1) (b : Fin 32) : blk7 m c t (ix2 a b) = arg9 m c (ix1 b) + arg10 m c (ix1 b) := by
  show V m c main_v9 (((cfg0.win 7).blk t).view.emb (ix2 a b)) = _
  have e : ((cfg0.win 7).blk t).view.emb (ix2 a b) = ix2 a b := by
    funext x
    refine Fin.ext ?_
    match x with
    | ⟨0, _⟩ =>
      show win0_7.index t (0 : Fin 2) * 1 + 1 * a.val = a.val
      rw [index7]
      show 0 * 1 + 1 * a.val = a.val
      omega
    | ⟨1, _⟩ =>
      show win0_7.index t (1 : Fin 2) * 32 + 1 * b.val = b.val
      rw [index7]
      show 0 * 32 + 1 * b.val = b.val
      omega
  rw [e, found9]
  pointwise
theorem index8 : ∀ t : Fin cfg0.N, win0_8.index t = ![0, 0] := (by decide +kernel : ∀ t : Fin grid0.N, _)
theorem block8 (t : Fin cfg0.N) (a : Fin 32) (b : Fin 128) : blk8 m c t (ix2 a b) = arg11 m c (ix2 b a) := by
  show V m c main_v10 (((cfg0.win 8).blk t).view.emb (ix2 a b)) = _
  have e : ((cfg0.win 8).blk t).view.emb (ix2 a b) = ix2 a b := by
    funext x
    refine Fin.ext ?_
    match x with
    | ⟨0, _⟩ =>
      show win0_8.index t (0 : Fin 2) * 32 + 1 * a.val = a.val
      rw [index8]
      show 0 * 32 + 1 * a.val = a.val
      omega
    | ⟨1, _⟩ =>
      show win0_8.index t (1 : Fin 2) * 128 + 1 * b.val = b.val
      rw [index8]
      show 0 * 128 + 1 * b.val = b.val
      omega
  rw [e, found10]
  pointwise
theorem index9 : ∀ t : Fin cfg0.N, win0_9.index t = ![0, 0] := (by decide +kernel : ∀ t : Fin grid0.N, _)
theorem block9 (t : Fin cfg0.N) (a : Fin 1) (b : Fin 128) : blk9 m c t (ix2 a b) = arg12 m c (ix1 b) := by
  show V m c main_v11 (((cfg0.win 9).blk t).view.emb (ix2 a b)) = _
  have e : ((cfg0.win 9).blk t).view.emb (ix2 a b) = ix2 a b := by
    funext x
    refine Fin.ext ?_
    match x with
    | ⟨0, _⟩ =>
      show win0_9.index t (0 : Fin 2) * 1 + 1 * a.val = a.val
      rw [index9]
      show 0 * 1 + 1 * a.val = a.val
      omega
    | ⟨1, _⟩ =>
      show win0_9.index t (1 : Fin 2) * 128 + 1 * b.val = b.val
      rw [index9]
      show 0 * 128 + 1 * b.val = b.val
      omega
  rw [e, found11]
  pointwise
theorem index10 : ∀ t : Fin cfg0.N, win0_10.index t = ![0, 0] := (by decide +kernel : ∀ t : Fin grid0.N, _)
theorem block10 (t : Fin cfg0.N) (a : Fin 128) (b : Fin 128) : blk10 m c t (ix2 a b) = arg13 m c (ix2 b a) := by
  show V m c main_v12 (((cfg0.win 10).blk t).view.emb (ix2 a b)) = _
  have e : ((cfg0.win 10).blk t).view.emb (ix2 a b) = ix2 a b := by
    funext x
    refine Fin.ext ?_
    match x with
    | ⟨0, _⟩ =>
      show win0_10.index t (0 : Fin 2) * 128 + 1 * a.val = a.val
      rw [index10]
      show 0 * 128 + 1 * a.val = a.val
      omega
    | ⟨1, _⟩ =>
      show win0_10.index t (1 : Fin 2) * 128 + 1 * b.val = b.val
      rw [index10]
      show 0 * 128 + 1 * b.val = b.val
      omega
  rw [e, found12]
  pointwise
theorem index11 : ∀ t : Fin cfg0.N, win0_11.index t = ![0, 0] := (by decide +kernel : ∀ t : Fin grid0.N, _)
theorem block11 (t : Fin cfg0.N) (a : Fin 1) (b : Fin 128) : blk11 m c t (ix2 a b) = arg14 m c (ix1 b) := by
  show V m c main_v13 (((cfg0.win 11).blk t).view.emb (ix2 a b)) = _
  have e : ((cfg0.win 11).blk t).view.emb (ix2 a b) = ix2 a b := by
    funext x
    refine Fin.ext ?_
    match x with
    | ⟨0, _⟩ =>
      show win0_11.index t (0 : Fin 2) * 1 + 1 * a.val = a.val
      rw [index11]
      show 0 * 1 + 1 * a.val = a.val
      omega
    | ⟨1, _⟩ =>
      show win0_11.index t (1 : Fin 2) * 128 + 1 * b.val = b.val
      rw [index11]
      show 0 * 128 + 1 * b.val = b.val
      omega
  rw [e, found13]
  pointwise
theorem index12 : ∀ t : Fin cfg0.N, win0_12.index t = ![0, 0] := (by decide +kernel : ∀ t : Fin grid0.N, _)
theorem block12 (t : Fin cfg0.N) (a : Fin 128) (b : Fin 32) : blk12 m c t (ix2 a b) = arg15 m c (ix2 b a) := by
  show V m c main_v14 (((cfg0.win 12).blk t).view.emb (ix2 a b)) = _
  have e : ((cfg0.win 12).blk t).view.emb (ix2 a b) = ix2 a b := by
    funext x
    refine Fin.ext ?_
    match x with
    | ⟨0, _⟩ =>
      show win0_12.index t (0 : Fin 2) * 128 + 1 * a.val = a.val
      rw [index12]
      show 0 * 128 + 1 * a.val = a.val
      omega
    | ⟨1, _⟩ =>
      show win0_12.index t (1 : Fin 2) * 32 + 1 * b.val = b.val
      rw [index12]
      show 0 * 32 + 1 * b.val = b.val
      omega
  rw [e, found14]
  pointwise
theorem index13 : ∀ t : Fin cfg0.N, win0_13.index t = ![0, 0] := (by decide +kernel : ∀ t : Fin grid0.N, _)
theorem block13 (t : Fin cfg0.N) (a : Fin 1) (b : Fin 32) : blk13 m c t (ix2 a b) = arg16 m c (ix1 b) := by
  show V m c main_v15 (((cfg0.win 13).blk t).view.emb (ix2 a b)) = _
  have e : ((cfg0.win 13).blk t).view.emb (ix2 a b) = ix2 a b := by
    funext x
    refine Fin.ext ?_
    match x with
    | ⟨0, _⟩ =>
      show win0_13.index t (0 : Fin 2) * 1 + 1 * a.val = a.val
      rw [index13]
      show 0 * 1 + 1 * a.val = a.val
      omega
    | ⟨1, _⟩ =>
      show win0_13.index t (1 : Fin 2) * 32 + 1 * b.val = b.val
      rw [index13]
      show 0 * 32 + 1 * b.val = b.val
      omega
  rw [e, found15]
  pointwise

/-- A row of the inputs' block. -/
theorem block0 (t : Fin cfg0.N) (s : Fin 64) (r : Fin 128) (i : Fin 64) : blk0 m c t (ix3 s r i)
    = arg0 m c (ix3 (⟨128 * (t.val / 16) + r.val, by have := t.isLt; have : cfg0.N = 32 := N_0; omega⟩ : Fin 256)
        (⟨1023 - (64 * (t.val % 16) + (63 - s.val)), by omega⟩ : Fin 1024) i) := by
  show V m c main_v0 (((cfg0.win 0).blk t).view.emb (ix3 s r i)) = _
  have hN : t.val < 32 := lt_of_lt_of_eq t.isLt N_0
  have e : ((cfg0.win 0).blk t).view.emb (ix3 s r i) = ix3 (⟨1023 - (64 * (t.val % 16) + (63 - s.val)), by omega⟩ : Fin 1024)
      (⟨128 * (t.val / 16) + r.val, by omega⟩ : Fin 256) i := by
    funext x
    refine Fin.ext ?_
    match x with
    | ⟨0, _⟩ =>
      show win0_0.index t (0 : Fin 3) * 64 + 1 * s.val = 1023 - (64 * (t.val % 16) + (63 - s.val))
      rw [index0]
      show (15 - t.val % 16) * 64 + 1 * s.val = 1023 - (64 * (t.val % 16) + (63 - s.val))
      omega
    | ⟨1, _⟩ =>
      show win0_0.index t (1 : Fin 3) * 128 + 1 * r.val = 128 * (t.val / 16) + r.val
      rw [index0]
      show t.val / 16 * 128 + 1 * r.val = 128 * (t.val / 16) + r.val
      omega
    | ⟨2, _⟩ =>
      show win0_0.index t (2 : Fin 3) * 64 + 1 * i.val = i.val
      rw [index0]
      show 0 * 64 + 1 * i.val = i.val
      omega
  rw [e, found0]
  pointwise

/-! ## The network that the blocks hold -/

/-- The weights as launched. -/
abbrev network : Value.Net := Value.net (arg3 m c) (arg4 m c) (arg5 m c) (arg6 m c) (arg7 m c) (arg8 m c) (arg9 m c) (arg10 m c) (arg11 m c) (arg12 m c)
  (arg13 m c) (arg14 m c) (arg15 m c) (arg16 m c)

theorem layers (t : Fin cfg0.N) : Layers (blk2 m c t) (blk3 m c t) (blk4 m c t) (blk5 m c t) (blk6 m c t) (blk7 m c t) (network m c) where
  wi0 i j := block2 m c t i j
  wh0 i j := block3 m c t i j
  b0 j := block4 m c t 0 j
  wi1 i j := block5 m c t i j
  wh1 i j := block6 m c t i j
  b1 j := block7 m c t 0 j

theorem decodes (t : Fin cfg0.N) : Decodes (blk8 m c t) (blk9 m c t) (blk10 m c t) (blk11 m c t) (blk12 m c t) (blk13 m c t) (network m c) where
  w0 i j := block8 m c t i j
  b0 j := block9 m c t 0 j
  w1 i j := block10 m c t i j
  b1 j := block11 m c t 0 j
  w2 i j := block12 m c t i j
  b2 j := block13 m c t 0 j

end Cert.Proof.KernelIdeal

end
-- ==== Proof.Value.Kernel.lean ====
/-
  The kernel's result: the states carried from chunk to chunk are the network's, so each stored block is a block of the
  network's result, and the array that the last host line turns is the whole of it.
-/
module

public import proofs.«01_k».proof.Proof.Value.Entry
public import Idealize.ShloMosaic.Lib.Pipeline.ValueKit.Geometry

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.StableHlo
open Idealize.SL.Sem
open Cert.Proof.Value (Row Net)

variable (m : (ℓ : Loc nD τ sig) → Buf (Elt Ideal) ℓ) (ρ : Dev nD → PrngReg) (c : Dev nD)

/-- There are 32 points. -/
theorem point_lt (t : Fin cfg0.N) : t.val < 32 := lt_of_lt_of_eq t.isLt N_0

/-- The batch row of row `r` of the block of point `t`. -/
abbrev batch (t : Fin cfg0.N) (r : Fin 128) : Fin 256 := ⟨128 * (t.val / 16) + r.val, by have := point_lt t; omega⟩

/-- The network's inputs and initial states. -/
abbrev seq (t : Fin cfg0.N) (r : Fin 128) : ℕ → Row 64 := Value.inputs (arg0 m c) (batch t r)
abbrev init0 : Row 32 := fun j => arg2 m c (ix3 (0 : Fin 2) (0 : Fin 1) j)
abbrev init1 : Row 32 := fun j => arg2 m c (ix3 (1 : Fin 2) (0 : Fin 1) j)

/-- A row of two states holds the network's states after `k` steps. -/
def Holds (e : FVec Ideal S128x32 .f32 × FVec Ideal S128x32 .f32) (t : Fin cfg0.N) (r : Fin 128) (k : ℕ) : Prop :=
  (∀ j, e.1 (ix2 r j) = (network m c).state0 (seq m c t r) (init0 m c) k j)
    ∧ ∀ j, e.2 (ix2 r j) = (network m c).state1 (seq m c t r) (init0 m c) (init1 m c) k j

/-- A row block starts from the initial states. -/
theorem first_holds (t : Fin cfg0.N) (r : Fin 128) : Holds m c (first (blk1 m c t)) t r 0 :=
  ⟨fun j => (first_row _ r j).1.trans (block1 m c t 0 j), fun j => (first_row _ r j).2.trans (block1 m c t 1 j)⟩

/-- The inputs of a chunk, slot by slot. -/
theorem block_seq (t : Fin cfg0.N) (r : Fin 128) (s i : Fin 64) : blk0 m c t (ix3 s r i) = seq m c t r (64 * (t.val % 16) + (63 - s.val)) i :=
  block0 m c t s r i

/-- A chunk takes the states 64 steps on. -/
theorem advance_holds (t : Fin cfg0.N) (r : Fin 128) (e : FVec Ideal S128x32 .f32 × FVec Ideal S128x32 .f32)
    (he : Holds m c e t r (64 * (t.val % 16))) : Holds m c (advance m c t e) t r (64 * (t.val % 16) + 64) :=
  states_row (layers m c t) (block_seq m c t r) he 64 (le_refl _)

/-- The states after each point. -/
theorem carried_holds (r : Fin 128) : ∀ (n : ℕ) (h : n < cfg0.N), Holds m c (carried m c n h) ⟨n, h⟩ r (64 * (n % 16) + 64)
  | 0, h => advance_holds m c ⟨0, h⟩ r _ (first_holds m c ⟨0, h⟩ r)
  | n + 1, h => by
    refine advance_holds m c ⟨n + 1, h⟩ r _ ?_
    show Holds m c (if (n + 1) % 16 = 0 then first (blk1 m c ⟨n + 1, h⟩) else carried m c n (Nat.lt_of_succ_lt h)) ⟨n + 1, h⟩ r (64 * ((n + 1) % 16))
    split
    · rename_i h0
      rw [h0]
      exact first_holds m c ⟨n + 1, h⟩ r
    · have i := carried_holds r n (Nat.lt_of_succ_lt h)
      have e1 : 64 * ((n + 1) % 16) = 64 * (n % 16) + 64 := by omega
      have e2 : batch ⟨n + 1, h⟩ r = batch ⟨n, Nat.lt_of_succ_lt h⟩ r := Fin.ext (by show 128 * ((n + 1) / 16) + r.val = 128 * (n / 16) + r.val; omega)
      unfold Holds seq at i ⊢
      rw [e1, e2]
      exact i

/-- The states before each point. -/
theorem entering_holds (t : Fin cfg0.N) (r : Fin 128) : Holds m c (entering m c t) t r (64 * (t.val % 16)) := by
  unfold entering
  split
  · rename_i h0
    rw [h0]
    exact first_holds m c t r
  · have i := carried_holds m c r (t.val - 1) (Nat.lt_of_le_of_lt (Nat.sub_le _ _) t.isLt)
    have e1 : 64 * (t.val % 16) = 64 * ((t.val - 1) % 16) + 64 := by omega
    have e2 : batch t r = batch ⟨t.val - 1, Nat.lt_of_le_of_lt (Nat.sub_le _ _) t.isLt⟩ r :=
      Fin.ext (by show 128 * (t.val / 16) + r.val = 128 * ((t.val - 1) / 16) + r.val; omega)
    unfold Holds seq at i ⊢
    rw [e1, e2]
    exact i

/-- The result of the network on the launched arguments. -/
abbrev answer : FVec Ideal S256x1024x32 .f32 := Value.result (arg0 m c) (arg2 m c) (network m c)

/-- Each point stores its block of the result. -/
theorem stored_row (t : Fin cfg0.N) (s : Fin 64) (r : Fin 128) (j : Fin 32) : stored m c t (ix3 s r j)
    = answer m c (ix3 (batch t r) (⟨64 * (15 - t.val % 16) + s.val, by omega⟩ : Fin 1024) j) := by
  show _ = (network m c).out (seq m c t r) (init0 m c) (init1 m c) (64 * (15 - t.val % 16) + s.val) j
  have e : s.val ≤ 63 := by omega
  unfold stored Net.out
  split
  · rename_i h0
    refine (outFirst_row (layers m c t) (block_seq m c t r) (entering_holds m c t r) (decodes m c t) s j).trans ?_
    rw [h0]
    split
    · rename_i h1
      rw [h1, if_neg (by omega)]
    · rw [if_pos (by omega)]
      have e1 : 64 * 0 + (63 - s.val) = 1023 - (64 * (15 - 0) + s.val) := by omega
      rw [e1]
  · rename_i h0
    refine (outLater_row (layers m c t) (block_seq m c t r) (entering_holds m c t r) (decodes m c t) s j).trans ?_
    rw [if_pos (by omega)]
    have e1 : 64 * (t.val % 16) + (63 - s.val) = 1023 - (64 * (15 - t.val % 16) + s.val) := by omega
    rw [e1]

/-! ## The array that the points leave -/

/-- The result with its time axis first. -/
def timed : FVec Ideal S1024x256x32 .f32 := fun y =>
  answer m c (ix3 (⟨(y 1).val, (y 1).isLt⟩ : Fin 256) (⟨(y 0).val, (y 0).isLt⟩ : Fin 1024) (⟨(y 2).val, (y 2).isLt⟩ : Fin 32))

/-- Where the result's block lies at each point: the chunks run backwards in time. -/
theorem index14 : ∀ t : Fin cfg0.N, win0_14.index t = ![15 - t.val % 16, t.val / 16, 0] := (by decide +kernel : ∀ t : Fin grid0.N, _)

/-- The place of an entry of the block of point `t`. -/
theorem place14 (t : Fin cfg0.N) (s : Fin 64) (r : Fin 128) (j : Fin 32) : ((cfg0.win 14).blk t).view.emb (ix3 s r j)
    = (ix3 (⟨64 * (15 - t.val % 16) + s.val, by omega⟩ : Fin 1024) (batch t r) j : S1024x256x32.Idx) := by
  funext x
  refine Fin.ext ?_
  match x with
  | ⟨0, _⟩ => show win0_14.index t (0 : Fin 3) * 64 + 1 * s.val = 64 * (15 - t.val % 16) + s.val; rw [index14]; show (15 - t.val % 16) * 64 + 1 * s.val = _; omega
  | ⟨1, _⟩ => show win0_14.index t (1 : Fin 3) * 128 + 1 * r.val = 128 * (t.val / 16) + r.val; rw [index14]; show t.val / 16 * 128 + 1 * r.val = _; omega
  | ⟨2, _⟩ => show win0_14.index t (2 : Fin 3) * 32 + 1 * j.val = j.val; rw [index14]; show 0 * 32 + 1 * j.val = _; omega

/-- Each point stores its block of the result. -/
theorem stored_place (t : Fin cfg0.N) (y : S64x128x32.Idx) : stored m c t y = timed m c (((cfg0.win 14).blk t).view.emb y) := by
  idx_vars y
  rw [place14]
  exact stored_row m c t _ _ _

/-- The array after all the points is the result. -/
theorem left_eq : (dats m 0 c).arrAt 14 cfg0.N = timed m c :=
  (dats m 0 c).arrAt_eq_of_covers 14 (timed m c) (by decide +kernel) fun t hf y => by
    rw [after0_14]
    exact stored_place m c t y

/-! ## The last host line -/

/-- The last host line turns the array into the result. -/
theorem tail_eq : Pipeline.afterTail₀ cfgs (dats m) 0 (V0 m) [hostOps1] c main_v17 = answer m c := by
  have e : Pipeline.withArrays (cfgs 0).spec c (V0 m c) (fun w => (dats m 0 c).arrAt w (cfgs 0).N) (Proc.devRef .tc main_v16) = timed m c :=
    (Pipeline.withArrays_arr _ launch0.win.arr_inj c _ _ 14).trans (left_eq m c)
  unfold Pipeline.afterTail₀
  simp only [hostOps1, List.flatten_cons, List.flatten_nil, List.append_nil]
  after_results
  refine (congrArg (fun x => transpose S256x1024x32 [1, 0, 2] x transposes_S1024x256x32_S256x1024x32_1_0_2) e).trans ?_
  funext y
  idx_vars y
  pointwise [timed]

end Cert.Proof.KernelIdeal

end
-- ==== Proof.Reference.Value.lean ====
/-
  What the reference computes, as whole arrays: each stretch's result over the contents before it, then one trip of each
  loop, then what the loops carry in and out.
-/
module

public import proofs.«01_k».proof.Proof.Reference.Run

@[expose] public section

set_option maxRecDepth 16384

noncomputable section

namespace Cert.Proof.Reference

open Idealize.ShloMosaic Idealize.ShloMosaic.TcCoe Idealize.ShloMosaic.Tactic
open Idealize.ShloMosaic.StableHlo
open Cert.ReferenceIdeal Cert.ReferenceIdeal.Gen

variable {F : FTy → Type} [FloatOps F]

/-! ## The pieces -/

/-- The first layer's input part at every step: time leads. -/
def projX (x : FVec F S256x1024x64 .f32) (w : FVec F S32x64 .f32) (b : FVec F S32 .f32) : FVec F S1024x256x32 .f32 :=
  transpose S1024x256x32 [1, 0, 2] (addf (Host.dotGeneral dot_S256x1024x64_S32x64_S256x1024x32_2_1_01_0_n_n none x w)
    (broadcastInDim S256x1024x32 ![0, 1, 2] bcast_S1x1x32_S256x1024x32_0_1_2 (broadcastInDim S1x1x32 ![2] bcast_S32_S1x1x32_2 b)))
    transposes_S256x1024x32_S1024x256x32_1_0_2

/-- The second layer's, of the first layer's states (time leading on both sides). -/
def projH (s : FVec F S1024x256x32 .f32) (w : FVec F S32x32 .f32) (b : FVec F S32 .f32) : FVec F S1024x256x32 .f32 :=
  transpose S1024x256x32 [1, 0, 2] (addf (Host.dotGeneral dot_S256x1024x32_S32x32_S256x1024x32_2_1_01_0_n_n none
      (transpose S256x1024x32 [1, 0, 2] s transposes_S1024x256x32_S256x1024x32_1_0_2) w)
    (broadcastInDim S256x1024x32 ![0, 1, 2] bcast_S1x1x32_S256x1024x32_0_1_2 (broadcastInDim S1x1x32 ![2] bcast_S32_S1x1x32_2 b)))
    transposes_S256x1024x32_S1024x256x32_1_0_2

/-- The initial state of both layers on every row. -/
def spread (h : FVec F S2x1x32 .f32) : FVec F S2x256x32 .f32 := broadcastInDim S2x256x32 ![0, 1, 2] bcast_S2x1x32_S2x256x32_0_1_2 h

/-- The start of the first layer, and of the second. -/
def start0 (h : FVec F S2x256x32 .f32) : FVec F S256x32 .f32 :=
  shapeCast S256x32 (extractStridedSlice S1x256x32 ![0, 0, 0] h slices_S2x256x32_S1x256x32_0_0_0) shapeCasts_S1x256x32_S256x32
def start1 (h : FVec F S2x256x32 .f32) : FVec F S256x32 .f32 :=
  shapeCast S256x32 (extractStridedSlice S1x256x32 ![1, 0, 0] h slices_S2x256x32_S1x256x32_1_0_0) shapeCasts_S1x256x32_S256x32

/-- Nothing scanned yet. -/
def blank : FVec F S1024x256x32 .f32 := broadcastInDim S1024x256x32 ![] bcast_S_S1024x256x32 (constant S_ .f32 0x00000000#32)

/-- The three start words of a slice along time. -/
def at3 (k : IVec S_ 32) : Fin 3 → ℤ := fun a => ((![k, constantI S_ 32 0#32, constantI S_ 32 0#32] : Fin 3 → IVec S_ 32) a (Shape.Idx.first h_S_)).toInt

/-- The rows of one step. -/
def sliceAt (x : FVec F S1024x256x32 .f32) (k : IVec S_ 32) : FVec F S256x32 .f32 :=
  shapeCast S256x32 (Host.dynamicSlice S1x256x32 x (at3 k) sliceFits_S1024x256x32_S1x256x32) shapeCasts_S1x256x32_S256x32

/-- The rows of one step put in their place. -/
def putAt (o : FVec F S1024x256x32 .f32) (h : FVec F S256x32 .f32) (k : IVec S_ 32) : FVec F S1024x256x32 .f32 :=
  Host.dynamicUpdateSlice o (broadcastInDim S1x256x32 ![1, 2] bcast_S256x32_S1x256x32_1_2 h) (at3 k) updateFits_S1024x256x32_S1x256x32

/-- One step of a layer on every row. -/
def cellR (p h : FVec F S256x32 .f32) (w : FVec F S32x32 .f32) (b : FVec F S32 .f32) : FVec F S256x32 .f32 :=
  Host.tanh (addf (addf p (Host.dotGeneral dot_S256x32_S32x32_S256x32_1_0_0_1_n_n none h (transpose S32x32 [1, 0] w transposes_S32x32_S32x32_1_0)))
    (broadcastInDim S256x32 ![0, 1] bcast_S1x32_S256x32_0_1 (broadcastInDim S1x32 ![1] bcast_S32_S1x32_1 b)))

/-- The three affine maps of the field. -/
def lin0 (w : FVec F S128x32 .f32) (b : FVec F S128 .f32) (y : FVec F S256x1023x32 .f32) : FVec F S256x1023x128 .f32 :=
  addf (Host.dotGeneral dot_S256x1023x32_S32x128_S256x1023x128_2_0_01_1_n_n none y (transpose S32x128 [1, 0] w transposes_S128x32_S32x128_1_0))
    (broadcastInDim S256x1023x128 ![0, 1, 2] bcast_S1x1x128_S256x1023x128_0_1_2 (broadcastInDim S1x1x128 ![2] bcast_S128_S1x1x128_2 b))
def lin1 (w : FVec F S128x128 .f32) (b : FVec F S128 .f32) (y : FVec F S256x1023x128 .f32) : FVec F S256x1023x128 .f32 :=
  addf (Host.dotGeneral dot_S256x1023x128_S128x128_S256x1023x128_2_0_01_1_n_n none y (transpose S128x128 [1, 0] w transposes_S128x128_S128x128_1_0))
    (broadcastInDim S256x1023x128 ![0, 1, 2] bcast_S1x1x128_S256x1023x128_0_1_2 (broadcastInDim S1x1x128 ![2] bcast_S128_S1x1x128_2 b))
def lin2 (w : FVec F S32x128 .f32) (b : FVec F S32 .f32) (y : FVec F S256x1023x128 .f32) : FVec F S256x1023x32 .f32 :=
  addf (Host.dotGeneral dot_S256x1023x128_S128x32_S256x1023x32_2_0_01_1_n_n none y (transpose S128x32 [1, 0] w transposes_S32x128_S128x32_1_0))
    (broadcastInDim S256x1023x32 ![0, 1, 2] bcast_S1x1x32_S256x1023x32_0_1_2 (broadcastInDim S1x1x32 ![2] bcast_S32_S1x1x32_2 b))

/-- The softplus. -/
def soft (x : FVec F S256x1023x128 .f32) : FVec F S256x1023x128 .f32 :=
  select (cmpf .une (subf x (broadcastInDim S256x1023x128 ![] bcast_S_S256x1023x128 (constant S_ .f32 0x00000000#32)))
      (subf x (broadcastInDim S256x1023x128 ![] bcast_S_S256x1023x128 (constant S_ .f32 0x00000000#32))))
    (addf x (broadcastInDim S256x1023x128 ![] bcast_S_S256x1023x128 (constant S_ .f32 0x00000000#32)))
    (addf (maximumf x (broadcastInDim S256x1023x128 ![] bcast_S_S256x1023x128 (constant S_ .f32 0x00000000#32)))
      (Host.log1p (Host.exp (Host.negf (Host.absf (subf x (broadcastInDim S256x1023x128 ![] bcast_S_S256x1023x128 (constant S_ .f32 0x00000000#32))))))))

/-- A multiple by a constant, and a start moved by one. -/
def times (b : BitVec 32) (x : FVec F S256x1023x32 .f32) : FVec F S256x1023x32 .f32 :=
  mulf (broadcastInDim S256x1023x32 ![] bcast_S_S256x1023x32 (constant S_ .f32 b)) x
def moved (b : BitVec 32) (y k : FVec F S256x1023x32 .f32) : FVec F S256x1023x32 .f32 := addf y (times b k)

/-- The field. -/
def field (w0 : FVec F S128x32 .f32) (b0 : FVec F S128 .f32) (w1 : FVec F S128x128 .f32) (b1 : FVec F S128 .f32) (w2 : FVec F S32x128 .f32)
    (b2 : FVec F S32 .f32) (y : FVec F S256x1023x32 .f32) : FVec F S256x1023x32 .f32 :=
  lin2 w2 b2 (soft (lin1 w1 b1 (soft (lin0 w0 b0 y))))

/-- The four slopes put together. -/
def join (y k1 k2 k3 k4 : FVec F S256x1023x32 .f32) : FVec F S256x1023x32 .f32 :=
  moved 0x3ADA740E#32 y (addf (addf (addf k1 (times 0x40000000#32 k2)) (times 0x40000000#32 k3)) k4)

/-- One step of the integrator over a field. -/
def rkOf (f : FVec F S256x1023x32 .f32 → FVec F S256x1023x32 .f32) (y : FVec F S256x1023x32 .f32) : FVec F S256x1023x32 .f32 :=
  join y (f y) (f (moved 0x3BA3D70A#32 y (f y))) (f (moved 0x3BA3D70A#32 y (f (moved 0x3BA3D70A#32 y (f y)))))
    (f (moved 0x3C23D70A#32 y (f (moved 0x3BA3D70A#32 y (f (moved 0x3BA3D70A#32 y (f y)))))))

/-- The result from the states the third loop leaves and the whole scan. -/
def lastRow (s : FVec F S256x1024x32 .f32) (y : FVec F S256x1023x32 .f32) : FVec F S256x1024x32 .f32 :=
  concatenate S256x1024x32 1 [⟨S256x1023x32, y⟩, ⟨S256x1x32, extractStridedSlice S256x1x32 ![0, 1023, 0] s slices_S256x1024x32_S256x1x32_0_1023_0⟩]
    concatenates_S256x1023x32_S256x1x32_S256x1024x32_d1

/-- Where the third loop starts: all the scan but its first row. -/
def rest1 (s : FVec F S256x1024x32 .f32) : FVec F S256x1023x32 .f32 :=
  extractStridedSlice S256x1023x32 ![0, 1, 0] s slices_S256x1024x32_S256x1023x32_0_1_0

/-- The scan turned back. -/
def turned (s : FVec F S1024x256x32 .f32) : FVec F S256x1024x32 .f32 :=
  Host.reverse [1] (transpose S256x1024x32 [1, 0, 2] s transposes_S1024x256x32_S256x1024x32_1_0_2)

/-! ## One stretch at a time -/

variable (V : Valuation τ sig (Elt F))

theorem head0_at_v0 : after head0 V (no_index (Proc.devRef .tc main_v0)) = (Host.reverse [1] (V (Proc.devRef .tc main_arg0) : FVec F S256x1024x64 .f32) : FVec F S256x1024x64 .f32) := by
  after_results
  rfl

theorem head1_at_v1 : after head1 V (no_index (Proc.devRef .tc main_v1)) = spread (V (Proc.devRef .tc main_arg2)) := by
  after_results
  rfl

theorem head1_at_v3 : after head1 V (no_index (Proc.devRef .tc main_v3)) = start0 (spread (V (Proc.devRef .tc main_arg2))) := by
  after_results
  rfl

theorem head2_at_v8 : after head2 V (no_index (Proc.devRef .tc main_v8)) = projX (V (Proc.devRef .tc main_v0)) (V (Proc.devRef .tc main_arg3)) (V (Proc.devRef .tc main_arg5)) := by
  after_results
  rfl

theorem head3_at_v10_0 : after head3 V (no_index (Proc.devRef .tc main_v10_0)) = (V (Proc.devRef .tc main_v8)) := by
  after_results
  rfl

theorem head3_at_v10_1 : after head3 V (no_index (Proc.devRef .tc main_v10_1)) = (V (Proc.devRef .tc main_arg4)) := by
  after_results
  rfl

theorem head3_at_v10_2 : after head3 V (no_index (Proc.devRef .tc main_v10_2)) = (V (Proc.devRef .tc main_arg6)) := by
  after_results
  rfl

theorem head3_at_v10_4 : after head3 V (no_index (Proc.devRef .tc main_v10_4)) = (V (Proc.devRef .tc main_v3)) := by
  after_results
  rfl

theorem head3_at_v10_5 : after head3 V (no_index (Proc.devRef .tc main_v10_5)) = blank := by
  after_results
  rfl

theorem head4_at_v11 : after head4 V (no_index (Proc.devRef .tc main_v11)) = transpose S256x1024x32 [1, 0, 2] (V (Proc.devRef .tc main_v10_5) : FVec F S1024x256x32 .f32) transposes_S1024x256x32_S256x1024x32_1_0_2 := by
  after_results

theorem head4_at_v13 : after head4 V (no_index (Proc.devRef .tc main_v13)) = start1 (V (Proc.devRef .tc main_v1)) := by
  after_results
  rfl

theorem head5_at_v18 (s : FVec F S1024x256x32 .f32)
    (h : V (Proc.devRef .tc main_v11) = transpose S256x1024x32 [1, 0, 2] s transposes_S1024x256x32_S256x1024x32_1_0_2) :
    after head5 V (Proc.devRef .tc main_v18) = projH s (V (Proc.devRef .tc main_arg7)) (V (Proc.devRef .tc main_arg9)) := by
  after_results
  rw [h]
  rfl

theorem head6_at_v20_0 : after head6 V (no_index (Proc.devRef .tc main_v20_0)) = (V (Proc.devRef .tc main_v18)) := by
  after_results
  rfl

theorem head6_at_v20_1 : after head6 V (no_index (Proc.devRef .tc main_v20_1)) = (V (Proc.devRef .tc main_arg8)) := by
  after_results
  rfl

theorem head6_at_v20_2 : after head6 V (no_index (Proc.devRef .tc main_v20_2)) = (V (Proc.devRef .tc main_arg10)) := by
  after_results
  rfl

theorem head6_at_v20_4 : after head6 V (no_index (Proc.devRef .tc main_v20_4)) = (V (Proc.devRef .tc main_v13)) := by
  after_results
  rfl

theorem head7_at_v21 : after head7 V (no_index (Proc.devRef .tc main_v21)) = transpose S256x1024x32 [1, 0, 2] (V (Proc.devRef .tc main_v20_5) : FVec F S1024x256x32 .f32) transposes_S1024x256x32_S256x1024x32_1_0_2 := by
  after_results

theorem head8_at_v22 : after head8 V (no_index (Proc.devRef .tc main_v22)) = (Host.reverse [1] (V (Proc.devRef .tc main_v21) : FVec F S256x1024x32 .f32) : FVec F S256x1024x32 .f32) := by
  after_results
  rfl

theorem head9_at_v24_0 : after head9 V (no_index (Proc.devRef .tc main_v24_0)) = (V (Proc.devRef .tc main_arg11)) := by
  after_results
  rfl

theorem head9_at_v24_1 : after head9 V (no_index (Proc.devRef .tc main_v24_1)) = (V (Proc.devRef .tc main_arg12)) := by
  after_results
  rfl

theorem head9_at_v24_2 : after head9 V (no_index (Proc.devRef .tc main_v24_2)) = (V (Proc.devRef .tc main_arg13)) := by
  after_results
  rfl

theorem head9_at_v24_3 : after head9 V (no_index (Proc.devRef .tc main_v24_3)) = (V (Proc.devRef .tc main_arg14)) := by
  after_results
  rfl

theorem head9_at_v24_4 : after head9 V (no_index (Proc.devRef .tc main_v24_4)) = (V (Proc.devRef .tc main_arg15)) := by
  after_results
  rfl

theorem head9_at_v24_5 : after head9 V (no_index (Proc.devRef .tc main_v24_5)) = (V (Proc.devRef .tc main_arg16)) := by
  after_results
  rfl

theorem head9_at_v24_7 : after head9 V (no_index (Proc.devRef .tc main_v24_7)) = rest1 (V (Proc.devRef .tc main_v22)) := by
  after_results
  rfl

theorem head10_at_v26 : after head10 V (no_index (Proc.devRef .tc main_v26)) = lastRow (V (Proc.devRef .tc main_v22)) (V (Proc.devRef .tc main_v24_7)) := by
  after_results
  rfl

theorem first0_at_while0b_v27 : after first0 V (no_index (Proc.devRef .tc main_while0b_v27)) = sliceAt (V (Proc.devRef .tc main_v10_0)) (V (Proc.devRef .tc main_v10_3)) := by
  after_results_entrywise [sliceAt, putAt, at3, cast_eq]

theorem first1_at_while0b_v34 : after first1 V (no_index (Proc.devRef .tc main_while0b_v34)) = cellR (V (Proc.devRef .tc main_while0b_v27)) (V (Proc.devRef .tc main_v10_4)) (V (Proc.devRef .tc main_v10_1)) (V (Proc.devRef .tc main_v10_2)) := by
  after_results
  rfl

theorem first2_at_while0b_v35 : after first2 V (no_index (Proc.devRef .tc main_while0b_v35)) = putAt (V (Proc.devRef .tc main_v10_5)) (V (Proc.devRef .tc main_while0b_v34)) (V (Proc.devRef .tc main_v10_3)) := by
  after_results_entrywise [sliceAt, putAt, at3, cast_eq]

theorem first3_at_v10_4 : after first3 V (no_index (Proc.devRef .tc main_v10_4)) = (V (Proc.devRef .tc main_while0b_v34)) := by
  after_results
  rfl

theorem first3_at_v10_5 : after first3 V (no_index (Proc.devRef .tc main_v10_5)) = (V (Proc.devRef .tc main_while0b_v35)) := by
  after_results
  rfl

theorem second0_at_while1b_v27 : after second0 V (no_index (Proc.devRef .tc main_while1b_v27)) = sliceAt (V (Proc.devRef .tc main_v20_0)) (V (Proc.devRef .tc main_v20_3)) := by
  after_results_entrywise [sliceAt, putAt, at3, cast_eq]

theorem second1_at_while1b_v34 : after second1 V (no_index (Proc.devRef .tc main_while1b_v34)) = cellR (V (Proc.devRef .tc main_while1b_v27)) (V (Proc.devRef .tc main_v20_4)) (V (Proc.devRef .tc main_v20_1)) (V (Proc.devRef .tc main_v20_2)) := by
  after_results
  rfl

theorem second2_at_while1b_v35 : after second2 V (no_index (Proc.devRef .tc main_while1b_v35)) = putAt (V (Proc.devRef .tc main_v20_5)) (V (Proc.devRef .tc main_while1b_v34)) (V (Proc.devRef .tc main_v20_3)) := by
  after_results_entrywise [sliceAt, putAt, at3, cast_eq]

theorem second3_at_v20_4 : after second3 V (no_index (Proc.devRef .tc main_v20_4)) = (V (Proc.devRef .tc main_while1b_v34)) := by
  after_results
  rfl

theorem second3_at_v20_5 : after second3 V (no_index (Proc.devRef .tc main_v20_5)) = (V (Proc.devRef .tc main_while1b_v35)) := by
  after_results
  rfl

theorem decodeA0_at_while2b_v31 : after decodeA0 V (no_index (Proc.devRef .tc main_while2b_v31)) = lin0 (V (Proc.devRef .tc main_v24_0)) (V (Proc.devRef .tc main_v24_1)) (V (Proc.devRef .tc main_v24_7)) := by
  after_results
  rfl

theorem decodeA1_at_while2b_v32 : after decodeA1 V (no_index (Proc.devRef .tc main_while2b_v32)) = soft (V (Proc.devRef .tc main_while2b_v31)) := by
  after_results
  rfl

theorem decodeA2_at_while2b_v37 : after decodeA2 V (no_index (Proc.devRef .tc main_while2b_v37)) = lin1 (V (Proc.devRef .tc main_v24_2)) (V (Proc.devRef .tc main_v24_3)) (V (Proc.devRef .tc main_while2b_v32)) := by
  after_results
  rfl

theorem decodeA3_at_while2b_v38 : after decodeA3 V (no_index (Proc.devRef .tc main_while2b_v38)) = soft (V (Proc.devRef .tc main_while2b_v37)) := by
  after_results
  rfl

theorem decodeA4_at_while2b_v43 : after decodeA4 V (no_index (Proc.devRef .tc main_while2b_v43)) = lin2 (V (Proc.devRef .tc main_v24_4)) (V (Proc.devRef .tc main_v24_5)) (V (Proc.devRef .tc main_while2b_v38)) := by
  after_results
  rfl

theorem decodeA5_at_while2b_v46 : after decodeA5 V (no_index (Proc.devRef .tc main_while2b_v46)) = moved 0x3BA3D70A#32 (V (Proc.devRef .tc main_v24_7)) (V (Proc.devRef .tc main_while2b_v43)) := by
  after_results
  rfl

theorem decodeA6_at_while2b_v51 : after decodeA6 V (no_index (Proc.devRef .tc main_while2b_v51)) = lin0 (V (Proc.devRef .tc main_v24_0)) (V (Proc.devRef .tc main_v24_1)) (V (Proc.devRef .tc main_while2b_v46)) := by
  after_results
  rfl

theorem decodeA7_at_while2b_v52 : after decodeA7 V (no_index (Proc.devRef .tc main_while2b_v52)) = soft (V (Proc.devRef .tc main_while2b_v51)) := by
  after_results
  rfl

theorem decodeA8_at_while2b_v57 : after decodeA8 V (no_index (Proc.devRef .tc main_while2b_v57)) = lin1 (V (Proc.devRef .tc main_v24_2)) (V (Proc.devRef .tc main_v24_3)) (V (Proc.devRef .tc main_while2b_v52)) := by
  after_results
  rfl

theorem decodeA9_at_while2b_v58 : after decodeA9 V (no_index (Proc.devRef .tc main_while2b_v58)) = soft (V (Proc.devRef .tc main_while2b_v57)) := by
  after_results
  rfl

theorem decodeA10_at_while2b_v63 : after decodeA10 V (no_index (Proc.devRef .tc main_while2b_v63)) = lin2 (V (Proc.devRef .tc main_v24_4)) (V (Proc.devRef .tc main_v24_5)) (V (Proc.devRef .tc main_while2b_v58)) := by
  after_results
  rfl

theorem decodeA11_at_while2b_v66 : after decodeA11 V (no_index (Proc.devRef .tc main_while2b_v66)) = moved 0x3BA3D70A#32 (V (Proc.devRef .tc main_v24_7)) (V (Proc.devRef .tc main_while2b_v63)) := by
  after_results
  rfl

theorem decodeA12_at_while2b_v71 : after decodeA12 V (no_index (Proc.devRef .tc main_while2b_v71)) = lin0 (V (Proc.devRef .tc main_v24_0)) (V (Proc.devRef .tc main_v24_1)) (V (Proc.devRef .tc main_while2b_v66)) := by
  after_results
  rfl

theorem decodeA13_at_while2b_v72 : after decodeA13 V (no_index (Proc.devRef .tc main_while2b_v72)) = soft (V (Proc.devRef .tc main_while2b_v71)) := by
  after_results
  rfl

theorem decodeA14_at_while2b_v77 : after decodeA14 V (no_index (Proc.devRef .tc main_while2b_v77)) = lin1 (V (Proc.devRef .tc main_v24_2)) (V (Proc.devRef .tc main_v24_3)) (V (Proc.devRef .tc main_while2b_v72)) := by
  after_results
  rfl

theorem decodeA15_at_while2b_v78 : after decodeA15 V (no_index (Proc.devRef .tc main_while2b_v78)) = soft (V (Proc.devRef .tc main_while2b_v77)) := by
  after_results
  rfl

theorem decodeA16_at_while2b_v83 : after decodeA16 V (no_index (Proc.devRef .tc main_while2b_v83)) = lin2 (V (Proc.devRef .tc main_v24_4)) (V (Proc.devRef .tc main_v24_5)) (V (Proc.devRef .tc main_while2b_v78)) := by
  after_results
  rfl

theorem decodeA17_at_while2b_cst_12 : after decodeA17 V (no_index (Proc.devRef .tc main_while2b_cst_12)) = constant S_ .f32 0x3C23D70A#32 := by
  after_results

theorem decodeB0_at_while2b_v86 (h : V (Proc.devRef .tc main_while2b_cst_12) = constant S_ .f32 0x3C23D70A#32) :
    after decodeB0 V (Proc.devRef .tc main_while2b_v86) = moved 0x3C23D70A#32 (V (Proc.devRef .tc main_v24_7)) (V (Proc.devRef .tc main_while2b_v83)) := by
  after_results
  rw [h]
  rfl

theorem decodeB1_at_while2b_v91 : after decodeB1 V (no_index (Proc.devRef .tc main_while2b_v91)) = lin0 (V (Proc.devRef .tc main_v24_0)) (V (Proc.devRef .tc main_v24_1)) (V (Proc.devRef .tc main_while2b_v86)) := by
  after_results
  rfl

theorem decodeB2_at_while2b_v92 : after decodeB2 V (no_index (Proc.devRef .tc main_while2b_v92)) = soft (V (Proc.devRef .tc main_while2b_v91)) := by
  after_results
  rfl

theorem decodeB3_at_while2b_v97 : after decodeB3 V (no_index (Proc.devRef .tc main_while2b_v97)) = lin1 (V (Proc.devRef .tc main_v24_2)) (V (Proc.devRef .tc main_v24_3)) (V (Proc.devRef .tc main_while2b_v92)) := by
  after_results
  rfl

theorem decodeB4_at_while2b_v98 : after decodeB4 V (no_index (Proc.devRef .tc main_while2b_v98)) = soft (V (Proc.devRef .tc main_while2b_v97)) := by
  after_results
  rfl

theorem decodeB5_at_while2b_v103 : after decodeB5 V (no_index (Proc.devRef .tc main_while2b_v103)) = lin2 (V (Proc.devRef .tc main_v24_4)) (V (Proc.devRef .tc main_v24_5)) (V (Proc.devRef .tc main_while2b_v98)) := by
  after_results
  rfl

theorem decodeB6_at_while2b_v113 : after decodeB6 V (no_index (Proc.devRef .tc main_while2b_v113)) = join (V (Proc.devRef .tc main_v24_7)) (V (Proc.devRef .tc main_while2b_v43)) (V (Proc.devRef .tc main_while2b_v63)) (V (Proc.devRef .tc main_while2b_v83)) (V (Proc.devRef .tc main_while2b_v103)) := by
  after_results
  rfl

theorem decodeB7_at_v24_7 : after decodeB7 V (no_index (Proc.devRef .tc main_v24_7)) = (V (Proc.devRef .tc main_while2b_v113)) := by
  after_results
  rfl

end Cert.Proof.Reference

end
-- ==== Proof.Reference.Trips.lean ====
/-
  The reference's three loops as whole arrays: the two scans, whose states and outputs are a recursion over the steps, and
  the integrator's nine steps. Then the result as a term over the arguments.
-/
module

public import proofs.«01_k».proof.Proof.Reference.Value
public import Idealize.ShloMosaic.Lib.Pointwise
public import Idealize.ShloMosaic.Lib.WordArith.Masks

@[expose] public section

set_option maxRecDepth 16384

noncomputable section

namespace Cert.Proof.Reference

open Idealize.ShloMosaic Idealize.ShloMosaic.TcCoe Idealize.ShloMosaic.Tactic
open Idealize.ShloMosaic.StableHlo
open Cert.ReferenceIdeal Cert.ReferenceIdeal.Gen

variable {F : FTy → Type} [FloatOps F]

/-! ## A step's rows -/

/-- The start words at step `k`, read as numbers. -/
theorem at3_iv (k : ℕ) (hk : k < 1024) : at3 (fun _ => Scf.iv 0#32 1#32 k) = ![(k : ℤ), 0, 0] := by
  have h : (Scf.iv 0#32 1#32 k : BitVec 32).toInt = (k : ℤ) := by
    have h1 : (Scf.iv 0#32 1#32 k : BitVec 32).toNat = k := WordArith.toNat_iv_zero_one _ (by omega)
    rw [BitVec.toInt_eq_toNat_of_lt (by rw [h1]; omega), h1]
  funext a
  match a with
  | ⟨0, _⟩ => exact h
  | ⟨1, _⟩ => rfl
  | ⟨2, _⟩ => rfl

/-- The start clamped on each axis. -/
theorem clamp0 (k : ℕ) (hk : k < 1024) (ht) : Host.clampedStart S1024x256x32 S1x256x32 ht ![(k : ℤ), 0, 0] 0 = k :=
  Host.clampedStart_of_le ht _ 0 k rfl (show k + 1 ≤ 1024 by omega)
theorem clamp1 (k : ℕ) (ht) : Host.clampedStart S1024x256x32 S1x256x32 ht ![(k : ℤ), 0, 0] 1 = 0 :=
  Host.clampedStart_of_le ht _ 1 0 rfl (show 0 + 256 ≤ 256 by omega)
theorem clamp2 (k : ℕ) (ht) : Host.clampedStart S1024x256x32 S1x256x32 ht ![(k : ℤ), 0, 0] 2 = 0 :=
  Host.clampedStart_of_le ht _ 2 0 rfl (show 0 + 32 ≤ 32 by omega)

/-- The slice at step `k` reads the rows of step `k`. -/
theorem sliceAt_apply (x : FVec F S1024x256x32 .f32) (k : ℕ) (hk : k < 1024) (b : Fin 256) (j : Fin 32) :
    sliceAt x (fun _ => Scf.iv 0#32 1#32 k) (ix2 b j) = x (ix3 (⟨k, hk⟩ : Fin 1024) b j) := by
  unfold sliceAt
  rw [at3_iv k hk]
  pointwise
  simp only [clamp0 k hk, clamp1, clamp2, Nat.zero_add]

/-- The update at step `k` changes the rows of step `k` alone. -/
theorem putAt_apply (o : FVec F S1024x256x32 .f32) (h : FVec F S256x32 .f32) (k : ℕ) (hk : k < 1024) (n : Fin 1024) (b : Fin 256) (j : Fin 32) :
    putAt o h (fun _ => Scf.iv 0#32 1#32 k) (ix3 n b j) = if n.val = k then h (ix2 b j) else o (ix3 n b j) := by
  unfold putAt
  rw [at3_iv k hk]
  pointwise
  simp only [clamp0 k hk, clamp1, clamp2, Nat.sub_zero, Nat.zero_le, and_self, and_true]
  by_cases hn : n.val = k
  · rw [dif_pos (by omega), if_pos hn]
  · rw [dif_neg (by omega), if_neg hn]

/-! ## One trip -/

variable (V : Valuation τ sig (Elt F))

theorem body0_state : afterL body0 V (Proc.devRef .tc main_v10_4) = (cellR (sliceAt (V (Proc.devRef .tc main_v10_0)) (V (Proc.devRef .tc main_v10_3))) (V (Proc.devRef .tc main_v10_4)) (V (Proc.devRef .tc main_v10_1)) (V (Proc.devRef .tc main_v10_2))) := by
  simp only [afterL_cons, afterL_nil]
  rw [first3_at_v10_4, first2_keep _ _ (by decide), first1_at_while0b_v34, first0_at_while0b_v27, first0_keep _ main_v10_4 (by decide),
    first0_keep _ main_v10_1 (by decide), first0_keep _ main_v10_2 (by decide)]
theorem body0_out : afterL body0 V (Proc.devRef .tc main_v10_5) = putAt (V (Proc.devRef .tc main_v10_5)) (cellR (sliceAt (V (Proc.devRef .tc main_v10_0)) (V (Proc.devRef .tc main_v10_3))) (V (Proc.devRef .tc main_v10_4)) (V (Proc.devRef .tc main_v10_1)) (V (Proc.devRef .tc main_v10_2))) (V (Proc.devRef .tc main_v10_3)) := by
  simp only [afterL_cons, afterL_nil]
  rw [first3_at_v10_5, first2_at_while0b_v35, first1_at_while0b_v34, first0_at_while0b_v27, first1_keep _ main_v10_5 (by decide), first1_keep _ main_v10_3 (by decide),
    first0_keep _ main_v10_5 (by decide), first0_keep _ main_v10_3 (by decide), first0_keep _ main_v10_4 (by decide),
    first0_keep _ main_v10_1 (by decide), first0_keep _ main_v10_2 (by decide)]

theorem body1_state : afterL body1 V (Proc.devRef .tc main_v20_4) = (cellR (sliceAt (V (Proc.devRef .tc main_v20_0)) (V (Proc.devRef .tc main_v20_3))) (V (Proc.devRef .tc main_v20_4)) (V (Proc.devRef .tc main_v20_1)) (V (Proc.devRef .tc main_v20_2))) := by
  simp only [afterL_cons, afterL_nil]
  rw [second3_at_v20_4, second2_keep _ _ (by decide), second1_at_while1b_v34, second0_at_while1b_v27, second0_keep _ main_v20_4 (by decide),
    second0_keep _ main_v20_1 (by decide), second0_keep _ main_v20_2 (by decide)]
theorem body1_out : afterL body1 V (Proc.devRef .tc main_v20_5) = putAt (V (Proc.devRef .tc main_v20_5)) (cellR (sliceAt (V (Proc.devRef .tc main_v20_0)) (V (Proc.devRef .tc main_v20_3))) (V (Proc.devRef .tc main_v20_4)) (V (Proc.devRef .tc main_v20_1)) (V (Proc.devRef .tc main_v20_2))) (V (Proc.devRef .tc main_v20_3)) := by
  simp only [afterL_cons, afterL_nil]
  rw [second3_at_v20_5, second2_at_while1b_v35, second1_at_while1b_v34, second0_at_while1b_v27, second1_keep _ main_v20_5 (by decide), second1_keep _ main_v20_3 (by decide),
    second0_keep _ main_v20_5 (by decide), second0_keep _ main_v20_3 (by decide), second0_keep _ main_v20_4 (by decide),
    second0_keep _ main_v20_1 (by decide), second0_keep _ main_v20_2 (by decide)]

theorem slope1 : afterL [decodeA0, decodeA1, decodeA2, decodeA3, decodeA4] V (Proc.devRef .tc main_while2b_v43) = field (V (Proc.devRef .tc main_v24_0)) (V (Proc.devRef .tc main_v24_1)) (V (Proc.devRef .tc main_v24_2)) (V (Proc.devRef .tc main_v24_3)) (V (Proc.devRef .tc main_v24_4)) (V (Proc.devRef .tc main_v24_5)) (V (Proc.devRef .tc main_v24_7)) := by
  simp only [afterL_cons, afterL_nil]
  rw [decodeA4_at_while2b_v43, decodeA3_at_while2b_v38, decodeA2_at_while2b_v37, decodeA1_at_while2b_v32, decodeA0_at_while2b_v31,
    decodeA3_keep _ main_v24_4 (by decide), decodeA2_keep _ main_v24_4 (by decide), decodeA1_keep _ main_v24_4 (by decide), decodeA0_keep _ main_v24_4 (by decide), decodeA3_keep _ main_v24_5 (by decide), decodeA2_keep _ main_v24_5 (by decide), decodeA1_keep _ main_v24_5 (by decide), decodeA0_keep _ main_v24_5 (by decide), decodeA1_keep _ main_v24_2 (by decide), decodeA0_keep _ main_v24_2 (by decide), decodeA1_keep _ main_v24_3 (by decide), decodeA0_keep _ main_v24_3 (by decide)]
  rfl

theorem slope2 : afterL [decodeA6, decodeA7, decodeA8, decodeA9, decodeA10] V (Proc.devRef .tc main_while2b_v63) = field (V (Proc.devRef .tc main_v24_0)) (V (Proc.devRef .tc main_v24_1)) (V (Proc.devRef .tc main_v24_2)) (V (Proc.devRef .tc main_v24_3)) (V (Proc.devRef .tc main_v24_4)) (V (Proc.devRef .tc main_v24_5)) (V (Proc.devRef .tc main_while2b_v46)) := by
  simp only [afterL_cons, afterL_nil]
  rw [decodeA10_at_while2b_v63, decodeA9_at_while2b_v58, decodeA8_at_while2b_v57, decodeA7_at_while2b_v52, decodeA6_at_while2b_v51,
    decodeA9_keep _ main_v24_4 (by decide), decodeA8_keep _ main_v24_4 (by decide), decodeA7_keep _ main_v24_4 (by decide), decodeA6_keep _ main_v24_4 (by decide), decodeA9_keep _ main_v24_5 (by decide), decodeA8_keep _ main_v24_5 (by decide), decodeA7_keep _ main_v24_5 (by decide), decodeA6_keep _ main_v24_5 (by decide), decodeA7_keep _ main_v24_2 (by decide), decodeA6_keep _ main_v24_2 (by decide), decodeA7_keep _ main_v24_3 (by decide), decodeA6_keep _ main_v24_3 (by decide)]
  rfl

theorem slope3 : afterL [decodeA12, decodeA13, decodeA14, decodeA15, decodeA16] V (Proc.devRef .tc main_while2b_v83) = field (V (Proc.devRef .tc main_v24_0)) (V (Proc.devRef .tc main_v24_1)) (V (Proc.devRef .tc main_v24_2)) (V (Proc.devRef .tc main_v24_3)) (V (Proc.devRef .tc main_v24_4)) (V (Proc.devRef .tc main_v24_5)) (V (Proc.devRef .tc main_while2b_v66)) := by
  simp only [afterL_cons, afterL_nil]
  rw [decodeA16_at_while2b_v83, decodeA15_at_while2b_v78, decodeA14_at_while2b_v77, decodeA13_at_while2b_v72, decodeA12_at_while2b_v71,
    decodeA15_keep _ main_v24_4 (by decide), decodeA14_keep _ main_v24_4 (by decide), decodeA13_keep _ main_v24_4 (by decide), decodeA12_keep _ main_v24_4 (by decide), decodeA15_keep _ main_v24_5 (by decide), decodeA14_keep _ main_v24_5 (by decide), decodeA13_keep _ main_v24_5 (by decide), decodeA12_keep _ main_v24_5 (by decide), decodeA13_keep _ main_v24_2 (by decide), decodeA12_keep _ main_v24_2 (by decide), decodeA13_keep _ main_v24_3 (by decide), decodeA12_keep _ main_v24_3 (by decide)]
  rfl

theorem slope4 : afterL [decodeB1, decodeB2, decodeB3, decodeB4, decodeB5] V (Proc.devRef .tc main_while2b_v103) = field (V (Proc.devRef .tc main_v24_0)) (V (Proc.devRef .tc main_v24_1)) (V (Proc.devRef .tc main_v24_2)) (V (Proc.devRef .tc main_v24_3)) (V (Proc.devRef .tc main_v24_4)) (V (Proc.devRef .tc main_v24_5)) (V (Proc.devRef .tc main_while2b_v86)) := by
  simp only [afterL_cons, afterL_nil]
  rw [decodeB5_at_while2b_v103, decodeB4_at_while2b_v98, decodeB3_at_while2b_v97, decodeB2_at_while2b_v92, decodeB1_at_while2b_v91,
    decodeB4_keep _ main_v24_4 (by decide), decodeB3_keep _ main_v24_4 (by decide), decodeB2_keep _ main_v24_4 (by decide), decodeB1_keep _ main_v24_4 (by decide), decodeB4_keep _ main_v24_5 (by decide), decodeB3_keep _ main_v24_5 (by decide), decodeB2_keep _ main_v24_5 (by decide), decodeB1_keep _ main_v24_5 (by decide), decodeB2_keep _ main_v24_2 (by decide), decodeB1_keep _ main_v24_2 (by decide), decodeB2_keep _ main_v24_3 (by decide), decodeB1_keep _ main_v24_3 (by decide)]
  rfl

theorem slope1_keep (r : Ref sig .tc) (h : r ∉ decodeA0_W ∧ r ∉ decodeA1_W ∧ r ∉ decodeA2_W ∧ r ∉ decodeA3_W ∧ r ∉ decodeA4_W) : afterL [decodeA0, decodeA1, decodeA2, decodeA3, decodeA4] V (Proc.devRef .tc r) = V (Proc.devRef .tc r) := by
  obtain ⟨h0, h1, h2, h3, h4⟩ := h
  simp only [afterL_cons, afterL_nil]
  rw [decodeA4_keep _ _ h4, decodeA3_keep _ _ h3, decodeA2_keep _ _ h2, decodeA1_keep _ _ h1, decodeA0_keep _ _ h0]

theorem slope2_keep (r : Ref sig .tc) (h : r ∉ decodeA6_W ∧ r ∉ decodeA7_W ∧ r ∉ decodeA8_W ∧ r ∉ decodeA9_W ∧ r ∉ decodeA10_W) : afterL [decodeA6, decodeA7, decodeA8, decodeA9, decodeA10] V (Proc.devRef .tc r) = V (Proc.devRef .tc r) := by
  obtain ⟨h0, h1, h2, h3, h4⟩ := h
  simp only [afterL_cons, afterL_nil]
  rw [decodeA10_keep _ _ h4, decodeA9_keep _ _ h3, decodeA8_keep _ _ h2, decodeA7_keep _ _ h1, decodeA6_keep _ _ h0]

theorem slope3_keep (r : Ref sig .tc) (h : r ∉ decodeA12_W ∧ r ∉ decodeA13_W ∧ r ∉ decodeA14_W ∧ r ∉ decodeA15_W ∧ r ∉ decodeA16_W) : afterL [decodeA12, decodeA13, decodeA14, decodeA15, decodeA16] V (Proc.devRef .tc r) = V (Proc.devRef .tc r) := by
  obtain ⟨h0, h1, h2, h3, h4⟩ := h
  simp only [afterL_cons, afterL_nil]
  rw [decodeA16_keep _ _ h4, decodeA15_keep _ _ h3, decodeA14_keep _ _ h2, decodeA13_keep _ _ h1, decodeA12_keep _ _ h0]

theorem slope4_keep (r : Ref sig .tc) (h : r ∉ decodeB1_W ∧ r ∉ decodeB2_W ∧ r ∉ decodeB3_W ∧ r ∉ decodeB4_W ∧ r ∉ decodeB5_W) : afterL [decodeB1, decodeB2, decodeB3, decodeB4, decodeB5] V (Proc.devRef .tc r) = V (Proc.devRef .tc r) := by
  obtain ⟨h0, h1, h2, h3, h4⟩ := h
  simp only [afterL_cons, afterL_nil]
  rw [decodeB5_keep _ _ h4, decodeB4_keep _ _ h3, decodeB3_keep _ _ h2, decodeB2_keep _ _ h1, decodeB1_keep _ _ h0]

/-- The third loop's body, cut at the slopes. -/
theorem body2_cut : afterL body2 V = after decodeB7 (after decodeB6 (afterL [decodeB1, decodeB2, decodeB3, decodeB4, decodeB5] (after decodeB0 (after decodeA17
    (afterL [decodeA12, decodeA13, decodeA14, decodeA15, decodeA16] (after decodeA11 (afterL [decodeA6, decodeA7, decodeA8, decodeA9, decodeA10]
    (after decodeA5 (afterL [decodeA0, decodeA1, decodeA2, decodeA3, decodeA4] V))))))))) := rfl

/-- One trip of the third loop is one step of the integrator. -/
theorem body2_state : afterL body2 V (Proc.devRef .tc main_v24_7) = rkOf (field (V (Proc.devRef .tc main_v24_0)) (V (Proc.devRef .tc main_v24_1)) (V (Proc.devRef .tc main_v24_2)) (V (Proc.devRef .tc main_v24_3)) (V (Proc.devRef .tc main_v24_4)) (V (Proc.devRef .tc main_v24_5))) (V (Proc.devRef .tc main_v24_7)) := by
  rw [body2_cut, decodeB7_at_v24_7, decodeB6_at_while2b_v113]
  generalize h1 : afterL [decodeA0, decodeA1, decodeA2, decodeA3, decodeA4] V = V1
  generalize h2 : after decodeA5 V1 = V2
  generalize h3 : afterL [decodeA6, decodeA7, decodeA8, decodeA9, decodeA10] V2 = V3
  generalize h4 : after decodeA11 V3 = V4
  generalize h5 : afterL [decodeA12, decodeA13, decodeA14, decodeA15, decodeA16] V4 = V5
  generalize h6 : after decodeA17 V5 = V6
  generalize h7 : after decodeB0 V6 = V7
  generalize h8 : afterL [decodeB1, decodeB2, decodeB3, decodeB4, decodeB5] V7 = V8
  have keep1 : ∀ r, (r ∉ decodeA0_W ∧ r ∉ decodeA1_W ∧ r ∉ decodeA2_W ∧ r ∉ decodeA3_W ∧ r ∉ decodeA4_W) → V1 (Proc.devRef .tc r) = V (Proc.devRef .tc r) :=
    fun r h => by rw [← h1]; exact slope1_keep V r h
  have keep2 : ∀ r, r ∉ decodeA5_W → V2 (Proc.devRef .tc r) = V1 (Proc.devRef .tc r) := fun r h => by rw [← h2]; exact decodeA5_keep V1 r h
  have keep3 : ∀ r, (r ∉ decodeA6_W ∧ r ∉ decodeA7_W ∧ r ∉ decodeA8_W ∧ r ∉ decodeA9_W ∧ r ∉ decodeA10_W) → V3 (Proc.devRef .tc r) = V2 (Proc.devRef .tc r) :=
    fun r h => by rw [← h3]; exact slope2_keep V2 r h
  have keep4 : ∀ r, r ∉ decodeA11_W → V4 (Proc.devRef .tc r) = V3 (Proc.devRef .tc r) := fun r h => by rw [← h4]; exact decodeA11_keep V3 r h
  have keep5 : ∀ r, (r ∉ decodeA12_W ∧ r ∉ decodeA13_W ∧ r ∉ decodeA14_W ∧ r ∉ decodeA15_W ∧ r ∉ decodeA16_W) → V5 (Proc.devRef .tc r) = V4 (Proc.devRef .tc r) :=
    fun r h => by rw [← h5]; exact slope3_keep V4 r h
  have keep6 : ∀ r, r ∉ decodeA17_W → V6 (Proc.devRef .tc r) = V5 (Proc.devRef .tc r) := fun r h => by rw [← h6]; exact decodeA17_keep V5 r h
  have keep7 : ∀ r, r ∉ decodeB0_W → V7 (Proc.devRef .tc r) = V6 (Proc.devRef .tc r) := fun r h => by rw [← h7]; exact decodeB0_keep V6 r h
  have keep8 : ∀ r, (r ∉ decodeB1_W ∧ r ∉ decodeB2_W ∧ r ∉ decodeB3_W ∧ r ∉ decodeB4_W ∧ r ∉ decodeB5_W) → V8 (Proc.devRef .tc r) = V7 (Proc.devRef .tc r) :=
    fun r h => by rw [← h8]; exact slope4_keep V7 r h
  have a1_v24_0 := keep1 main_v24_0 ⟨by decide, by decide, by decide, by decide, by decide⟩
  have a2_v24_0 := (keep2 main_v24_0 (by decide)).trans a1_v24_0
  have a3_v24_0 := (keep3 main_v24_0 ⟨by decide, by decide, by decide, by decide, by decide⟩).trans a2_v24_0
  have a4_v24_0 := (keep4 main_v24_0 (by decide)).trans a3_v24_0
  have a5_v24_0 := (keep5 main_v24_0 ⟨by decide, by decide, by decide, by decide, by decide⟩).trans a4_v24_0
  have a6_v24_0 := (keep6 main_v24_0 (by decide)).trans a5_v24_0
  have a7_v24_0 := (keep7 main_v24_0 (by decide)).trans a6_v24_0
  have a8_v24_0 := (keep8 main_v24_0 ⟨by decide, by decide, by decide, by decide, by decide⟩).trans a7_v24_0
  have a1_v24_1 := keep1 main_v24_1 ⟨by decide, by decide, by decide, by decide, by decide⟩
  have a2_v24_1 := (keep2 main_v24_1 (by decide)).trans a1_v24_1
  have a3_v24_1 := (keep3 main_v24_1 ⟨by decide, by decide, by decide, by decide, by decide⟩).trans a2_v24_1
  have a4_v24_1 := (keep4 main_v24_1 (by decide)).trans a3_v24_1
  have a5_v24_1 := (keep5 main_v24_1 ⟨by decide, by decide, by decide, by decide, by decide⟩).trans a4_v24_1
  have a6_v24_1 := (keep6 main_v24_1 (by decide)).trans a5_v24_1
  have a7_v24_1 := (keep7 main_v24_1 (by decide)).trans a6_v24_1
  have a8_v24_1 := (keep8 main_v24_1 ⟨by decide, by decide, by decide, by decide, by decide⟩).trans a7_v24_1
  have a1_v24_2 := keep1 main_v24_2 ⟨by decide, by decide, by decide, by decide, by decide⟩
  have a2_v24_2 := (keep2 main_v24_2 (by decide)).trans a1_v24_2
  have a3_v24_2 := (keep3 main_v24_2 ⟨by decide, by decide, by decide, by decide, by decide⟩).trans a2_v24_2
  have a4_v24_2 := (keep4 main_v24_2 (by decide)).trans a3_v24_2
  have a5_v24_2 := (keep5 main_v24_2 ⟨by decide, by decide, by decide, by decide, by decide⟩).trans a4_v24_2
  have a6_v24_2 := (keep6 main_v24_2 (by decide)).trans a5_v24_2
  have a7_v24_2 := (keep7 main_v24_2 (by decide)).trans a6_v24_2
  have a8_v24_2 := (keep8 main_v24_2 ⟨by decide, by decide, by decide, by decide, by decide⟩).trans a7_v24_2
  have a1_v24_3 := keep1 main_v24_3 ⟨by decide, by decide, by decide, by decide, by decide⟩
  have a2_v24_3 := (keep2 main_v24_3 (by decide)).trans a1_v24_3
  have a3_v24_3 := (keep3 main_v24_3 ⟨by decide, by decide, by decide, by decide, by decide⟩).trans a2_v24_3
  have a4_v24_3 := (keep4 main_v24_3 (by decide)).trans a3_v24_3
  have a5_v24_3 := (keep5 main_v24_3 ⟨by decide, by decide, by decide, by decide, by decide⟩).trans a4_v24_3
  have a6_v24_3 := (keep6 main_v24_3 (by decide)).trans a5_v24_3
  have a7_v24_3 := (keep7 main_v24_3 (by decide)).trans a6_v24_3
  have a8_v24_3 := (keep8 main_v24_3 ⟨by decide, by decide, by decide, by decide, by decide⟩).trans a7_v24_3
  have a1_v24_4 := keep1 main_v24_4 ⟨by decide, by decide, by decide, by decide, by decide⟩
  have a2_v24_4 := (keep2 main_v24_4 (by decide)).trans a1_v24_4
  have a3_v24_4 := (keep3 main_v24_4 ⟨by decide, by decide, by decide, by decide, by decide⟩).trans a2_v24_4
  have a4_v24_4 := (keep4 main_v24_4 (by decide)).trans a3_v24_4
  have a5_v24_4 := (keep5 main_v24_4 ⟨by decide, by decide, by decide, by decide, by decide⟩).trans a4_v24_4
  have a6_v24_4 := (keep6 main_v24_4 (by decide)).trans a5_v24_4
  have a7_v24_4 := (keep7 main_v24_4 (by decide)).trans a6_v24_4
  have a8_v24_4 := (keep8 main_v24_4 ⟨by decide, by decide, by decide, by decide, by decide⟩).trans a7_v24_4
  have a1_v24_5 := keep1 main_v24_5 ⟨by decide, by decide, by decide, by decide, by decide⟩
  have a2_v24_5 := (keep2 main_v24_5 (by decide)).trans a1_v24_5
  have a3_v24_5 := (keep3 main_v24_5 ⟨by decide, by decide, by decide, by decide, by decide⟩).trans a2_v24_5
  have a4_v24_5 := (keep4 main_v24_5 (by decide)).trans a3_v24_5
  have a5_v24_5 := (keep5 main_v24_5 ⟨by decide, by decide, by decide, by decide, by decide⟩).trans a4_v24_5
  have a6_v24_5 := (keep6 main_v24_5 (by decide)).trans a5_v24_5
  have a7_v24_5 := (keep7 main_v24_5 (by decide)).trans a6_v24_5
  have a8_v24_5 := (keep8 main_v24_5 ⟨by decide, by decide, by decide, by decide, by decide⟩).trans a7_v24_5
  have a1_v24_6 := keep1 main_v24_6 ⟨by decide, by decide, by decide, by decide, by decide⟩
  have a2_v24_6 := (keep2 main_v24_6 (by decide)).trans a1_v24_6
  have a3_v24_6 := (keep3 main_v24_6 ⟨by decide, by decide, by decide, by decide, by decide⟩).trans a2_v24_6
  have a4_v24_6 := (keep4 main_v24_6 (by decide)).trans a3_v24_6
  have a5_v24_6 := (keep5 main_v24_6 ⟨by decide, by decide, by decide, by decide, by decide⟩).trans a4_v24_6
  have a6_v24_6 := (keep6 main_v24_6 (by decide)).trans a5_v24_6
  have a7_v24_6 := (keep7 main_v24_6 (by decide)).trans a6_v24_6
  have a8_v24_6 := (keep8 main_v24_6 ⟨by decide, by decide, by decide, by decide, by decide⟩).trans a7_v24_6
  have a1_v24_7 := keep1 main_v24_7 ⟨by decide, by decide, by decide, by decide, by decide⟩
  have a2_v24_7 := (keep2 main_v24_7 (by decide)).trans a1_v24_7
  have a3_v24_7 := (keep3 main_v24_7 ⟨by decide, by decide, by decide, by decide, by decide⟩).trans a2_v24_7
  have a4_v24_7 := (keep4 main_v24_7 (by decide)).trans a3_v24_7
  have a5_v24_7 := (keep5 main_v24_7 ⟨by decide, by decide, by decide, by decide, by decide⟩).trans a4_v24_7
  have a6_v24_7 := (keep6 main_v24_7 (by decide)).trans a5_v24_7
  have a7_v24_7 := (keep7 main_v24_7 (by decide)).trans a6_v24_7
  have a8_v24_7 := (keep8 main_v24_7 ⟨by decide, by decide, by decide, by decide, by decide⟩).trans a7_v24_7
  have s1 : V1 (Proc.devRef .tc main_while2b_v43) = _ := (congrFun h1.symm _).trans (slope1 V)
  have m1 : V2 (Proc.devRef .tc main_while2b_v46) = _ := (congrFun h2.symm _).trans (decodeA5_at_while2b_v46 V1)
  rw [a1_v24_7, s1] at m1
  have s2 : V3 (Proc.devRef .tc main_while2b_v63) = _ := (congrFun h3.symm _).trans (slope2 V2)
  rw [a2_v24_0, a2_v24_1, a2_v24_2, a2_v24_3, a2_v24_4, a2_v24_5, m1] at s2
  have m2 : V4 (Proc.devRef .tc main_while2b_v66) = _ := (congrFun h4.symm _).trans (decodeA11_at_while2b_v66 V3)
  rw [a3_v24_7, s2] at m2
  have s3 : V5 (Proc.devRef .tc main_while2b_v83) = _ := (congrFun h5.symm _).trans (slope3 V4)
  rw [a4_v24_0, a4_v24_1, a4_v24_2, a4_v24_3, a4_v24_4, a4_v24_5, m2] at s3
  have m3 : V7 (Proc.devRef .tc main_while2b_v86) = _ :=
    (congrFun h7.symm _).trans (decodeB0_at_while2b_v86 V6 ((congrFun h6.symm _).trans (decodeA17_at_while2b_cst_12 V5)))
  rw [a6_v24_7, keep6 main_while2b_v83 (by decide), s3] at m3
  have s4 : V8 (Proc.devRef .tc main_while2b_v103) = _ := (congrFun h8.symm _).trans (slope4 V7)
  rw [a7_v24_0, a7_v24_1, a7_v24_2, a7_v24_3, a7_v24_4, a7_v24_5, m3] at s4
  have t3 := (keep8 main_while2b_v83 ⟨by decide, by decide, by decide, by decide, by decide⟩).trans ((keep7 main_while2b_v83 (by decide)).trans ((keep6 main_while2b_v83 (by decide)).trans s3))
  have t2 := (keep8 main_while2b_v63 ⟨by decide, by decide, by decide, by decide, by decide⟩).trans ((keep7 main_while2b_v63 (by decide)).trans ((keep6 main_while2b_v63 (by decide)).trans
    ((keep5 main_while2b_v63 ⟨by decide, by decide, by decide, by decide, by decide⟩).trans ((keep4 main_while2b_v63 (by decide)).trans s2))))
  have t1 := (keep8 main_while2b_v43 ⟨by decide, by decide, by decide, by decide, by decide⟩).trans ((keep7 main_while2b_v43 (by decide)).trans ((keep6 main_while2b_v43 (by decide)).trans
    ((keep5 main_while2b_v43 ⟨by decide, by decide, by decide, by decide, by decide⟩).trans ((keep4 main_while2b_v43 (by decide)).trans ((keep3 main_while2b_v43 ⟨by decide, by decide, by decide, by decide, by decide⟩).trans
      ((keep2 main_while2b_v43 (by decide)).trans s1))))))
  rw [a8_v24_7, t1, t2, t3, s4]
  rfl

/-! ## The loops -/

variable (m : (ℓ : Loc nD τ sig) → Buf (Elt F) ℓ)

/-- A layer's states after `k` steps. -/
def scan (p : FVec F S1024x256x32 .f32) (w : FVec F S32x32 .f32) (b : FVec F S32 .f32) (h : FVec F S256x32 .f32) : ℕ → FVec F S256x32 .f32
  | 0 => h
  | k + 1 => cellR (sliceAt p fun _ => Scf.iv 0#32 1#32 k) (scan p w b h k) w b

/-- The states after the first step, after the second, and so on, stacked. -/
def stack (f : ℕ → FVec F S256x32 .f32) : FVec F S1024x256x32 .f32 := fun y =>
  f ((y 0).val + 1) (ix2 (⟨(y 1).val, (y 1).isLt⟩ : Fin 256) (⟨(y 2).val, (y 2).isLt⟩ : Fin 32))

section scans

variable (W : Dev nD → Valuation τ sig (Elt F)) (c : Dev nD)

theorem trips0_state (hc : ∀ k, atTrip test0 body0 W k c (Proc.devRef .tc main_v10_3) = fun _ => Scf.iv 0#32 1#32 k) :
    ∀ k, atTrip test0 body0 W k c (Proc.devRef .tc main_v10_4)
      = scan (W c (Proc.devRef .tc main_v10_0)) (W c (Proc.devRef .tc main_v10_1)) (W c (Proc.devRef .tc main_v10_2)) (W c (Proc.devRef .tc main_v10_4)) k
  | 0 => rfl
  | k + 1 => by
    rw [atTrip_succ, body0_state, test0_keep _ main_v10_3 (by decide), test0_keep _ main_v10_4 (by decide), test0_keep _ main_v10_1 (by decide), test0_keep _ main_v10_2 (by decide), test0_keep _ main_v10_0 (by decide), trips0_keep W c main_v10_0 (by decide) (by decide), trips0_keep W c main_v10_1 (by decide) (by decide), trips0_keep W c main_v10_2 (by decide) (by decide), hc k,
      trips0_state hc k]
    rfl

theorem trips0_out (hc : ∀ k, atTrip test0 body0 W k c (Proc.devRef .tc main_v10_3) = fun _ => Scf.iv 0#32 1#32 k) :
    ∀ k, k ≤ 1024 → ∀ (n : Fin 1024) (b : Fin 256) (j : Fin 32), n.val < k →
      (atTrip test0 body0 W k c (Proc.devRef .tc main_v10_5) : FVec F S1024x256x32 .f32) (ix3 n b j)
        = scan (W c (Proc.devRef .tc main_v10_0)) (W c (Proc.devRef .tc main_v10_1)) (W c (Proc.devRef .tc main_v10_2)) (W c (Proc.devRef .tc main_v10_4)) (n.val + 1) (ix2 b j)
  | 0, _, n, _, _, h => absurd h (Nat.not_lt_zero _)
  | k + 1, hk, n, b, j, h => by
    rw [atTrip_succ, body0_out, test0_keep _ main_v10_5 (by decide), test0_keep _ main_v10_3 (by decide), test0_keep _ main_v10_4 (by decide), test0_keep _ main_v10_1 (by decide), test0_keep _ main_v10_2 (by decide), test0_keep _ main_v10_0 (by decide), trips0_keep W c main_v10_0 (by decide) (by decide), trips0_keep W c main_v10_1 (by decide) (by decide), trips0_keep W c main_v10_2 (by decide) (by decide), hc k,
      trips0_state W c hc k]
    refine (putAt_apply _ _ k (by omega) n b j).trans ?_
    by_cases hn : n.val = k
    · rw [if_pos hn, hn]
      rfl
    · rw [if_neg hn]
      exact trips0_out hc k (by omega) n b j (by omega)

theorem scanned0 (hc : ∀ k, atTrip test0 body0 W k c (Proc.devRef .tc main_v10_3) = fun _ => Scf.iv 0#32 1#32 k) :
    atTrip test0 body0 W 1024 c (Proc.devRef .tc main_v10_5)
      = stack (scan (W c (Proc.devRef .tc main_v10_0)) (W c (Proc.devRef .tc main_v10_1)) (W c (Proc.devRef .tc main_v10_2)) (W c (Proc.devRef .tc main_v10_4))) := by
  funext y
  idx_vars y
  exact trips0_out W c hc 1024 le_rfl y0 y1 y2 y0.isLt

theorem trips1_state (hc : ∀ k, atTrip test1 body1 W k c (Proc.devRef .tc main_v20_3) = fun _ => Scf.iv 0#32 1#32 k) :
    ∀ k, atTrip test1 body1 W k c (Proc.devRef .tc main_v20_4)
      = scan (W c (Proc.devRef .tc main_v20_0)) (W c (Proc.devRef .tc main_v20_1)) (W c (Proc.devRef .tc main_v20_2)) (W c (Proc.devRef .tc main_v20_4)) k
  | 0 => rfl
  | k + 1 => by
    rw [atTrip_succ, body1_state, test1_keep _ main_v20_3 (by decide), test1_keep _ main_v20_4 (by decide), test1_keep _ main_v20_1 (by decide), test1_keep _ main_v20_2 (by decide), test1_keep _ main_v20_0 (by decide), trips1_keep W c main_v20_0 (by decide) (by decide), trips1_keep W c main_v20_1 (by decide) (by decide), trips1_keep W c main_v20_2 (by decide) (by decide), hc k,
      trips1_state hc k]
    rfl

theorem trips1_out (hc : ∀ k, atTrip test1 body1 W k c (Proc.devRef .tc main_v20_3) = fun _ => Scf.iv 0#32 1#32 k) :
    ∀ k, k ≤ 1024 → ∀ (n : Fin 1024) (b : Fin 256) (j : Fin 32), n.val < k →
      (atTrip test1 body1 W k c (Proc.devRef .tc main_v20_5) : FVec F S1024x256x32 .f32) (ix3 n b j)
        = scan (W c (Proc.devRef .tc main_v20_0)) (W c (Proc.devRef .tc main_v20_1)) (W c (Proc.devRef .tc main_v20_2)) (W c (Proc.devRef .tc main_v20_4)) (n.val + 1) (ix2 b j)
  | 0, _, n, _, _, h => absurd h (Nat.not_lt_zero _)
  | k + 1, hk, n, b, j, h => by
    rw [atTrip_succ, body1_out, test1_keep _ main_v20_5 (by decide), test1_keep _ main_v20_3 (by decide), test1_keep _ main_v20_4 (by decide), test1_keep _ main_v20_1 (by decide), test1_keep _ main_v20_2 (by decide), test1_keep _ main_v20_0 (by decide), trips1_keep W c main_v20_0 (by decide) (by decide), trips1_keep W c main_v20_1 (by decide) (by decide), trips1_keep W c main_v20_2 (by decide) (by decide), hc k,
      trips1_state W c hc k]
    refine (putAt_apply _ _ k (by omega) n b j).trans ?_
    by_cases hn : n.val = k
    · rw [if_pos hn, hn]
      rfl
    · rw [if_neg hn]
      exact trips1_out hc k (by omega) n b j (by omega)

theorem scanned1 (hc : ∀ k, atTrip test1 body1 W k c (Proc.devRef .tc main_v20_3) = fun _ => Scf.iv 0#32 1#32 k) :
    atTrip test1 body1 W 1024 c (Proc.devRef .tc main_v20_5)
      = stack (scan (W c (Proc.devRef .tc main_v20_0)) (W c (Proc.devRef .tc main_v20_1)) (W c (Proc.devRef .tc main_v20_2)) (W c (Proc.devRef .tc main_v20_4))) := by
  funext y
  idx_vars y
  exact trips1_out W c hc 1024 le_rfl y0 y1 y2 y0.isLt

/-- The field over the third loop's own copies of the weights. -/
theorem trips2_state : ∀ k, atTrip test2 body2 W k c (Proc.devRef .tc main_v24_7)
    = (rkOf (field (W c (Proc.devRef .tc main_v24_0)) (W c (Proc.devRef .tc main_v24_1)) (W c (Proc.devRef .tc main_v24_2)) (W c (Proc.devRef .tc main_v24_3))
        (W c (Proc.devRef .tc main_v24_4)) (W c (Proc.devRef .tc main_v24_5))))^[k] (W c (Proc.devRef .tc main_v24_7))
  | 0 => rfl
  | k + 1 => by
    rw [atTrip_succ, body2_state, test2_keep _ main_v24_0 (by decide), test2_keep _ main_v24_1 (by decide), test2_keep _ main_v24_2 (by decide),
      test2_keep _ main_v24_3 (by decide), test2_keep _ main_v24_4 (by decide), test2_keep _ main_v24_5 (by decide), test2_keep _ main_v24_7 (by decide),
      trips2_keep W c main_v24_0 (by decide) (by decide), trips2_keep W c main_v24_1 (by decide) (by decide), trips2_keep W c main_v24_2 (by decide) (by decide),
      trips2_keep W c main_v24_3 (by decide) (by decide), trips2_keep W c main_v24_4 (by decide) (by decide), trips2_keep W c main_v24_5 (by decide) (by decide),
      trips2_state k, Function.iterate_succ_apply']

end scans

/-! ## From the arguments to the result -/

variable (c : Dev nD)

/-- Before the second loop, and before the third, a buffer never written is as at the start. -/
theorem leave0_keep (r : Ref sig .tc) (h : r ∉ test0_W ∧ r ∉ body0_W) : leave0 m c (Proc.devRef .tc r) = enter0 m c (Proc.devRef .tc r) := by
  rw [leave0, test0_keep _ _ h.1, trips0_keep _ _ _ h.2 h.1]
theorem leave1_keep (r : Ref sig .tc) (h : r ∉ test1_W ∧ r ∉ body1_W) : leave1 m c (Proc.devRef .tc r) = enter1 m c (Proc.devRef .tc r) := by
  rw [leave1, test1_keep _ _ h.1, trips1_keep _ _ _ h.2 h.1]
theorem leave2_keep (r : Ref sig .tc) (h : r ∉ test2_W ∧ r ∉ body2_W) : leave2 m c (Proc.devRef .tc r) = enter2 m c (Proc.devRef .tc r) := by
  rw [leave2, test2_keep _ _ h.1, trips2_keep _ _ _ h.2 h.1]
theorem enter0_keep (r : Ref sig .tc) (h : r ∉ pre0_W) : enter0 m c (Proc.devRef .tc r) = m ((c.tc : Thread nD τ).loc r) := by
  rw [enter0, pre0_keep _ _ h]
theorem enter1_keep (r : Ref sig .tc) (h : r ∉ pre1_W) : enter1 m c (Proc.devRef .tc r) = leave0 m c (Proc.devRef .tc r) := by
  rw [enter1, pre1_keep _ _ h]

theorem enter0_in : enter0 m c (Proc.devRef .tc main_v10_0)
    = projX (Host.reverse [1] (m ((c.tc : Thread nD τ).loc main_arg0) : FVec F S256x1024x64 .f32)) (m ((c.tc : Thread nD τ).loc main_arg3)) (m ((c.tc : Thread nD τ).loc main_arg5)) := by
  rw [enter0]
  simp only [afterL_cons, afterL_nil]
  rw [head3_at_v10_0, head2_at_v8, head1_keep _ main_v0 (by decide), head1_keep _ main_arg3 (by decide), head1_keep _ main_arg5 (by decide),
    head0_at_v0, head0_keep _ main_arg3 (by decide), head0_keep _ main_arg5 (by decide)]
theorem enter0_w : enter0 m c (Proc.devRef .tc main_v10_1) = m ((c.tc : Thread nD τ).loc main_arg4) := by
  rw [enter0]
  simp only [afterL_cons, afterL_nil]
  rw [head3_at_v10_1, head2_keep _ main_arg4 (by decide), head1_keep _ main_arg4 (by decide), head0_keep _ main_arg4 (by decide)]
theorem enter0_b : enter0 m c (Proc.devRef .tc main_v10_2) = m ((c.tc : Thread nD τ).loc main_arg6) := by
  rw [enter0]
  simp only [afterL_cons, afterL_nil]
  rw [head3_at_v10_2, head2_keep _ main_arg6 (by decide), head1_keep _ main_arg6 (by decide), head0_keep _ main_arg6 (by decide)]
theorem enter0_start : enter0 m c (Proc.devRef .tc main_v10_4) = start0 (spread (m ((c.tc : Thread nD τ).loc main_arg2))) := by
  rw [enter0]
  simp only [afterL_cons, afterL_nil]
  rw [head3_at_v10_4, head2_keep _ main_v3 (by decide), head1_at_v3, head0_keep _ main_arg2 (by decide)]
theorem enter0_spread : enter0 m c (Proc.devRef .tc main_v1) = spread (m ((c.tc : Thread nD τ).loc main_arg2)) := by
  rw [enter0]
  simp only [afterL_cons, afterL_nil]
  rw [head3_keep _ main_v1 (by decide), head2_keep _ main_v1 (by decide), head1_at_v1, head0_keep _ main_arg2 (by decide)]

/-- The first layer's states in the order of the steps. -/
def layer0 : FVec F S1024x256x32 .f32 :=
  stack (scan (projX (Host.reverse [1] (m ((c.tc : Thread nD τ).loc main_arg0) : FVec F S256x1024x64 .f32)) (m ((c.tc : Thread nD τ).loc main_arg3)) (m ((c.tc : Thread nD τ).loc main_arg5)))
    (m ((c.tc : Thread nD τ).loc main_arg4)) (m ((c.tc : Thread nD τ).loc main_arg6)) (start0 (spread (m ((c.tc : Thread nD τ).loc main_arg2)))))

theorem leave0_out : leave0 m c (Proc.devRef .tc main_v10_5) = layer0 m c := by
  rw [leave0, test0_keep _ main_v10_5 (by decide)]
  refine (scanned0 (enter0 m) c (count0 m c)).trans ?_
  rw [enter0_in, enter0_w, enter0_b, enter0_start]
  rfl

theorem enter1_in : enter1 m c (Proc.devRef .tc main_v20_0) = projH (layer0 m c) (m ((c.tc : Thread nD τ).loc main_arg7)) (m ((c.tc : Thread nD τ).loc main_arg9)) := by
  rw [enter1]
  simp only [afterL_cons, afterL_nil]
  rw [head6_at_v20_0, head5_at_v18 _ (layer0 m c) (by rw [head4_at_v11, leave0_out]), head4_keep _ main_arg7 (by decide), head4_keep _ main_arg9 (by decide),
    leave0_keep m c main_arg7 ⟨by decide, by decide⟩, leave0_keep m c main_arg9 ⟨by decide, by decide⟩, enter0_keep m c main_arg7 (by decide),
    enter0_keep m c main_arg9 (by decide)]
theorem enter1_w : enter1 m c (Proc.devRef .tc main_v20_1) = m ((c.tc : Thread nD τ).loc main_arg8) := by
  rw [enter1]
  simp only [afterL_cons, afterL_nil]
  rw [head6_at_v20_1, head5_keep _ main_arg8 (by decide), head4_keep _ main_arg8 (by decide), leave0_keep m c main_arg8 ⟨by decide, by decide⟩,
    enter0_keep m c main_arg8 (by decide)]
theorem enter1_b : enter1 m c (Proc.devRef .tc main_v20_2) = m ((c.tc : Thread nD τ).loc main_arg10) := by
  rw [enter1]
  simp only [afterL_cons, afterL_nil]
  rw [head6_at_v20_2, head5_keep _ main_arg10 (by decide), head4_keep _ main_arg10 (by decide), leave0_keep m c main_arg10 ⟨by decide, by decide⟩,
    enter0_keep m c main_arg10 (by decide)]
theorem enter1_start : enter1 m c (Proc.devRef .tc main_v20_4) = start1 (spread (m ((c.tc : Thread nD τ).loc main_arg2))) := by
  rw [enter1]
  simp only [afterL_cons, afterL_nil]
  rw [head6_at_v20_4, head5_keep _ main_v13 (by decide), head4_at_v13, leave0_keep m c main_v1 ⟨by decide, by decide⟩, enter0_spread]

/-- The second layer's states in the order of the steps. -/
def layer1 : FVec F S1024x256x32 .f32 :=
  stack (scan (projH (layer0 m c) (m ((c.tc : Thread nD τ).loc main_arg7)) (m ((c.tc : Thread nD τ).loc main_arg9)))
    (m ((c.tc : Thread nD τ).loc main_arg8)) (m ((c.tc : Thread nD τ).loc main_arg10)) (start1 (spread (m ((c.tc : Thread nD τ).loc main_arg2)))))

theorem leave1_out : leave1 m c (Proc.devRef .tc main_v20_5) = layer1 m c := by
  rw [leave1, test1_keep _ main_v20_5 (by decide)]
  refine (scanned1 (enter1 m) c (count1 m c)).trans ?_
  rw [enter1_in, enter1_w, enter1_b, enter1_start]
  rfl

theorem enter2_turned : enter2 m c (Proc.devRef .tc main_v22) = turned (layer1 m c) := by
  rw [enter2]
  simp only [afterL_cons, afterL_nil]
  rw [head9_keep _ main_v22 (by decide), head8_at_v22, head7_at_v21, leave1_out]
  rfl
theorem enter2_start : enter2 m c (Proc.devRef .tc main_v24_7) = rest1 (turned (layer1 m c)) := by
  rw [enter2]
  simp only [afterL_cons, afterL_nil]
  rw [head9_at_v24_7, head8_at_v22, head7_at_v21, leave1_out]
  rfl
theorem enter2_w0 : enter2 m c (Proc.devRef .tc main_v24_0) = m ((c.tc : Thread nD τ).loc main_arg11) := by
  rw [enter2]
  simp only [afterL_cons, afterL_nil]
  rw [head9_at_v24_0, head8_keep _ main_arg11 (by decide), head7_keep _ main_arg11 (by decide), leave1_keep m c main_arg11 ⟨by decide, by decide⟩,
    enter1_keep m c main_arg11 (by decide), leave0_keep m c main_arg11 ⟨by decide, by decide⟩, enter0_keep m c main_arg11 (by decide)]
theorem enter2_w1 : enter2 m c (Proc.devRef .tc main_v24_1) = m ((c.tc : Thread nD τ).loc main_arg12) := by
  rw [enter2]
  simp only [afterL_cons, afterL_nil]
  rw [head9_at_v24_1, head8_keep _ main_arg12 (by decide), head7_keep _ main_arg12 (by decide), leave1_keep m c main_arg12 ⟨by decide, by decide⟩,
    enter1_keep m c main_arg12 (by decide), leave0_keep m c main_arg12 ⟨by decide, by decide⟩, enter0_keep m c main_arg12 (by decide)]
theorem enter2_w2 : enter2 m c (Proc.devRef .tc main_v24_2) = m ((c.tc : Thread nD τ).loc main_arg13) := by
  rw [enter2]
  simp only [afterL_cons, afterL_nil]
  rw [head9_at_v24_2, head8_keep _ main_arg13 (by decide), head7_keep _ main_arg13 (by decide), leave1_keep m c main_arg13 ⟨by decide, by decide⟩,
    enter1_keep m c main_arg13 (by decide), leave0_keep m c main_arg13 ⟨by decide, by decide⟩, enter0_keep m c main_arg13 (by decide)]
theorem enter2_w3 : enter2 m c (Proc.devRef .tc main_v24_3) = m ((c.tc : Thread nD τ).loc main_arg14) := by
  rw [enter2]
  simp only [afterL_cons, afterL_nil]
  rw [head9_at_v24_3, head8_keep _ main_arg14 (by decide), head7_keep _ main_arg14 (by decide), leave1_keep m c main_arg14 ⟨by decide, by decide⟩,
    enter1_keep m c main_arg14 (by decide), leave0_keep m c main_arg14 ⟨by decide, by decide⟩, enter0_keep m c main_arg14 (by decide)]
theorem enter2_w4 : enter2 m c (Proc.devRef .tc main_v24_4) = m ((c.tc : Thread nD τ).loc main_arg15) := by
  rw [enter2]
  simp only [afterL_cons, afterL_nil]
  rw [head9_at_v24_4, head8_keep _ main_arg15 (by decide), head7_keep _ main_arg15 (by decide), leave1_keep m c main_arg15 ⟨by decide, by decide⟩,
    enter1_keep m c main_arg15 (by decide), leave0_keep m c main_arg15 ⟨by decide, by decide⟩, enter0_keep m c main_arg15 (by decide)]
theorem enter2_w5 : enter2 m c (Proc.devRef .tc main_v24_5) = m ((c.tc : Thread nD τ).loc main_arg16) := by
  rw [enter2]
  simp only [afterL_cons, afterL_nil]
  rw [head9_at_v24_5, head8_keep _ main_arg16 (by decide), head7_keep _ main_arg16 (by decide), leave1_keep m c main_arg16 ⟨by decide, by decide⟩,
    enter1_keep m c main_arg16 (by decide), leave0_keep m c main_arg16 ⟨by decide, by decide⟩, enter0_keep m c main_arg16 (by decide)]

/-- The field over the arguments. -/
def argField : FVec F S256x1023x32 .f32 → FVec F S256x1023x32 .f32 :=
  field (m ((c.tc : Thread nD τ).loc main_arg11)) (m ((c.tc : Thread nD τ).loc main_arg12)) (m ((c.tc : Thread nD τ).loc main_arg13))
    (m ((c.tc : Thread nD τ).loc main_arg14)) (m ((c.tc : Thread nD τ).loc main_arg15)) (m ((c.tc : Thread nD τ).loc main_arg16))

/-- What the reference returns. -/
theorem final_result : final m c (Proc.devRef .tc main_v26) = lastRow (turned (layer1 m c)) ((rkOf (argField m c))^[9] (rest1 (turned (layer1 m c)))) := by
  rw [final]
  simp only [afterL_cons, afterL_nil]
  rw [head10_at_v26, leave2_keep m c main_v22 ⟨by decide, by decide⟩, enter2_turned, leave2, test2_keep _ main_v24_7 (by decide), trips2_state,
    enter2_start, enter2_w0, enter2_w1, enter2_w2, enter2_w3, enter2_w4, enter2_w5]
  rfl

end Cert.Proof.Reference

end
-- ==== Proof.Value.ReferenceRows.lean ====
/-
  The reference's result, row by row.
-/
module

public import proofs.«01_k».proof.Proof.Reference.Trips
public import proofs.«01_k».proof.Proof.Value.Rows

@[expose] public section

set_option maxRecDepth 16384

noncomputable section

namespace Cert.Proof.Reference

open Idealize.ShloMosaic Idealize.ShloMosaic.TcCoe Idealize.ShloMosaic.Tactic
open Idealize.ShloMosaic.StableHlo
open Cert.ReferenceIdeal Cert.ReferenceIdeal.Gen
open Cert.Proof.Value (Row Net affine softplus)

/-! ## The decoder -/

section decoder

variable (w0 : FVec Ideal S128x32 .f32) (b0 : FVec Ideal S128 .f32) (w1 : FVec Ideal S128x128 .f32) (b1 : FVec Ideal S128 .f32) (w2 : FVec Ideal S32x128 .f32)
    (b2 : FVec Ideal S32 .f32)

/-- A row of an array of rows. -/
abbrev row {n : ℕ} (y : FVec Ideal ⟨3, ![256, 1023, n]⟩ .f32) (r : Fin 256) (t : Fin 1023) : Row n := fun j => y (ix3 r t j)

theorem lin0_row (y : FVec Ideal S256x1023x32 .f32) (r : Fin 256) (t : Fin 1023) :
    row (lin0 w0 b0 y) r t = affine (fun i j => w0 (ix2 j i)) (fun j => b0 (ix1 j)) (row y r t) := by
  funext j
  show lin0 w0 b0 y (ix3 r t j) = _
  pointwise [lin0]
  rfl
theorem lin1_row (y : FVec Ideal S256x1023x128 .f32) (r : Fin 256) (t : Fin 1023) :
    row (lin1 w1 b1 y) r t = affine (fun i j => w1 (ix2 j i)) (fun j => b1 (ix1 j)) (row y r t) := by
  funext j
  show lin1 w1 b1 y (ix3 r t j) = _
  pointwise [lin1]
  rfl
theorem lin2_row (y : FVec Ideal S256x1023x128 .f32) (r : Fin 256) (t : Fin 1023) :
    row (lin2 w2 b2 y) r t = affine (fun i j => w2 (ix2 j i)) (fun j => b2 (ix1 j)) (row y r t) := by
  funext j
  show lin2 w2 b2 y (ix3 r t j) = _
  pointwise [lin2]
  rfl
theorem soft_row (x : FVec Ideal S256x1023x128 .f32) (r : Fin 256) (t : Fin 1023) : row (soft x) r t = fun j => softplus (row x r t j) := by
  funext j
  show soft x (ix3 r t j) = _
  pointwise [soft]
  rw [if_neg (fun h => h rfl)]
  rfl
theorem moved_row (b : BitVec 32) (y k : FVec Ideal S256x1023x32 .f32) (r : Fin 256) (t : Fin 1023) :
    row (moved b y k) r t = Net.moved b (row y r t) (row k r t) := by
  funext j
  show moved b y k (ix3 r t j) = _
  pointwise [moved, times]
  rfl
theorem join_row (y k1 k2 k3 k4 : FVec Ideal S256x1023x32 .f32) (r : Fin 256) (t : Fin 1023) :
    row (join y k1 k2 k3 k4) r t = Net.join (row y r t) (row k1 r t) (row k2 r t) (row k3 r t) (row k4 r t) := by
  funext j
  show join y k1 k2 k3 k4 (ix3 r t j) = _
  pointwise [join, moved, times]
  rfl

/-- A field whose rows are a network's is integrated as the network's. -/
theorem rkOf_row (N : Net) (f : FVec Ideal S256x1023x32 .f32 → FVec Ideal S256x1023x32 .f32) (h : ∀ y r t, row (f y) r t = N.field (row y r t))
    (y : FVec Ideal S256x1023x32 .f32) (r : Fin 256) (t : Fin 1023) : row (rkOf f y) r t = N.decode (row y r t) := by
  unfold rkOf Net.decode
  simp only [join_row, h, moved_row]

theorem rkOf_rows (N : Net) (f : FVec Ideal S256x1023x32 .f32 → FVec Ideal S256x1023x32 .f32) (h : ∀ y r t, row (f y) r t = N.field (row y r t))
    (y : FVec Ideal S256x1023x32 .f32) (r : Fin 256) (t : Fin 1023) : ∀ n, row ((rkOf f)^[n] y) r t = N.decode^[n] (row y r t)
  | 0 => rfl
  | n + 1 => by
    rw [Function.iterate_succ_apply', Function.iterate_succ_apply', rkOf_row N f h, rkOf_rows N f h y r t n]

end decoder

/-! ## The layers -/

theorem cellR_apply (p h : FVec Ideal S256x32 .f32) (w : FVec Ideal S32x32 .f32) (b : FVec Ideal S32 .f32) (r : Fin 256) (j : Fin 32) :
    cellR p h w b (ix2 r j) = Ideal.tanh (p (ix2 r j) + ∑ i, h (ix2 r i) * w (ix2 j i) + b (ix1 j)) := by
  pointwise [cellR]

theorem projX_apply (x : FVec Ideal S256x1024x64 .f32) (w : FVec Ideal S32x64 .f32) (b : FVec Ideal S32 .f32) (n : Fin 1024) (r : Fin 256) (j : Fin 32) :
    projX (Host.reverse [1] x) w b (ix3 n r j) = ∑ i, x (ix3 r n.rev i) * w (ix2 j i) + b (ix1 j) := by
  pointwise [projX]
  rfl

theorem projH_apply (s : FVec Ideal S1024x256x32 .f32) (w : FVec Ideal S32x32 .f32) (b : FVec Ideal S32 .f32) (n : Fin 1024) (r : Fin 256) (j : Fin 32) :
    projH s w b (ix3 n r j) = ∑ i, s (ix3 n r i) * w (ix2 j i) + b (ix1 j) := by
  pointwise [projH]

theorem start0_apply (h : FVec Ideal S2x1x32 .f32) (r : Fin 256) (j : Fin 32) : start0 (spread h) (ix2 r j) = h (ix3 (0 : Fin 2) (0 : Fin 1) j) := by
  pointwise [start0, spread]
theorem start1_apply (h : FVec Ideal S2x1x32 .f32) (r : Fin 256) (j : Fin 32) : start1 (spread h) (ix2 r j) = h (ix3 (1 : Fin 2) (0 : Fin 1) j) := by
  pointwise [start1, spread]

theorem stack_apply (f : ℕ → FVec Ideal S256x32 .f32) (n : Fin 1024) (r : Fin 256) (j : Fin 32) : stack f (ix3 n r j) = f (n.val + 1) (ix2 r j) := rfl

theorem rest1_apply (s : FVec Ideal S1024x256x32 .f32) (r : Fin 256) (t : Fin 1023) (j : Fin 32) :
    rest1 (turned s) (ix3 r t j) = s (ix3 (⟨1022 - t.val, by omega⟩ : Fin 1024) r j) := by
  pointwise [rest1, turned]
  show s (ix3 (Fin.rev _) r j) = _
  refine congrArg (fun n => s (ix3 n r j)) (Fin.ext ?_)
  show 1024 - (1 + t.val + 1) = 1022 - t.val
  omega

theorem lastRow_apply (s : FVec Ideal S1024x256x32 .f32) (y : FVec Ideal S256x1023x32 .f32) (r : Fin 256) (t : Fin 1024) (j : Fin 32) :
    lastRow (turned s) y (ix3 r t j) = if h : t.val < 1023 then y (ix3 r (⟨t.val, h⟩ : Fin 1023) j) else s (ix3 (0 : Fin 1024) r j) := by
  pointwise [lastRow, turned]
  split
  · rfl
  · rename_i h
    refine congrArg (fun n => s (ix3 n r j)) (Fin.ext ?_)
    show 1024 - (1023 + (t.val - 1023) + 1) = 0
    omega

section scans

variable (a0 : FVec Ideal S256x1024x64 .f32) (a2 : FVec Ideal S2x1x32 .f32) (a3 : FVec Ideal S32x64 .f32) (a4 : FVec Ideal S32x32 .f32) (a5 a6 : FVec Ideal S32 .f32)
    (a7 a8 : FVec Ideal S32x32 .f32) (a9 a10 : FVec Ideal S32 .f32) (a11 : FVec Ideal S128x32 .f32) (a12 : FVec Ideal S128 .f32)
    (a13 : FVec Ideal S128x128 .f32) (a14 : FVec Ideal S128 .f32) (a15 : FVec Ideal S32x128 .f32) (a16 : FVec Ideal S32 .f32)

theorem scan0_row (r : Fin 256) : ∀ n, n ≤ 1024 → ∀ j : Fin 32,
    scan (projX (Host.reverse [1] a0) a3 a5) a4 a6 (start0 (spread a2)) n (ix2 r j)
      = Net.state0 (Value.net a3 a4 a5 a6 a7 a8 a9 a10 a11 a12 a13 a14 a15 a16) (Value.inputs a0 r) (fun j => a2 (ix3 (0 : Fin 2) (0 : Fin 1) j)) n j
  | 0, _, j => start0_apply a2 r j
  | n + 1, h, j => by
    show cellR _ _ a4 a6 (ix2 r j) = _
    rw [cellR_apply, sliceAt_apply _ n (by omega), projX_apply]
    simp only [scan0_row r n (by omega)]
    have e : (⟨n, by omega⟩ : Fin 1024).rev = (⟨1023 - n, by omega⟩ : Fin 1024) := Fin.ext (by show 1024 - (n + 1) = 1023 - n; omega)
    rw [e]
    rfl

theorem scan1_row (r : Fin 256) : ∀ n, n ≤ 1024 → ∀ j : Fin 32,
    scan (projH (stack (scan (projX (Host.reverse [1] a0) a3 a5) a4 a6 (start0 (spread a2)))) a7 a9) a8 a10 (start1 (spread a2)) n (ix2 r j)
      = Net.state1 (Value.net a3 a4 a5 a6 a7 a8 a9 a10 a11 a12 a13 a14 a15 a16) (Value.inputs a0 r) (fun j => a2 (ix3 (0 : Fin 2) (0 : Fin 1) j)) (fun j => a2 (ix3 (1 : Fin 2) (0 : Fin 1) j)) n j
  | 0, _, j => start1_apply a2 r j
  | n + 1, h, j => by
    show cellR _ _ a8 a10 (ix2 r j) = _
    rw [cellR_apply, sliceAt_apply _ n (by omega), projH_apply]
    simp only [scan1_row r n (by omega), stack_apply, scan0_row a0 a2 a3 a4 a5 a6 a7 a8 a9 a10 a11 a12 a13 a14 a15 a16 r (n + 1) (by omega)]
    rfl

/-- The reference's result is the network's. -/
theorem result_rows : lastRow (turned (stack (scan (projH (stack (scan (projX (Host.reverse [1] a0) a3 a5) a4 a6 (start0 (spread a2)))) a7 a9) a8 a10 (start1 (spread a2)))))
      ((rkOf (field a11 a12 a13 a14 a15 a16))^[9] (rest1 (turned (stack (scan (projH (stack (scan (projX (Host.reverse [1] a0) a3 a5) a4 a6 (start0 (spread a2)))) a7 a9) a8 a10 (start1 (spread a2)))))))
    = Value.result a0 a2 (Value.net a3 a4 a5 a6 a7 a8 a9 a10 a11 a12 a13 a14 a15 a16) := by
  have hf : ∀ y r t, row (field a11 a12 a13 a14 a15 a16 y) r t = Net.field (Value.net a3 a4 a5 a6 a7 a8 a9 a10 a11 a12 a13 a14 a15 a16) (row y r t) := fun y r t => by
    unfold field Net.field
    rw [lin2_row, soft_row, lin1_row, soft_row, lin0_row]
    rfl
  funext y
  idx_vars y
  rw [lastRow_apply]
  show _ = Net.out (Value.net a3 a4 a5 a6 a7 a8 a9 a10 a11 a12 a13 a14 a15 a16) (Value.inputs a0 y0) _ _ y1.val y2
  unfold Net.out
  split
  · rename_i h
    refine (congrFun (rkOf_rows (Value.net a3 a4 a5 a6 a7 a8 a9 a10 a11 a12 a13 a14 a15 a16) _ hf _ y0 ⟨y1.val, h⟩ 9) y2).trans ?_
    refine congrFun (congrArg _ (funext fun j => ?_)) y2
    refine (rest1_apply _ y0 ⟨y1.val, h⟩ j).trans ?_
    rw [stack_apply]
    have e : 1022 - y1.val + 1 = 1023 - y1.val := by omega
    refine (scan1_row a0 a2 a3 a4 a5 a6 a7 a8 a9 a10 a11 a12 a13 a14 a15 a16 y0 _ (by show 1022 - y1.val + 1 ≤ 1024; omega) j).trans ?_
    show Net.state1 (Value.net a3 a4 a5 a6 a7 a8 a9 a10 a11 a12 a13 a14 a15 a16) _ _ _ (1022 - y1.val + 1) j = _
    rw [e]
  · rw [stack_apply]
    exact scan1_row a0 a2 a3 a4 a5 a6 a7 a8 a9 a10 a11 a12 a13 a14 a15 a16 y0 1 (by omega) y2

end scans

/-- What the reference returns, over any memory. -/
theorem final_rows (m : (ℓ : Loc nD τ sig) → Buf (Elt Ideal) ℓ) (c : Dev nD) : final m c (Proc.devRef .tc main_v26)
    = Value.result (m ((c.tc : Thread nD τ).loc main_arg0)) (m ((c.tc : Thread nD τ).loc main_arg2))
        (Value.net (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16))) :=
  (final_result m c).trans (result_rows _ _ _ _ _ _ _ _ _ _ _ _ _ _ _ _)

end Cert.Proof.Reference

end
-- ==== Proof.Value.Algebraic.lean ====
/-
  The kernel and the reference leave the same result: each run ends at the network's result on the launched arguments.
-/
module

public import proofs.«01_k».proof.Defs
public import proofs.«01_k».proof.Proof.Value.Kernel
public import proofs.«01_k».proof.Proof.Value.ReferenceRows
public import proofs.«01_k».proof.Proof.Reference.Run

@[expose] public section

set_option maxRecDepth 16384

noncomputable section

namespace Cert.Proof

open Idealize.ShloMosaic Idealize.ShloMosaic.TcCoe Idealize.SL.Sem

/-- The kernel's result buffer ends at the network's result. -/
theorem KernelIdeal.run_answer (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD, r.2.mem ((c.tc : Thread Cert.KernelIdeal.nD Cert.KernelIdeal.τ).loc Cert.KernelIdeal.main_v17)
        = KernelIdeal.answer m c) :=
  (θ_run _ _ _).mono (fun _ h c => ((h c).2 Cert.KernelIdeal.main_v17 (Pipeline.mem_restRefs_of Cert.KernelIdeal.main_v17 (by decide) (by decide))).trans
    (KernelIdeal.tail_eq m c)) (KernelIdeal.run_main m ρ)

/-- The reference's result buffer ends at the network's result on the same arguments. -/
theorem Reference.final_answer (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = KernelIdeal.arg0 m c)
    (h2 : m' ((c.tc : Thread Cert.ReferenceIdeal.nD Cert.ReferenceIdeal.τ).loc Cert.ReferenceIdeal.main_arg2) = KernelIdeal.arg2 m c)
    (h3 : m' ((c.tc : Thread Cert.ReferenceIdeal.nD Cert.ReferenceIdeal.τ).loc Cert.ReferenceIdeal.main_arg3) = KernelIdeal.arg3 m c)
    (h4 : m' ((c.tc : Thread Cert.ReferenceIdeal.nD Cert.ReferenceIdeal.τ).loc Cert.ReferenceIdeal.main_arg4) = KernelIdeal.arg4 m c)
    (h5 : m' ((c.tc : Thread Cert.ReferenceIdeal.nD Cert.ReferenceIdeal.τ).loc Cert.ReferenceIdeal.main_arg5) = KernelIdeal.arg5 m c)
    (h6 : m' ((c.tc : Thread Cert.ReferenceIdeal.nD Cert.ReferenceIdeal.τ).loc Cert.ReferenceIdeal.main_arg6) = KernelIdeal.arg6 m c)
    (h7 : m' ((c.tc : Thread Cert.ReferenceIdeal.nD Cert.ReferenceIdeal.τ).loc Cert.ReferenceIdeal.main_arg7) = KernelIdeal.arg7 m c)
    (h8 : m' ((c.tc : Thread Cert.ReferenceIdeal.nD Cert.ReferenceIdeal.τ).loc Cert.ReferenceIdeal.main_arg8) = KernelIdeal.arg8 m c)
    (h9 : m' ((c.tc : Thread Cert.ReferenceIdeal.nD Cert.ReferenceIdeal.τ).loc Cert.ReferenceIdeal.main_arg9) = KernelIdeal.arg9 m c)
    (h10 : m' ((c.tc : Thread Cert.ReferenceIdeal.nD Cert.ReferenceIdeal.τ).loc Cert.ReferenceIdeal.main_arg10) = KernelIdeal.arg10 m c)
    (h11 : m' ((c.tc : Thread Cert.ReferenceIdeal.nD Cert.ReferenceIdeal.τ).loc Cert.ReferenceIdeal.main_arg11) = KernelIdeal.arg11 m c)
    (h12 : m' ((c.tc : Thread Cert.ReferenceIdeal.nD Cert.ReferenceIdeal.τ).loc Cert.ReferenceIdeal.main_arg12) = KernelIdeal.arg12 m c)
    (h13 : m' ((c.tc : Thread Cert.ReferenceIdeal.nD Cert.ReferenceIdeal.τ).loc Cert.ReferenceIdeal.main_arg13) = KernelIdeal.arg13 m c)
    (h14 : m' ((c.tc : Thread Cert.ReferenceIdeal.nD Cert.ReferenceIdeal.τ).loc Cert.ReferenceIdeal.main_arg14) = KernelIdeal.arg14 m c)
    (h15 : m' ((c.tc : Thread Cert.ReferenceIdeal.nD Cert.ReferenceIdeal.τ).loc Cert.ReferenceIdeal.main_arg15) = KernelIdeal.arg15 m c)
    (h16 : m' ((c.tc : Thread Cert.ReferenceIdeal.nD Cert.ReferenceIdeal.τ).loc Cert.ReferenceIdeal.main_arg16) = KernelIdeal.arg16 m c)
    : Reference.final m' c (Proc.devRef .tc Cert.ReferenceIdeal.main_v26) = KernelIdeal.answer m c := by
  rw [Reference.final_rows, h0, h2, h3, h4, h5, h6, h7, h8, h9, h10, h11, h12, h13, h14, h15, h16]

/-- From memories that agree on the arguments, both programs leave the network's result, and their arguments as they were. -/
theorem algebraic_claim : Cert.algebraic_KernelIdeal_ReferenceIdeal (hKernelIdeal := Cert.KernelIdeal.Gen.facts)
    (hReferenceIdeal := Cert.ReferenceIdeal.Gen.facts) := fun m ρ m' ρ' _ agree =>
  ⟨fun c => KernelIdeal.answer m c,
    (θ_run _ _ _).mono (fun _ h c => ⟨h.1 c, h.2.1 c⟩) (θ_run_and (KernelIdeal.run_answer m ρ) (KernelIdeal.frame_claim m ρ)),
    (θ_run _ _ _).mono (fun _ h c => by
      obtain ⟨h0, h1, h2, h3, h4, h5, h6, h7, h8, h9, h10, h11, h12, h13, h14, h15, h16⟩ := agree c
      exact ⟨(h.1 c _ rfl).trans (Reference.final_answer m m' c h0 h2 h3 h4 h5 h6 h7 h8 h9 h10 h11 h12 h13 h14 h15 h16), h.2.1 c⟩)
      (θ_run_and (Reference.run_fold m' ρ') (Reference.frame_claim m' ρ'))⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Kernel.Run
public import proofs.«01_k».proof.Proof.KernelIdeal.Run
public import proofs.«01_k».proof.Proof.Reference.Run
public import proofs.«01_k».proof.Proof.Value.Algebraic
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m ρ _ => Cert.Proof.Kernel.frame_claim m ρ,
  fun m ρ _ => Cert.Proof.KernelIdeal.frame_claim m ρ,
  fun m ρ _ => Cert.Proof.Reference.frame_claim m ρ,
  trivial,
  Cert.Proof.algebraic_claim⟩

end Cert.Proof

end
